-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpReferenceIdeal (m : (ℓ : Loc Cert.MlpUpReferenceIdeal.nD Cert.MlpUpReferenceIdeal.τ Cert.MlpUpReferenceIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownReferenceIdeal (m : (ℓ : Loc Cert.MlpDownReferenceIdeal.nD Cert.MlpDownReferenceIdeal.τ Cert.MlpDownReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_in [hPre_finite_in : Cert.Pre_finite_in.Facts] (m : (ℓ : Loc Cert.InProjIdeal.nD Cert.InProjIdeal.τ Cert.InProjIdeal.sig) → Buf (Elt Ideal) ℓ) : Prop :=
  ∀ c : Dev Cert.InProjIdeal.nD,
    (Cert.Pre_finite_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).1 = (fun _ => 1#1)
    ∧ (Cert.Pre_finite_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.1 = (fun _ => 1#1)
    ∧ (Cert.Pre_finite_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.2.1 = (fun _ => 1#1)
    ∧ (Cert.Pre_finite_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.2.2.1 = (fun _ => 1#1)
    ∧ (Cert.Pre_finite_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.2.2.2 = (fun _ => 1#1)

def Pre_InProjReferenceIdeal (m : (ℓ : Loc Cert.InProjReferenceIdeal.nD Cert.InProjReferenceIdeal.τ Cert.InProjReferenceIdeal.sig) → Buf (Elt Ideal) ℓ) : Prop :=
  True

def Pre_InProjReferenceIdeal_finite_in [hPre_finite_in : Cert.Pre_finite_in.Facts] (m : (ℓ : Loc Cert.InProjReferenceIdeal.nD Cert.InProjReferenceIdeal.τ Cert.InProjReferenceIdeal.sig) → Buf (Elt Ideal) ℓ) : Prop :=
  ∀ c : Dev Cert.InProjReferenceIdeal.nD,
    (Cert.Pre_finite_in.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4))).1 = (fun _ => 1#1)
    ∧ (Cert.Pre_finite_in.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4))).2.1 = (fun _ => 1#1)
    ∧ (Cert.Pre_finite_in.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4))).2.2.1 = (fun _ => 1#1)
    ∧ (Cert.Pre_finite_in.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4))).2.2.2.1 = (fun _ => 1#1)
    ∧ (Cert.Pre_finite_in.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4))).2.2.2.2 = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_MlpUpCtx (m : (ℓ : Loc Cert.MlpUpCtx.nD Cert.MlpUpCtx.τ Cert.MlpUpCtx.sig) → Buf (Elt Bits) ℓ) : Prop :=
  True

def Pre_MlpUpCtxIdeal (m : (ℓ : Loc Cert.MlpUpCtxIdeal.nD Cert.MlpUpCtxIdeal.τ Cert.MlpUpCtxIdeal.sig) → Buf (Elt Ideal) ℓ) : Prop :=
  True

def Pre_MlpUpCtxReferenceIdeal (m : (ℓ : Loc Cert.MlpUpCtxReferenceIdeal.nD Cert.MlpUpCtxReferenceIdeal.τ Cert.MlpUpCtxReferenceIdeal.sig) → Buf (Elt Ideal) ℓ) : Prop :=
  True

def Pre_MlpDownCtx (m : (ℓ : Loc Cert.MlpDownCtx.nD Cert.MlpDownCtx.τ Cert.MlpDownCtx.sig) → Buf (Elt Bits) ℓ) : Prop :=
  True

def Pre_MlpDownCtxIdeal (m : (ℓ : Loc Cert.MlpDownCtxIdeal.nD Cert.MlpDownCtxIdeal.τ Cert.MlpDownCtxIdeal.sig) → Buf (Elt Ideal) ℓ) : Prop :=
  True

def Pre_MlpDownCtxReferenceIdeal (m : (ℓ : Loc Cert.MlpDownCtxReferenceIdeal.nD Cert.MlpDownCtxReferenceIdeal.τ Cert.MlpDownCtxReferenceIdeal.sig) → Buf (Elt Ideal) ℓ) : Prop :=
  True

def Pre_MixCtx (m : (ℓ : Loc Cert.MixCtx.nD Cert.MixCtx.τ Cert.MixCtx.sig) → Buf (Elt Bits) ℓ) : Prop :=
  True

def Pre_MixCtxIdeal (m : (ℓ : Loc Cert.MixCtxIdeal.nD Cert.MixCtxIdeal.τ Cert.MixCtxIdeal.sig) → Buf (Elt Ideal) ℓ) : Prop :=
  True

def Pre_MixCtxReferenceIdeal (m : (ℓ : Loc Cert.MixCtxReferenceIdeal.nD Cert.MixCtxReferenceIdeal.τ Cert.MixCtxReferenceIdeal.sig) → Buf (Elt Ideal) ℓ) : Prop :=
  True

def Pre_InProjCtx (m : (ℓ : Loc Cert.InProjCtx.nD Cert.InProjCtx.τ Cert.InProjCtx.sig) → Buf (Elt Bits) ℓ) : Prop :=
  True

def Pre_InProjCtxIdeal (m : (ℓ : Loc Cert.InProjCtxIdeal.nD Cert.InProjCtxIdeal.τ Cert.InProjCtxIdeal.sig) → Buf (Elt Ideal) ℓ) : Prop :=
  True

def Pre_InProjCtxIdeal_finite_in_ctx [hPre_finite_in_ctx : Cert.Pre_finite_in_ctx.Facts] (m : (ℓ : Loc Cert.InProjCtxIdeal.nD Cert.InProjCtxIdeal.τ Cert.InProjCtxIdeal.sig) → Buf (Elt Ideal) ℓ) : Prop :=
  ∀ c : Dev Cert.InProjCtxIdeal.nD,
    (Cert.Pre_finite_in_ctx.fn (F := Ideal) (m ((c.tc : Thread Cert.InProjCtxIdeal.nD Cert.InProjCtxIdeal.τ).loc Cert.InProjCtxIdeal.main_arg0)) (m ((c.tc : Thread Cert.InProjCtxIdeal.nD Cert.InProjCtxIdeal.τ).loc Cert.InProjCtxIdeal.main_arg1)) (m ((c.tc : Thread Cert.InProjCtxIdeal.nD Cert.InProjCtxIdeal.τ).loc Cert.InProjCtxIdeal.main_arg2)) (m ((c.tc : Thread Cert.InProjCtxIdeal.nD Cert.InProjCtxIdeal.τ).loc Cert.InProjCtxIdeal.main_arg3)) (m ((c.tc : Thread Cert.InProjCtxIdeal.nD Cert.InProjCtxIdeal.τ).loc Cert.InProjCtxIdeal.main_arg4))).1 = (fun _ => 1#1)
    ∧ (Cert.Pre_finite_in_ctx.fn (F := Ideal) (m ((c.tc : Thread Cert.InProjCtxIdeal.nD Cert.InProjCtxIdeal.τ).loc Cert.InProjCtxIdeal.main_arg0)) (m ((c.tc : Thread Cert.InProjCtxIdeal.nD Cert.InProjCtxIdeal.τ).loc Cert.InProjCtxIdeal.main_arg1)) (m ((c.tc : Thread Cert.InProjCtxIdeal.nD Cert.InProjCtxIdeal.τ).loc Cert.InProjCtxIdeal.main_arg2)) (m ((c.tc : Thread Cert.InProjCtxIdeal.nD Cert.InProjCtxIdeal.τ).loc Cert.InProjCtxIdeal.main_arg3)) (m ((c.tc : Thread Cert.InProjCtxIdeal.nD Cert.InProjCtxIdeal.τ).loc Cert.InProjCtxIdeal.main_arg4))).2.1 = (fun _ => 1#1)
    ∧ (Cert.Pre_finite_in_ctx.fn (F := Ideal) (m ((c.tc : Thread Cert.InProjCtxIdeal.nD Cert.InProjCtxIdeal.τ).loc Cert.InProjCtxIdeal.main_arg0)) (m ((c.tc : Thread Cert.InProjCtxIdeal.nD Cert.InProjCtxIdeal.τ).loc Cert.InProjCtxIdeal.main_arg1)) (m ((c.tc : Thread Cert.InProjCtxIdeal.nD Cert.InProjCtxIdeal.τ).loc Cert.InProjCtxIdeal.main_arg2)) (m ((c.tc : Thread Cert.InProjCtxIdeal.nD Cert.InProjCtxIdeal.τ).loc Cert.InProjCtxIdeal.main_arg3)) (m ((c.tc : Thread Cert.InProjCtxIdeal.nD Cert.InProjCtxIdeal.τ).loc Cert.InProjCtxIdeal.main_arg4))).2.2.1 = (fun _ => 1#1)
    ∧ (Cert.Pre_finite_in_ctx.fn (F := Ideal) (m ((c.tc : Thread Cert.InProjCtxIdeal.nD Cert.InProjCtxIdeal.τ).loc Cert.InProjCtxIdeal.main_arg0)) (m ((c.tc : Thread Cert.InProjCtxIdeal.nD Cert.InProjCtxIdeal.τ).loc Cert.InProjCtxIdeal.main_arg1)) (m ((c.tc : Thread Cert.InProjCtxIdeal.nD Cert.InProjCtxIdeal.τ).loc Cert.InProjCtxIdeal.main_arg2)) (m ((c.tc : Thread Cert.InProjCtxIdeal.nD Cert.InProjCtxIdeal.τ).loc Cert.InProjCtxIdeal.main_arg3)) (m ((c.tc : Thread Cert.InProjCtxIdeal.nD Cert.InProjCtxIdeal.τ).loc Cert.InProjCtxIdeal.main_arg4))).2.2.2.1 = (fun _ => 1#1)
    ∧ (Cert.Pre_finite_in_ctx.fn (F := Ideal) (m ((c.tc : Thread Cert.InProjCtxIdeal.nD Cert.InProjCtxIdeal.τ).loc Cert.InProjCtxIdeal.main_arg0)) (m ((c.tc : Thread Cert.InProjCtxIdeal.nD Cert.InProjCtxIdeal.τ).loc Cert.InProjCtxIdeal.main_arg1)) (m ((c.tc : Thread Cert.InProjCtxIdeal.nD Cert.InProjCtxIdeal.τ).loc Cert.InProjCtxIdeal.main_arg2)) (m ((c.tc : Thread Cert.InProjCtxIdeal.nD Cert.InProjCtxIdeal.τ).loc Cert.InProjCtxIdeal.main_arg3)) (m ((c.tc : Thread Cert.InProjCtxIdeal.nD Cert.InProjCtxIdeal.τ).loc Cert.InProjCtxIdeal.main_arg4))).2.2.2.2 = (fun _ => 1#1)

def Pre_InProjCtxReferenceIdeal (m : (ℓ : Loc Cert.InProjCtxReferenceIdeal.nD Cert.InProjCtxReferenceIdeal.τ Cert.InProjCtxReferenceIdeal.sig) → Buf (Elt Ideal) ℓ) : Prop :=
  True

def Pre_InProjCtxReferenceIdeal_finite_in_ctx [hPre_finite_in_ctx : Cert.Pre_finite_in_ctx.Facts] (m : (ℓ : Loc Cert.InProjCtxReferenceIdeal.nD Cert.InProjCtxReferenceIdeal.τ Cert.InProjCtxReferenceIdeal.sig) → Buf (Elt Ideal) ℓ) : Prop :=
  ∀ c : Dev Cert.InProjCtxReferenceIdeal.nD,
    (Cert.Pre_finite_in_ctx.fn (F := Ideal) (m ((c.tc : Thread Cert.InProjCtxReferenceIdeal.nD Cert.InProjCtxReferenceIdeal.τ).loc Cert.InProjCtxReferenceIdeal.main_arg0)) (m ((c.tc : Thread Cert.InProjCtxReferenceIdeal.nD Cert.InProjCtxReferenceIdeal.τ).loc Cert.InProjCtxReferenceIdeal.main_arg1)) (m ((c.tc : Thread Cert.InProjCtxReferenceIdeal.nD Cert.InProjCtxReferenceIdeal.τ).loc Cert.InProjCtxReferenceIdeal.main_arg2)) (m ((c.tc : Thread Cert.InProjCtxReferenceIdeal.nD Cert.InProjCtxReferenceIdeal.τ).loc Cert.InProjCtxReferenceIdeal.main_arg3)) (m ((c.tc : Thread Cert.InProjCtxReferenceIdeal.nD Cert.InProjCtxReferenceIdeal.τ).loc Cert.InProjCtxReferenceIdeal.main_arg4))).1 = (fun _ => 1#1)
    ∧ (Cert.Pre_finite_in_ctx.fn (F := Ideal) (m ((c.tc : Thread Cert.InProjCtxReferenceIdeal.nD Cert.InProjCtxReferenceIdeal.τ).loc Cert.InProjCtxReferenceIdeal.main_arg0)) (m ((c.tc : Thread Cert.InProjCtxReferenceIdeal.nD Cert.InProjCtxReferenceIdeal.τ).loc Cert.InProjCtxReferenceIdeal.main_arg1)) (m ((c.tc : Thread Cert.InProjCtxReferenceIdeal.nD Cert.InProjCtxReferenceIdeal.τ).loc Cert.InProjCtxReferenceIdeal.main_arg2)) (m ((c.tc : Thread Cert.InProjCtxReferenceIdeal.nD Cert.InProjCtxReferenceIdeal.τ).loc Cert.InProjCtxReferenceIdeal.main_arg3)) (m ((c.tc : Thread Cert.InProjCtxReferenceIdeal.nD Cert.InProjCtxReferenceIdeal.τ).loc Cert.InProjCtxReferenceIdeal.main_arg4))).2.1 = (fun _ => 1#1)
    ∧ (Cert.Pre_finite_in_ctx.fn (F := Ideal) (m ((c.tc : Thread Cert.InProjCtxReferenceIdeal.nD Cert.InProjCtxReferenceIdeal.τ).loc Cert.InProjCtxReferenceIdeal.main_arg0)) (m ((c.tc : Thread Cert.InProjCtxReferenceIdeal.nD Cert.InProjCtxReferenceIdeal.τ).loc Cert.InProjCtxReferenceIdeal.main_arg1)) (m ((c.tc : Thread Cert.InProjCtxReferenceIdeal.nD Cert.InProjCtxReferenceIdeal.τ).loc Cert.InProjCtxReferenceIdeal.main_arg2)) (m ((c.tc : Thread Cert.InProjCtxReferenceIdeal.nD Cert.InProjCtxReferenceIdeal.τ).loc Cert.InProjCtxReferenceIdeal.main_arg3)) (m ((c.tc : Thread Cert.InProjCtxReferenceIdeal.nD Cert.InProjCtxReferenceIdeal.τ).loc Cert.InProjCtxReferenceIdeal.main_arg4))).2.2.1 = (fun _ => 1#1)
    ∧ (Cert.Pre_finite_in_ctx.fn (F := Ideal) (m ((c.tc : Thread Cert.InProjCtxReferenceIdeal.nD Cert.InProjCtxReferenceIdeal.τ).loc Cert.InProjCtxReferenceIdeal.main_arg0)) (m ((c.tc : Thread Cert.InProjCtxReferenceIdeal.nD Cert.InProjCtxReferenceIdeal.τ).loc Cert.InProjCtxReferenceIdeal.main_arg1)) (m ((c.tc : Thread Cert.InProjCtxReferenceIdeal.nD Cert.InProjCtxReferenceIdeal.τ).loc Cert.InProjCtxReferenceIdeal.main_arg2)) (m ((c.tc : Thread Cert.InProjCtxReferenceIdeal.nD Cert.InProjCtxReferenceIdeal.τ).loc Cert.InProjCtxReferenceIdeal.main_arg3)) (m ((c.tc : Thread Cert.InProjCtxReferenceIdeal.nD Cert.InProjCtxReferenceIdeal.τ).loc Cert.InProjCtxReferenceIdeal.main_arg4))).2.2.2.1 = (fun _ => 1#1)
    ∧ (Cert.Pre_finite_in_ctx.fn (F := Ideal) (m ((c.tc : Thread Cert.InProjCtxReferenceIdeal.nD Cert.InProjCtxReferenceIdeal.τ).loc Cert.InProjCtxReferenceIdeal.main_arg0)) (m ((c.tc : Thread Cert.InProjCtxReferenceIdeal.nD Cert.InProjCtxReferenceIdeal.τ).loc Cert.InProjCtxReferenceIdeal.main_arg1)) (m ((c.tc : Thread Cert.InProjCtxReferenceIdeal.nD Cert.InProjCtxReferenceIdeal.τ).loc Cert.InProjCtxReferenceIdeal.main_arg2)) (m ((c.tc : Thread Cert.InProjCtxReferenceIdeal.nD Cert.InProjCtxReferenceIdeal.τ).loc Cert.InProjCtxReferenceIdeal.main_arg3)) (m ((c.tc : Thread Cert.InProjCtxReferenceIdeal.nD Cert.InProjCtxReferenceIdeal.τ).loc Cert.InProjCtxReferenceIdeal.main_arg4))).2.2.2.2 = (fun _ => 1#1)

def Pre_AttnCtx (m : (ℓ : Loc Cert.AttnCtx.nD Cert.AttnCtx.τ Cert.AttnCtx.sig) → Buf (Elt Bits) ℓ) : Prop :=
  True

def Pre_AttnCtxIdeal (m : (ℓ : Loc Cert.AttnCtxIdeal.nD Cert.AttnCtxIdeal.τ Cert.AttnCtxIdeal.sig) → Buf (Elt Ideal) ℓ) : Prop :=
  True

def Pre_AttnCtxIdeal_finite_ctx [hPre_finite_ctx : Cert.Pre_finite_ctx.Facts] (m : (ℓ : Loc Cert.AttnCtxIdeal.nD Cert.AttnCtxIdeal.τ Cert.AttnCtxIdeal.sig) → Buf (Elt Ideal) ℓ) : Prop :=
  ∀ c : Dev Cert.AttnCtxIdeal.nD,
    (Cert.Pre_finite_ctx.fn (F := Ideal) (m ((c.tc : Thread Cert.AttnCtxIdeal.nD Cert.AttnCtxIdeal.τ).loc Cert.AttnCtxIdeal.main_arg0)) (m ((c.tc : Thread Cert.AttnCtxIdeal.nD Cert.AttnCtxIdeal.τ).loc Cert.AttnCtxIdeal.main_arg1)) (m ((c.tc : Thread Cert.AttnCtxIdeal.nD Cert.AttnCtxIdeal.τ).loc Cert.AttnCtxIdeal.main_arg2))).1 = (fun _ => 1#1)
    ∧ (Cert.Pre_finite_ctx.fn (F := Ideal) (m ((c.tc : Thread Cert.AttnCtxIdeal.nD Cert.AttnCtxIdeal.τ).loc Cert.AttnCtxIdeal.main_arg0)) (m ((c.tc : Thread Cert.AttnCtxIdeal.nD Cert.AttnCtxIdeal.τ).loc Cert.AttnCtxIdeal.main_arg1)) (m ((c.tc : Thread Cert.AttnCtxIdeal.nD Cert.AttnCtxIdeal.τ).loc Cert.AttnCtxIdeal.main_arg2))).2 = (fun _ => 1#1)

def Pre_AttnCtxReferenceIdeal (m : (ℓ : Loc Cert.AttnCtxReferenceIdeal.nD Cert.AttnCtxReferenceIdeal.τ Cert.AttnCtxReferenceIdeal.sig) → Buf (Elt Ideal) ℓ) : Prop :=
  True

def Pre_AttnCtxReferenceIdeal_finite_ctx [hPre_finite_ctx : Cert.Pre_finite_ctx.Facts] (m : (ℓ : Loc Cert.AttnCtxReferenceIdeal.nD Cert.AttnCtxReferenceIdeal.τ Cert.AttnCtxReferenceIdeal.sig) → Buf (Elt Ideal) ℓ) : Prop :=
  ∀ c : Dev Cert.AttnCtxReferenceIdeal.nD,
    (Cert.Pre_finite_ctx.fn (F := Ideal) (m ((c.tc : Thread Cert.AttnCtxReferenceIdeal.nD Cert.AttnCtxReferenceIdeal.τ).loc Cert.AttnCtxReferenceIdeal.main_arg0)) (m ((c.tc : Thread Cert.AttnCtxReferenceIdeal.nD Cert.AttnCtxReferenceIdeal.τ).loc Cert.AttnCtxReferenceIdeal.main_arg1)) (m ((c.tc : Thread Cert.AttnCtxReferenceIdeal.nD Cert.AttnCtxReferenceIdeal.τ).loc Cert.AttnCtxReferenceIdeal.main_arg2))).1 = (fun _ => 1#1)
    ∧ (Cert.Pre_finite_ctx.fn (F := Ideal) (m ((c.tc : Thread Cert.AttnCtxReferenceIdeal.nD Cert.AttnCtxReferenceIdeal.τ).loc Cert.AttnCtxReferenceIdeal.main_arg0)) (m ((c.tc : Thread Cert.AttnCtxReferenceIdeal.nD Cert.AttnCtxReferenceIdeal.τ).loc Cert.AttnCtxReferenceIdeal.main_arg1)) (m ((c.tc : Thread Cert.AttnCtxReferenceIdeal.nD Cert.AttnCtxReferenceIdeal.τ).loc Cert.AttnCtxReferenceIdeal.main_arg2))).2 = (fun _ => 1#1)

def Pre_S5Out (m : (ℓ : Loc Cert.S5Out.nD Cert.S5Out.τ Cert.S5Out.sig) → Buf (Elt Bits) ℓ) : Prop :=
  True

def Pre_S5OutIdeal (m : (ℓ : Loc Cert.S5OutIdeal.nD Cert.S5OutIdeal.τ Cert.S5OutIdeal.sig) → Buf (Elt Ideal) ℓ) : Prop :=
  True

def Pre_S5OutReferenceIdeal (m : (ℓ : Loc Cert.S5OutReferenceIdeal.nD Cert.S5OutReferenceIdeal.τ Cert.S5OutReferenceIdeal.sig) → Buf (Elt Ideal) ℓ) : Prop :=
  True

def Pre_S5OutCtx (m : (ℓ : Loc Cert.S5OutCtx.nD Cert.S5OutCtx.τ Cert.S5OutCtx.sig) → Buf (Elt Bits) ℓ) : Prop :=
  True

def Pre_S5OutCtxIdeal (m : (ℓ : Loc Cert.S5OutCtxIdeal.nD Cert.S5OutCtxIdeal.τ Cert.S5OutCtxIdeal.sig) → Buf (Elt Ideal) ℓ) : Prop :=
  True

def Pre_S5OutCtxReferenceIdeal (m : (ℓ : Loc Cert.S5OutCtxReferenceIdeal.nD Cert.S5OutCtxReferenceIdeal.τ Cert.S5OutCtxReferenceIdeal.sig) → Buf (Elt Ideal) ℓ) : Prop :=
  True

def Pre_HgOut (m : (ℓ : Loc Cert.HgOut.nD Cert.HgOut.τ Cert.HgOut.sig) → Buf (Elt Bits) ℓ) : Prop :=
  True

def Pre_HgOutIdeal (m : (ℓ : Loc Cert.HgOutIdeal.nD Cert.HgOutIdeal.τ Cert.HgOutIdeal.sig) → Buf (Elt Ideal) ℓ) : Prop :=
  True

def Pre_HgOutReferenceIdeal (m : (ℓ : Loc Cert.HgOutReferenceIdeal.nD Cert.HgOutReferenceIdeal.τ Cert.HgOutReferenceIdeal.sig) → Buf (Elt Ideal) ℓ) : Prop :=
  True

def Pre_HgOutCtx (m : (ℓ : Loc Cert.HgOutCtx.nD Cert.HgOutCtx.τ Cert.HgOutCtx.sig) → Buf (Elt Bits) ℓ) : Prop :=
  True

def Pre_HgOutCtxIdeal (m : (ℓ : Loc Cert.HgOutCtxIdeal.nD Cert.HgOutCtxIdeal.τ Cert.HgOutCtxIdeal.sig) → Buf (Elt Ideal) ℓ) : Prop :=
  True

def Pre_HgOutCtxReferenceIdeal (m : (ℓ : Loc Cert.HgOutCtxReferenceIdeal.nD Cert.HgOutCtxReferenceIdeal.τ Cert.HgOutCtxReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1)
      ∧ r.2.mem ((c.tc : Thread Cert.MlpUp.nD Cert.MlpUp.τ).loc Cert.MlpUp.main_arg2) = m ((c.tc : Thread Cert.MlpUp.nD Cert.MlpUp.τ).loc Cert.MlpUp.main_arg2)
      ∧ r.2.mem ((c.tc : Thread Cert.MlpUp.nD Cert.MlpUp.τ).loc Cert.MlpUp.main_arg3) = m ((c.tc : Thread Cert.MlpUp.nD Cert.MlpUp.τ).loc Cert.MlpUp.main_arg3)
      ∧ r.2.mem ((c.tc : Thread Cert.MlpUp.nD Cert.MlpUp.τ).loc Cert.MlpUp.main_arg4) = m ((c.tc : Thread Cert.MlpUp.nD Cert.MlpUp.τ).loc Cert.MlpUp.main_arg4))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2)
      ∧ r.2.mem ((c.tc : Thread Cert.MlpUpIdeal.nD Cert.MlpUpIdeal.τ).loc Cert.MlpUpIdeal.main_arg3) = m ((c.tc : Thread Cert.MlpUpIdeal.nD Cert.MlpUpIdeal.τ).loc Cert.MlpUpIdeal.main_arg3)
      ∧ r.2.mem ((c.tc : Thread Cert.MlpUpIdeal.nD Cert.MlpUpIdeal.τ).loc Cert.MlpUpIdeal.main_arg4) = m ((c.tc : Thread Cert.MlpUpIdeal.nD Cert.MlpUpIdeal.τ).loc Cert.MlpUpIdeal.main_arg4))
      ∧ r.2.sem = fun _ => 0)

def quiescent_MlpUpReferenceIdeal [hMlpUpReferenceIdeal : Cert.MlpUpReferenceIdeal.Facts] : Prop :=
  ∀ (m : (ℓ : Loc Cert.MlpUpReferenceIdeal.nD Cert.MlpUpReferenceIdeal.τ Cert.MlpUpReferenceIdeal.sig) → Buf (Elt Ideal) ℓ) (g : Dev Cert.MlpUpReferenceIdeal.nD → PrngReg), Pre_MlpUpReferenceIdeal m →
    θ_run (Cert.MlpUpReferenceIdeal.defs (F := Ideal)) (onTc (τ := Cert.MlpUpReferenceIdeal.τ) (Cert.MlpUpReferenceIdeal.main (F := Ideal))) ⟨m, fun _ => 0, g⟩ (fun r => (∀ c : Dev Cert.MlpUpReferenceIdeal.nD,
      r.2.mem ((c.tc : Thread Cert.MlpUpReferenceIdeal.nD Cert.MlpUpReferenceIdeal.τ).loc Cert.MlpUpReferenceIdeal.main_arg0) = m ((c.tc : Thread Cert.MlpUpReferenceIdeal.nD Cert.MlpUpReferenceIdeal.τ).loc Cert.MlpUpReferenceIdeal.main_arg0)
      ∧ r.2.mem ((c.tc : Thread Cert.MlpUpReferenceIdeal.nD Cert.MlpUpReferenceIdeal.τ).loc Cert.MlpUpReferenceIdeal.main_arg1) = m ((c.tc : Thread Cert.MlpUpReferenceIdeal.nD Cert.MlpUpReferenceIdeal.τ).loc Cert.MlpUpReferenceIdeal.main_arg1)
      ∧ r.2.mem ((c.tc : Thread Cert.MlpUpReferenceIdeal.nD Cert.MlpUpReferenceIdeal.τ).loc Cert.MlpUpReferenceIdeal.main_arg2) = m ((c.tc : Thread Cert.MlpUpReferenceIdeal.nD Cert.MlpUpReferenceIdeal.τ).loc Cert.MlpUpReferenceIdeal.main_arg2)
      ∧ r.2.mem ((c.tc : Thread Cert.MlpUpReferenceIdeal.nD Cert.MlpUpReferenceIdeal.τ).loc Cert.MlpUpReferenceIdeal.main_arg3) = m ((c.tc : Thread Cert.MlpUpReferenceIdeal.nD Cert.MlpUpReferenceIdeal.τ).loc Cert.MlpUpReferenceIdeal.main_arg3)
      ∧ r.2.mem ((c.tc : Thread Cert.MlpUpReferenceIdeal.nD Cert.MlpUpReferenceIdeal.τ).loc Cert.MlpUpReferenceIdeal.main_arg4) = m ((c.tc : Thread Cert.MlpUpReferenceIdeal.nD Cert.MlpUpReferenceIdeal.τ).loc Cert.MlpUpReferenceIdeal.main_arg4))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownReferenceIdeal [hMlpDownReferenceIdeal : Cert.MlpDownReferenceIdeal.Facts] : Prop :=
  ∀ (m : (ℓ : Loc Cert.MlpDownReferenceIdeal.nD Cert.MlpDownReferenceIdeal.τ Cert.MlpDownReferenceIdeal.sig) → Buf (Elt Ideal) ℓ) (g : Dev Cert.MlpDownReferenceIdeal.nD → PrngReg), Pre_MlpDownReferenceIdeal m →
    θ_run (Cert.MlpDownReferenceIdeal.defs (F := Ideal)) (onTc (τ := Cert.MlpDownReferenceIdeal.τ) (Cert.MlpDownReferenceIdeal.main (F := Ideal))) ⟨m, fun _ => 0, g⟩ (fun r => (∀ c : Dev Cert.MlpDownReferenceIdeal.nD,
      r.2.mem ((c.tc : Thread Cert.MlpDownReferenceIdeal.nD Cert.MlpDownReferenceIdeal.τ).loc Cert.MlpDownReferenceIdeal.main_arg0) = m ((c.tc : Thread Cert.MlpDownReferenceIdeal.nD Cert.MlpDownReferenceIdeal.τ).loc Cert.MlpDownReferenceIdeal.main_arg0)
      ∧ r.2.mem ((c.tc : Thread Cert.MlpDownReferenceIdeal.nD Cert.MlpDownReferenceIdeal.τ).loc Cert.MlpDownReferenceIdeal.main_arg1) = m ((c.tc : Thread Cert.MlpDownReferenceIdeal.nD Cert.MlpDownReferenceIdeal.τ).loc Cert.MlpDownReferenceIdeal.main_arg1)
      ∧ r.2.mem ((c.tc : Thread Cert.MlpDownReferenceIdeal.nD Cert.MlpDownReferenceIdeal.τ).loc Cert.MlpDownReferenceIdeal.main_arg2) = m ((c.tc : Thread Cert.MlpDownReferenceIdeal.nD Cert.MlpDownReferenceIdeal.τ).loc Cert.MlpDownReferenceIdeal.main_arg2)
      ∧ r.2.mem ((c.tc : Thread Cert.MlpDownReferenceIdeal.nD Cert.MlpDownReferenceIdeal.τ).loc Cert.MlpDownReferenceIdeal.main_arg3) = m ((c.tc : Thread Cert.MlpDownReferenceIdeal.nD Cert.MlpDownReferenceIdeal.τ).loc Cert.MlpDownReferenceIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_finite_in [hInProjIdeal : Cert.InProjIdeal.Facts] [hPre_finite_in : Cert.Pre_finite_in.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_in m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def quiescent_InProjReferenceIdeal_pre_finite_in [hInProjReferenceIdeal : Cert.InProjReferenceIdeal.Facts] [hPre_finite_in : Cert.Pre_finite_in.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal_finite_in m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3))
      ∧ r.2.sem = fun _ => 0)

def quiescent_MlpUpCtx [hMlpUpCtx : Cert.MlpUpCtx.Facts] : Prop :=
  ∀ (m : (ℓ : Loc Cert.MlpUpCtx.nD Cert.MlpUpCtx.τ Cert.MlpUpCtx.sig) → Buf (Elt Bits) ℓ) (g : Dev Cert.MlpUpCtx.nD → PrngReg), Pre_MlpUpCtx m →
    θ_run (Cert.MlpUpCtx.defs (F := Bits)) (onTc (τ := Cert.MlpUpCtx.τ) (Cert.MlpUpCtx.main (F := Bits))) ⟨m, fun _ => 0, g⟩ (fun r => (∀ c : Dev Cert.MlpUpCtx.nD,
      r.2.mem ((c.tc : Thread Cert.MlpUpCtx.nD Cert.MlpUpCtx.τ).loc Cert.MlpUpCtx.main_arg0) = m ((c.tc : Thread Cert.MlpUpCtx.nD Cert.MlpUpCtx.τ).loc Cert.MlpUpCtx.main_arg0)
      ∧ r.2.mem ((c.tc : Thread Cert.MlpUpCtx.nD Cert.MlpUpCtx.τ).loc Cert.MlpUpCtx.main_arg1) = m ((c.tc : Thread Cert.MlpUpCtx.nD Cert.MlpUpCtx.τ).loc Cert.MlpUpCtx.main_arg1)
      ∧ r.2.mem ((c.tc : Thread Cert.MlpUpCtx.nD Cert.MlpUpCtx.τ).loc Cert.MlpUpCtx.main_arg2) = m ((c.tc : Thread Cert.MlpUpCtx.nD Cert.MlpUpCtx.τ).loc Cert.MlpUpCtx.main_arg2)
      ∧ r.2.mem ((c.tc : Thread Cert.MlpUpCtx.nD Cert.MlpUpCtx.τ).loc Cert.MlpUpCtx.main_arg3) = m ((c.tc : Thread Cert.MlpUpCtx.nD Cert.MlpUpCtx.τ).loc Cert.MlpUpCtx.main_arg3)
      ∧ r.2.mem ((c.tc : Thread Cert.MlpUpCtx.nD Cert.MlpUpCtx.τ).loc Cert.MlpUpCtx.main_arg4) = m ((c.tc : Thread Cert.MlpUpCtx.nD Cert.MlpUpCtx.τ).loc Cert.MlpUpCtx.main_arg4))
      ∧ r.2.sem = fun _ => 0)

def quiescent_MlpUpCtxIdeal [hMlpUpCtxIdeal : Cert.MlpUpCtxIdeal.Facts] : Prop :=
  ∀ (m : (ℓ : Loc Cert.MlpUpCtxIdeal.nD Cert.MlpUpCtxIdeal.τ Cert.MlpUpCtxIdeal.sig) → Buf (Elt Ideal) ℓ) (g : Dev Cert.MlpUpCtxIdeal.nD → PrngReg), Pre_MlpUpCtxIdeal m →
    θ_run (Cert.MlpUpCtxIdeal.defs (F := Ideal)) (onTc (τ := Cert.MlpUpCtxIdeal.τ) (Cert.MlpUpCtxIdeal.main (F := Ideal))) ⟨m, fun _ => 0, g⟩ (fun r => (∀ c : Dev Cert.MlpUpCtxIdeal.nD,
      r.2.mem ((c.tc : Thread Cert.MlpUpCtxIdeal.nD Cert.MlpUpCtxIdeal.τ).loc Cert.MlpUpCtxIdeal.main_arg0) = m ((c.tc : Thread Cert.MlpUpCtxIdeal.nD Cert.MlpUpCtxIdeal.τ).loc Cert.MlpUpCtxIdeal.main_arg0)
      ∧ r.2.mem ((c.tc : Thread Cert.MlpUpCtxIdeal.nD Cert.MlpUpCtxIdeal.τ).loc Cert.MlpUpCtxIdeal.main_arg1) = m ((c.tc : Thread Cert.MlpUpCtxIdeal.nD Cert.MlpUpCtxIdeal.τ).loc Cert.MlpUpCtxIdeal.main_arg1)
      ∧ r.2.mem ((c.tc : Thread Cert.MlpUpCtxIdeal.nD Cert.MlpUpCtxIdeal.τ).loc Cert.MlpUpCtxIdeal.main_arg2) = m ((c.tc : Thread Cert.MlpUpCtxIdeal.nD Cert.MlpUpCtxIdeal.τ).loc Cert.MlpUpCtxIdeal.main_arg2)
      ∧ r.2.mem ((c.tc : Thread Cert.MlpUpCtxIdeal.nD Cert.MlpUpCtxIdeal.τ).loc Cert.MlpUpCtxIdeal.main_arg3) = m ((c.tc : Thread Cert.MlpUpCtxIdeal.nD Cert.MlpUpCtxIdeal.τ).loc Cert.MlpUpCtxIdeal.main_arg3)
      ∧ r.2.mem ((c.tc : Thread Cert.MlpUpCtxIdeal.nD Cert.MlpUpCtxIdeal.τ).loc Cert.MlpUpCtxIdeal.main_arg4) = m ((c.tc : Thread Cert.MlpUpCtxIdeal.nD Cert.MlpUpCtxIdeal.τ).loc Cert.MlpUpCtxIdeal.main_arg4))
      ∧ r.2.sem = fun _ => 0)

def quiescent_MlpUpCtxReferenceIdeal [hMlpUpCtxReferenceIdeal : Cert.MlpUpCtxReferenceIdeal.Facts] : Prop :=
  ∀ (m : (ℓ : Loc Cert.MlpUpCtxReferenceIdeal.nD Cert.MlpUpCtxReferenceIdeal.τ Cert.MlpUpCtxReferenceIdeal.sig) → Buf (Elt Ideal) ℓ) (g : Dev Cert.MlpUpCtxReferenceIdeal.nD → PrngReg), Pre_MlpUpCtxReferenceIdeal m →
    θ_run (Cert.MlpUpCtxReferenceIdeal.defs (F := Ideal)) (onTc (τ := Cert.MlpUpCtxReferenceIdeal.τ) (Cert.MlpUpCtxReferenceIdeal.main (F := Ideal))) ⟨m, fun _ => 0, g⟩ (fun r => (∀ c : Dev Cert.MlpUpCtxReferenceIdeal.nD,
      r.2.mem ((c.tc : Thread Cert.MlpUpCtxReferenceIdeal.nD Cert.MlpUpCtxReferenceIdeal.τ).loc Cert.MlpUpCtxReferenceIdeal.main_arg0) = m ((c.tc : Thread Cert.MlpUpCtxReferenceIdeal.nD Cert.MlpUpCtxReferenceIdeal.τ).loc Cert.MlpUpCtxReferenceIdeal.main_arg0)
      ∧ r.2.mem ((c.tc : Thread Cert.MlpUpCtxReferenceIdeal.nD Cert.MlpUpCtxReferenceIdeal.τ).loc Cert.MlpUpCtxReferenceIdeal.main_arg1) = m ((c.tc : Thread Cert.MlpUpCtxReferenceIdeal.nD Cert.MlpUpCtxReferenceIdeal.τ).loc Cert.MlpUpCtxReferenceIdeal.main_arg1)
      ∧ r.2.mem ((c.tc : Thread Cert.MlpUpCtxReferenceIdeal.nD Cert.MlpUpCtxReferenceIdeal.τ).loc Cert.MlpUpCtxReferenceIdeal.main_arg2) = m ((c.tc : Thread Cert.MlpUpCtxReferenceIdeal.nD Cert.MlpUpCtxReferenceIdeal.τ).loc Cert.MlpUpCtxReferenceIdeal.main_arg2)
      ∧ r.2.mem ((c.tc : Thread Cert.MlpUpCtxReferenceIdeal.nD Cert.MlpUpCtxReferenceIdeal.τ).loc Cert.MlpUpCtxReferenceIdeal.main_arg3) = m ((c.tc : Thread Cert.MlpUpCtxReferenceIdeal.nD Cert.MlpUpCtxReferenceIdeal.τ).loc Cert.MlpUpCtxReferenceIdeal.main_arg3)
      ∧ r.2.mem ((c.tc : Thread Cert.MlpUpCtxReferenceIdeal.nD Cert.MlpUpCtxReferenceIdeal.τ).loc Cert.MlpUpCtxReferenceIdeal.main_arg4) = m ((c.tc : Thread Cert.MlpUpCtxReferenceIdeal.nD Cert.MlpUpCtxReferenceIdeal.τ).loc Cert.MlpUpCtxReferenceIdeal.main_arg4))
      ∧ r.2.sem = fun _ => 0)

def quiescent_MlpDownCtx [hMlpDownCtx : Cert.MlpDownCtx.Facts] : Prop :=
  ∀ (m : (ℓ : Loc Cert.MlpDownCtx.nD Cert.MlpDownCtx.τ Cert.MlpDownCtx.sig) → Buf (Elt Bits) ℓ) (g : Dev Cert.MlpDownCtx.nD → PrngReg), Pre_MlpDownCtx m →
    θ_run (Cert.MlpDownCtx.defs (F := Bits)) (onTc (τ := Cert.MlpDownCtx.τ) (Cert.MlpDownCtx.main (F := Bits))) ⟨m, fun _ => 0, g⟩ (fun r => (∀ c : Dev Cert.MlpDownCtx.nD,
      r.2.mem ((c.tc : Thread Cert.MlpDownCtx.nD Cert.MlpDownCtx.τ).loc Cert.MlpDownCtx.main_arg0) = m ((c.tc : Thread Cert.MlpDownCtx.nD Cert.MlpDownCtx.τ).loc Cert.MlpDownCtx.main_arg0)
      ∧ r.2.mem ((c.tc : Thread Cert.MlpDownCtx.nD Cert.MlpDownCtx.τ).loc Cert.MlpDownCtx.main_arg1) = m ((c.tc : Thread Cert.MlpDownCtx.nD Cert.MlpDownCtx.τ).loc Cert.MlpDownCtx.main_arg1)
      ∧ r.2.mem ((c.tc : Thread Cert.MlpDownCtx.nD Cert.MlpDownCtx.τ).loc Cert.MlpDownCtx.main_arg2) = m ((c.tc : Thread Cert.MlpDownCtx.nD Cert.MlpDownCtx.τ).loc Cert.MlpDownCtx.main_arg2)
      ∧ r.2.mem ((c.tc : Thread Cert.MlpDownCtx.nD Cert.MlpDownCtx.τ).loc Cert.MlpDownCtx.main_arg3) = m ((c.tc : Thread Cert.MlpDownCtx.nD Cert.MlpDownCtx.τ).loc Cert.MlpDownCtx.main_arg3))
      ∧ r.2.sem = fun _ => 0)

def quiescent_MlpDownCtxIdeal [hMlpDownCtxIdeal : Cert.MlpDownCtxIdeal.Facts] : Prop :=
  ∀ (m : (ℓ : Loc Cert.MlpDownCtxIdeal.nD Cert.MlpDownCtxIdeal.τ Cert.MlpDownCtxIdeal.sig) → Buf (Elt Ideal) ℓ) (g : Dev Cert.MlpDownCtxIdeal.nD → PrngReg), Pre_MlpDownCtxIdeal m →
    θ_run (Cert.MlpDownCtxIdeal.defs (F := Ideal)) (onTc (τ := Cert.MlpDownCtxIdeal.τ) (Cert.MlpDownCtxIdeal.main (F := Ideal))) ⟨m, fun _ => 0, g⟩ (fun r => (∀ c : Dev Cert.MlpDownCtxIdeal.nD,
      r.2.mem ((c.tc : Thread Cert.MlpDownCtxIdeal.nD Cert.MlpDownCtxIdeal.τ).loc Cert.MlpDownCtxIdeal.main_arg0) = m ((c.tc : Thread Cert.MlpDownCtxIdeal.nD Cert.MlpDownCtxIdeal.τ).loc Cert.MlpDownCtxIdeal.main_arg0)
      ∧ r.2.mem ((c.tc : Thread Cert.MlpDownCtxIdeal.nD Cert.MlpDownCtxIdeal.τ).loc Cert.MlpDownCtxIdeal.main_arg1) = m ((c.tc : Thread Cert.MlpDownCtxIdeal.nD Cert.MlpDownCtxIdeal.τ).loc Cert.MlpDownCtxIdeal.main_arg1)
      ∧ r.2.mem ((c.tc : Thread Cert.MlpDownCtxIdeal.nD Cert.MlpDownCtxIdeal.τ).loc Cert.MlpDownCtxIdeal.main_arg2) = m ((c.tc : Thread Cert.MlpDownCtxIdeal.nD Cert.MlpDownCtxIdeal.τ).loc Cert.MlpDownCtxIdeal.main_arg2)
      ∧ r.2.mem ((c.tc : Thread Cert.MlpDownCtxIdeal.nD Cert.MlpDownCtxIdeal.τ).loc Cert.MlpDownCtxIdeal.main_arg3) = m ((c.tc : Thread Cert.MlpDownCtxIdeal.nD Cert.MlpDownCtxIdeal.τ).loc Cert.MlpDownCtxIdeal.main_arg3))
      ∧ r.2.sem = fun _ => 0)

def quiescent_MlpDownCtxReferenceIdeal [hMlpDownCtxReferenceIdeal : Cert.MlpDownCtxReferenceIdeal.Facts] : Prop :=
  ∀ (m : (ℓ : Loc Cert.MlpDownCtxReferenceIdeal.nD Cert.MlpDownCtxReferenceIdeal.τ Cert.MlpDownCtxReferenceIdeal.sig) → Buf (Elt Ideal) ℓ) (g : Dev Cert.MlpDownCtxReferenceIdeal.nD → PrngReg), Pre_MlpDownCtxReferenceIdeal m →
    θ_run (Cert.MlpDownCtxReferenceIdeal.defs (F := Ideal)) (onTc (τ := Cert.MlpDownCtxReferenceIdeal.τ) (Cert.MlpDownCtxReferenceIdeal.main (F := Ideal))) ⟨m, fun _ => 0, g⟩ (fun r => (∀ c : Dev Cert.MlpDownCtxReferenceIdeal.nD,
      r.2.mem ((c.tc : Thread Cert.MlpDownCtxReferenceIdeal.nD Cert.MlpDownCtxReferenceIdeal.τ).loc Cert.MlpDownCtxReferenceIdeal.main_arg0) = m ((c.tc : Thread Cert.MlpDownCtxReferenceIdeal.nD Cert.MlpDownCtxReferenceIdeal.τ).loc Cert.MlpDownCtxReferenceIdeal.main_arg0)
      ∧ r.2.mem ((c.tc : Thread Cert.MlpDownCtxReferenceIdeal.nD Cert.MlpDownCtxReferenceIdeal.τ).loc Cert.MlpDownCtxReferenceIdeal.main_arg1) = m ((c.tc : Thread Cert.MlpDownCtxReferenceIdeal.nD Cert.MlpDownCtxReferenceIdeal.τ).loc Cert.MlpDownCtxReferenceIdeal.main_arg1)
      ∧ r.2.mem ((c.tc : Thread Cert.MlpDownCtxReferenceIdeal.nD Cert.MlpDownCtxReferenceIdeal.τ).loc Cert.MlpDownCtxReferenceIdeal.main_arg2) = m ((c.tc : Thread Cert.MlpDownCtxReferenceIdeal.nD Cert.MlpDownCtxReferenceIdeal.τ).loc Cert.MlpDownCtxReferenceIdeal.main_arg2)
      ∧ r.2.mem ((c.tc : Thread Cert.MlpDownCtxReferenceIdeal.nD Cert.MlpDownCtxReferenceIdeal.τ).loc Cert.MlpDownCtxReferenceIdeal.main_arg3) = m ((c.tc : Thread Cert.MlpDownCtxReferenceIdeal.nD Cert.MlpDownCtxReferenceIdeal.τ).loc Cert.MlpDownCtxReferenceIdeal.main_arg3))
      ∧ r.2.sem = fun _ => 0)

def quiescent_MixCtx [hMixCtx : Cert.MixCtx.Facts] : Prop :=
  ∀ (m : (ℓ : Loc Cert.MixCtx.nD Cert.MixCtx.τ Cert.MixCtx.sig) → Buf (Elt Bits) ℓ) (g : Dev Cert.MixCtx.nD → PrngReg), Pre_MixCtx m →
    θ_run (Cert.MixCtx.defs (F := Bits)) (onTc (τ := Cert.MixCtx.τ) (Cert.MixCtx.main (F := Bits))) ⟨m, fun _ => 0, g⟩ (fun r => (∀ c : Dev Cert.MixCtx.nD,
      r.2.mem ((c.tc : Thread Cert.MixCtx.nD Cert.MixCtx.τ).loc Cert.MixCtx.main_arg0) = m ((c.tc : Thread Cert.MixCtx.nD Cert.MixCtx.τ).loc Cert.MixCtx.main_arg0)
      ∧ r.2.mem ((c.tc : Thread Cert.MixCtx.nD Cert.MixCtx.τ).loc Cert.MixCtx.main_arg1) = m ((c.tc : Thread Cert.MixCtx.nD Cert.MixCtx.τ).loc Cert.MixCtx.main_arg1)
      ∧ r.2.mem ((c.tc : Thread Cert.MixCtx.nD Cert.MixCtx.τ).loc Cert.MixCtx.main_arg2) = m ((c.tc : Thread Cert.MixCtx.nD Cert.MixCtx.τ).loc Cert.MixCtx.main_arg2)
      ∧ r.2.mem ((c.tc : Thread Cert.MixCtx.nD Cert.MixCtx.τ).loc Cert.MixCtx.main_arg3) = m ((c.tc : Thread Cert.MixCtx.nD Cert.MixCtx.τ).loc Cert.MixCtx.main_arg3)
      ∧ r.2.mem ((c.tc : Thread Cert.MixCtx.nD Cert.MixCtx.τ).loc Cert.MixCtx.main_arg4) = m ((c.tc : Thread Cert.MixCtx.nD Cert.MixCtx.τ).loc Cert.MixCtx.main_arg4)
      ∧ r.2.mem ((c.tc : Thread Cert.MixCtx.nD Cert.MixCtx.τ).loc Cert.MixCtx.main_arg5) = m ((c.tc : Thread Cert.MixCtx.nD Cert.MixCtx.τ).loc Cert.MixCtx.main_arg5)
      ∧ r.2.mem ((c.tc : Thread Cert.MixCtx.nD Cert.MixCtx.τ).loc Cert.MixCtx.main_arg6) = m ((c.tc : Thread Cert.MixCtx.nD Cert.MixCtx.τ).loc Cert.MixCtx.main_arg6))
      ∧ r.2.sem = fun _ => 0)

def quiescent_MixCtxIdeal [hMixCtxIdeal : Cert.MixCtxIdeal.Facts] : Prop :=
  ∀ (m : (ℓ : Loc Cert.MixCtxIdeal.nD Cert.MixCtxIdeal.τ Cert.MixCtxIdeal.sig) → Buf (Elt Ideal) ℓ) (g : Dev Cert.MixCtxIdeal.nD → PrngReg), Pre_MixCtxIdeal m →
    θ_run (Cert.MixCtxIdeal.defs (F := Ideal)) (onTc (τ := Cert.MixCtxIdeal.τ) (Cert.MixCtxIdeal.main (F := Ideal))) ⟨m, fun _ => 0, g⟩ (fun r => (∀ c : Dev Cert.MixCtxIdeal.nD,
      r.2.mem ((c.tc : Thread Cert.MixCtxIdeal.nD Cert.MixCtxIdeal.τ).loc Cert.MixCtxIdeal.main_arg0) = m ((c.tc : Thread Cert.MixCtxIdeal.nD Cert.MixCtxIdeal.τ).loc Cert.MixCtxIdeal.main_arg0)
      ∧ r.2.mem ((c.tc : Thread Cert.MixCtxIdeal.nD Cert.MixCtxIdeal.τ).loc Cert.MixCtxIdeal.main_arg1) = m ((c.tc : Thread Cert.MixCtxIdeal.nD Cert.MixCtxIdeal.τ).loc Cert.MixCtxIdeal.main_arg1)
      ∧ r.2.mem ((c.tc : Thread Cert.MixCtxIdeal.nD Cert.MixCtxIdeal.τ).loc Cert.MixCtxIdeal.main_arg2) = m ((c.tc : Thread Cert.MixCtxIdeal.nD Cert.MixCtxIdeal.τ).loc Cert.MixCtxIdeal.main_arg2)
      ∧ r.2.mem ((c.tc : Thread Cert.MixCtxIdeal.nD Cert.MixCtxIdeal.τ).loc Cert.MixCtxIdeal.main_arg3) = m ((c.tc : Thread Cert.MixCtxIdeal.nD Cert.MixCtxIdeal.τ).loc Cert.MixCtxIdeal.main_arg3)
      ∧ r.2.mem ((c.tc : Thread Cert.MixCtxIdeal.nD Cert.MixCtxIdeal.τ).loc Cert.MixCtxIdeal.main_arg4) = m ((c.tc : Thread Cert.MixCtxIdeal.nD Cert.MixCtxIdeal.τ).loc Cert.MixCtxIdeal.main_arg4)
      ∧ r.2.mem ((c.tc : Thread Cert.MixCtxIdeal.nD Cert.MixCtxIdeal.τ).loc Cert.MixCtxIdeal.main_arg5) = m ((c.tc : Thread Cert.MixCtxIdeal.nD Cert.MixCtxIdeal.τ).loc Cert.MixCtxIdeal.main_arg5)
      ∧ r.2.mem ((c.tc : Thread Cert.MixCtxIdeal.nD Cert.MixCtxIdeal.τ).loc Cert.MixCtxIdeal.main_arg6) = m ((c.tc : Thread Cert.MixCtxIdeal.nD Cert.MixCtxIdeal.τ).loc Cert.MixCtxIdeal.main_arg6))
      ∧ r.2.sem = fun _ => 0)

def quiescent_MixCtxReferenceIdeal [hMixCtxReferenceIdeal : Cert.MixCtxReferenceIdeal.Facts] : Prop :=
  ∀ (m : (ℓ : Loc Cert.MixCtxReferenceIdeal.nD Cert.MixCtxReferenceIdeal.τ Cert.MixCtxReferenceIdeal.sig) → Buf (Elt Ideal) ℓ) (g : Dev Cert.MixCtxReferenceIdeal.nD → PrngReg), Pre_MixCtxReferenceIdeal m →
    θ_run (Cert.MixCtxReferenceIdeal.defs (F := Ideal)) (onTc (τ := Cert.MixCtxReferenceIdeal.τ) (Cert.MixCtxReferenceIdeal.main (F := Ideal))) ⟨m, fun _ => 0, g⟩ (fun r => (∀ c : Dev Cert.MixCtxReferenceIdeal.nD,
      r.2.mem ((c.tc : Thread Cert.MixCtxReferenceIdeal.nD Cert.MixCtxReferenceIdeal.τ).loc Cert.MixCtxReferenceIdeal.main_arg0) = m ((c.tc : Thread Cert.MixCtxReferenceIdeal.nD Cert.MixCtxReferenceIdeal.τ).loc Cert.MixCtxReferenceIdeal.main_arg0)
      ∧ r.2.mem ((c.tc : Thread Cert.MixCtxReferenceIdeal.nD Cert.MixCtxReferenceIdeal.τ).loc Cert.MixCtxReferenceIdeal.main_arg1) = m ((c.tc : Thread Cert.MixCtxReferenceIdeal.nD Cert.MixCtxReferenceIdeal.τ).loc Cert.MixCtxReferenceIdeal.main_arg1)
      ∧ r.2.mem ((c.tc : Thread Cert.MixCtxReferenceIdeal.nD Cert.MixCtxReferenceIdeal.τ).loc Cert.MixCtxReferenceIdeal.main_arg2) = m ((c.tc : Thread Cert.MixCtxReferenceIdeal.nD Cert.MixCtxReferenceIdeal.τ).loc Cert.MixCtxReferenceIdeal.main_arg2)
      ∧ r.2.mem ((c.tc : Thread Cert.MixCtxReferenceIdeal.nD Cert.MixCtxReferenceIdeal.τ).loc Cert.MixCtxReferenceIdeal.main_arg3) = m ((c.tc : Thread Cert.MixCtxReferenceIdeal.nD Cert.MixCtxReferenceIdeal.τ).loc Cert.MixCtxReferenceIdeal.main_arg3)
      ∧ r.2.mem ((c.tc : Thread Cert.MixCtxReferenceIdeal.nD Cert.MixCtxReferenceIdeal.τ).loc Cert.MixCtxReferenceIdeal.main_arg4) = m ((c.tc : Thread Cert.MixCtxReferenceIdeal.nD Cert.MixCtxReferenceIdeal.τ).loc Cert.MixCtxReferenceIdeal.main_arg4)
      ∧ r.2.mem ((c.tc : Thread Cert.MixCtxReferenceIdeal.nD Cert.MixCtxReferenceIdeal.τ).loc Cert.MixCtxReferenceIdeal.main_arg5) = m ((c.tc : Thread Cert.MixCtxReferenceIdeal.nD Cert.MixCtxReferenceIdeal.τ).loc Cert.MixCtxReferenceIdeal.main_arg5)
      ∧ r.2.mem ((c.tc : Thread Cert.MixCtxReferenceIdeal.nD Cert.MixCtxReferenceIdeal.τ).loc Cert.MixCtxReferenceIdeal.main_arg6) = m ((c.tc : Thread Cert.MixCtxReferenceIdeal.nD Cert.MixCtxReferenceIdeal.τ).loc Cert.MixCtxReferenceIdeal.main_arg6))
      ∧ r.2.sem = fun _ => 0)

def quiescent_InProjCtx [hInProjCtx : Cert.InProjCtx.Facts] : Prop :=
  ∀ (m : (ℓ : Loc Cert.InProjCtx.nD Cert.InProjCtx.τ Cert.InProjCtx.sig) → Buf (Elt Bits) ℓ) (g : Dev Cert.InProjCtx.nD → PrngReg), Pre_InProjCtx m →
    θ_run (Cert.InProjCtx.defs (F := Bits)) (onTc (τ := Cert.InProjCtx.τ) (Cert.InProjCtx.main (F := Bits))) ⟨m, fun _ => 0, g⟩ (fun r => (∀ c : Dev Cert.InProjCtx.nD,
      r.2.mem ((c.tc : Thread Cert.InProjCtx.nD Cert.InProjCtx.τ).loc Cert.InProjCtx.main_arg0) = m ((c.tc : Thread Cert.InProjCtx.nD Cert.InProjCtx.τ).loc Cert.InProjCtx.main_arg0)
      ∧ r.2.mem ((c.tc : Thread Cert.InProjCtx.nD Cert.InProjCtx.τ).loc Cert.InProjCtx.main_arg1) = m ((c.tc : Thread Cert.InProjCtx.nD Cert.InProjCtx.τ).loc Cert.InProjCtx.main_arg1)
      ∧ r.2.mem ((c.tc : Thread Cert.InProjCtx.nD Cert.InProjCtx.τ).loc Cert.InProjCtx.main_arg2) = m ((c.tc : Thread Cert.InProjCtx.nD Cert.InProjCtx.τ).loc Cert.InProjCtx.main_arg2)
      ∧ r.2.mem ((c.tc : Thread Cert.InProjCtx.nD Cert.InProjCtx.τ).loc Cert.InProjCtx.main_arg3) = m ((c.tc : Thread Cert.InProjCtx.nD Cert.InProjCtx.τ).loc Cert.InProjCtx.main_arg3)
      ∧ r.2.mem ((c.tc : Thread Cert.InProjCtx.nD Cert.InProjCtx.τ).loc Cert.InProjCtx.main_arg4) = m ((c.tc : Thread Cert.InProjCtx.nD Cert.InProjCtx.τ).loc Cert.InProjCtx.main_arg4))
      ∧ r.2.sem = fun _ => 0)

def quiescent_InProjCtxIdeal [hInProjCtxIdeal : Cert.InProjCtxIdeal.Facts] : Prop :=
  ∀ (m : (ℓ : Loc Cert.InProjCtxIdeal.nD Cert.InProjCtxIdeal.τ Cert.InProjCtxIdeal.sig) → Buf (Elt Ideal) ℓ) (g : Dev Cert.InProjCtxIdeal.nD → PrngReg), Pre_InProjCtxIdeal m →
    θ_run (Cert.InProjCtxIdeal.defs (F := Ideal)) (onTc (τ := Cert.InProjCtxIdeal.τ) (Cert.InProjCtxIdeal.main (F := Ideal))) ⟨m, fun _ => 0, g⟩ (fun r => (∀ c : Dev Cert.InProjCtxIdeal.nD,
      r.2.mem ((c.tc : Thread Cert.InProjCtxIdeal.nD Cert.InProjCtxIdeal.τ).loc Cert.InProjCtxIdeal.main_arg0) = m ((c.tc : Thread Cert.InProjCtxIdeal.nD Cert.InProjCtxIdeal.τ).loc Cert.InProjCtxIdeal.main_arg0)
      ∧ r.2.mem ((c.tc : Thread Cert.InProjCtxIdeal.nD Cert.InProjCtxIdeal.τ).loc Cert.InProjCtxIdeal.main_arg1) = m ((c.tc : Thread Cert.InProjCtxIdeal.nD Cert.InProjCtxIdeal.τ).loc Cert.InProjCtxIdeal.main_arg1)
      ∧ r.2.mem ((c.tc : Thread Cert.InProjCtxIdeal.nD Cert.InProjCtxIdeal.τ).loc Cert.InProjCtxIdeal.main_arg2) = m ((c.tc : Thread Cert.InProjCtxIdeal.nD Cert.InProjCtxIdeal.τ).loc Cert.InProjCtxIdeal.main_arg2)
      ∧ r.2.mem ((c.tc : Thread Cert.InProjCtxIdeal.nD Cert.InProjCtxIdeal.τ).loc Cert.InProjCtxIdeal.main_arg3) = m ((c.tc : Thread Cert.InProjCtxIdeal.nD Cert.InProjCtxIdeal.τ).loc Cert.InProjCtxIdeal.main_arg3)
      ∧ r.2.mem ((c.tc : Thread Cert.InProjCtxIdeal.nD Cert.InProjCtxIdeal.τ).loc Cert.InProjCtxIdeal.main_arg4) = m ((c.tc : Thread Cert.InProjCtxIdeal.nD Cert.InProjCtxIdeal.τ).loc Cert.InProjCtxIdeal.main_arg4))
      ∧ r.2.sem = fun _ => 0)

def quiescent_InProjCtxIdeal_pre_finite_in_ctx [hInProjCtxIdeal : Cert.InProjCtxIdeal.Facts] [hPre_finite_in_ctx : Cert.Pre_finite_in_ctx.Facts] : Prop :=
  ∀ (m : (ℓ : Loc Cert.InProjCtxIdeal.nD Cert.InProjCtxIdeal.τ Cert.InProjCtxIdeal.sig) → Buf (Elt Ideal) ℓ) (g : Dev Cert.InProjCtxIdeal.nD → PrngReg), Pre_InProjCtxIdeal_finite_in_ctx m →
    θ_run (Cert.InProjCtxIdeal.defs (F := Ideal)) (onTc (τ := Cert.InProjCtxIdeal.τ) (Cert.InProjCtxIdeal.main (F := Ideal))) ⟨m, fun _ => 0, g⟩ (fun r => (∀ c : Dev Cert.InProjCtxIdeal.nD,
      r.2.mem ((c.tc : Thread Cert.InProjCtxIdeal.nD Cert.InProjCtxIdeal.τ).loc Cert.InProjCtxIdeal.main_arg0) = m ((c.tc : Thread Cert.InProjCtxIdeal.nD Cert.InProjCtxIdeal.τ).loc Cert.InProjCtxIdeal.main_arg0)
      ∧ r.2.mem ((c.tc : Thread Cert.InProjCtxIdeal.nD Cert.InProjCtxIdeal.τ).loc Cert.InProjCtxIdeal.main_arg1) = m ((c.tc : Thread Cert.InProjCtxIdeal.nD Cert.InProjCtxIdeal.τ).loc Cert.InProjCtxIdeal.main_arg1)
      ∧ r.2.mem ((c.tc : Thread Cert.InProjCtxIdeal.nD Cert.InProjCtxIdeal.τ).loc Cert.InProjCtxIdeal.main_arg2) = m ((c.tc : Thread Cert.InProjCtxIdeal.nD Cert.InProjCtxIdeal.τ).loc Cert.InProjCtxIdeal.main_arg2)
      ∧ r.2.mem ((c.tc : Thread Cert.InProjCtxIdeal.nD Cert.InProjCtxIdeal.τ).loc Cert.InProjCtxIdeal.main_arg3) = m ((c.tc : Thread Cert.InProjCtxIdeal.nD Cert.InProjCtxIdeal.τ).loc Cert.InProjCtxIdeal.main_arg3)
      ∧ r.2.mem ((c.tc : Thread Cert.InProjCtxIdeal.nD Cert.InProjCtxIdeal.τ).loc Cert.InProjCtxIdeal.main_arg4) = m ((c.tc : Thread Cert.InProjCtxIdeal.nD Cert.InProjCtxIdeal.τ).loc Cert.InProjCtxIdeal.main_arg4))
      ∧ r.2.sem = fun _ => 0)

def quiescent_InProjCtxReferenceIdeal [hInProjCtxReferenceIdeal : Cert.InProjCtxReferenceIdeal.Facts] : Prop :=
  ∀ (m : (ℓ : Loc Cert.InProjCtxReferenceIdeal.nD Cert.InProjCtxReferenceIdeal.τ Cert.InProjCtxReferenceIdeal.sig) → Buf (Elt Ideal) ℓ) (g : Dev Cert.InProjCtxReferenceIdeal.nD → PrngReg), Pre_InProjCtxReferenceIdeal m →
    θ_run (Cert.InProjCtxReferenceIdeal.defs (F := Ideal)) (onTc (τ := Cert.InProjCtxReferenceIdeal.τ) (Cert.InProjCtxReferenceIdeal.main (F := Ideal))) ⟨m, fun _ => 0, g⟩ (fun r => (∀ c : Dev Cert.InProjCtxReferenceIdeal.nD,
      r.2.mem ((c.tc : Thread Cert.InProjCtxReferenceIdeal.nD Cert.InProjCtxReferenceIdeal.τ).loc Cert.InProjCtxReferenceIdeal.main_arg0) = m ((c.tc : Thread Cert.InProjCtxReferenceIdeal.nD Cert.InProjCtxReferenceIdeal.τ).loc Cert.InProjCtxReferenceIdeal.main_arg0)
      ∧ r.2.mem ((c.tc : Thread Cert.InProjCtxReferenceIdeal.nD Cert.InProjCtxReferenceIdeal.τ).loc Cert.InProjCtxReferenceIdeal.main_arg1) = m ((c.tc : Thread Cert.InProjCtxReferenceIdeal.nD Cert.InProjCtxReferenceIdeal.τ).loc Cert.InProjCtxReferenceIdeal.main_arg1)
      ∧ r.2.mem ((c.tc : Thread Cert.InProjCtxReferenceIdeal.nD Cert.InProjCtxReferenceIdeal.τ).loc Cert.InProjCtxReferenceIdeal.main_arg2) = m ((c.tc : Thread Cert.InProjCtxReferenceIdeal.nD Cert.InProjCtxReferenceIdeal.τ).loc Cert.InProjCtxReferenceIdeal.main_arg2)
      ∧ r.2.mem ((c.tc : Thread Cert.InProjCtxReferenceIdeal.nD Cert.InProjCtxReferenceIdeal.τ).loc Cert.InProjCtxReferenceIdeal.main_arg3) = m ((c.tc : Thread Cert.InProjCtxReferenceIdeal.nD Cert.InProjCtxReferenceIdeal.τ).loc Cert.InProjCtxReferenceIdeal.main_arg3)
      ∧ r.2.mem ((c.tc : Thread Cert.InProjCtxReferenceIdeal.nD Cert.InProjCtxReferenceIdeal.τ).loc Cert.InProjCtxReferenceIdeal.main_arg4) = m ((c.tc : Thread Cert.InProjCtxReferenceIdeal.nD Cert.InProjCtxReferenceIdeal.τ).loc Cert.InProjCtxReferenceIdeal.main_arg4))
      ∧ r.2.sem = fun _ => 0)

def quiescent_InProjCtxReferenceIdeal_pre_finite_in_ctx [hInProjCtxReferenceIdeal : Cert.InProjCtxReferenceIdeal.Facts] [hPre_finite_in_ctx : Cert.Pre_finite_in_ctx.Facts] : Prop :=
  ∀ (m : (ℓ : Loc Cert.InProjCtxReferenceIdeal.nD Cert.InProjCtxReferenceIdeal.τ Cert.InProjCtxReferenceIdeal.sig) → Buf (Elt Ideal) ℓ) (g : Dev Cert.InProjCtxReferenceIdeal.nD → PrngReg), Pre_InProjCtxReferenceIdeal_finite_in_ctx m →
    θ_run (Cert.InProjCtxReferenceIdeal.defs (F := Ideal)) (onTc (τ := Cert.InProjCtxReferenceIdeal.τ) (Cert.InProjCtxReferenceIdeal.main (F := Ideal))) ⟨m, fun _ => 0, g⟩ (fun r => (∀ c : Dev Cert.InProjCtxReferenceIdeal.nD,
      r.2.mem ((c.tc : Thread Cert.InProjCtxReferenceIdeal.nD Cert.InProjCtxReferenceIdeal.τ).loc Cert.InProjCtxReferenceIdeal.main_arg0) = m ((c.tc : Thread Cert.InProjCtxReferenceIdeal.nD Cert.InProjCtxReferenceIdeal.τ).loc Cert.InProjCtxReferenceIdeal.main_arg0)
      ∧ r.2.mem ((c.tc : Thread Cert.InProjCtxReferenceIdeal.nD Cert.InProjCtxReferenceIdeal.τ).loc Cert.InProjCtxReferenceIdeal.main_arg1) = m ((c.tc : Thread Cert.InProjCtxReferenceIdeal.nD Cert.InProjCtxReferenceIdeal.τ).loc Cert.InProjCtxReferenceIdeal.main_arg1)
      ∧ r.2.mem ((c.tc : Thread Cert.InProjCtxReferenceIdeal.nD Cert.InProjCtxReferenceIdeal.τ).loc Cert.InProjCtxReferenceIdeal.main_arg2) = m ((c.tc : Thread Cert.InProjCtxReferenceIdeal.nD Cert.InProjCtxReferenceIdeal.τ).loc Cert.InProjCtxReferenceIdeal.main_arg2)
      ∧ r.2.mem ((c.tc : Thread Cert.InProjCtxReferenceIdeal.nD Cert.InProjCtxReferenceIdeal.τ).loc Cert.InProjCtxReferenceIdeal.main_arg3) = m ((c.tc : Thread Cert.InProjCtxReferenceIdeal.nD Cert.InProjCtxReferenceIdeal.τ).loc Cert.InProjCtxReferenceIdeal.main_arg3)
      ∧ r.2.mem ((c.tc : Thread Cert.InProjCtxReferenceIdeal.nD Cert.InProjCtxReferenceIdeal.τ).loc Cert.InProjCtxReferenceIdeal.main_arg4) = m ((c.tc : Thread Cert.InProjCtxReferenceIdeal.nD Cert.InProjCtxReferenceIdeal.τ).loc Cert.InProjCtxReferenceIdeal.main_arg4))
      ∧ r.2.sem = fun _ => 0)

def quiescent_AttnCtx [hAttnCtx : Cert.AttnCtx.Facts] : Prop :=
  ∀ (m : (ℓ : Loc Cert.AttnCtx.nD Cert.AttnCtx.τ Cert.AttnCtx.sig) → Buf (Elt Bits) ℓ) (g : Dev Cert.AttnCtx.nD → PrngReg), Pre_AttnCtx m →
    θ_run (Cert.AttnCtx.defs (F := Bits)) (onTc (τ := Cert.AttnCtx.τ) (Cert.AttnCtx.main (F := Bits))) ⟨m, fun _ => 0, g⟩ (fun r => (∀ c : Dev Cert.AttnCtx.nD,
      r.2.mem ((c.tc : Thread Cert.AttnCtx.nD Cert.AttnCtx.τ).loc Cert.AttnCtx.main_arg0) = m ((c.tc : Thread Cert.AttnCtx.nD Cert.AttnCtx.τ).loc Cert.AttnCtx.main_arg0)
      ∧ r.2.mem ((c.tc : Thread Cert.AttnCtx.nD Cert.AttnCtx.τ).loc Cert.AttnCtx.main_arg1) = m ((c.tc : Thread Cert.AttnCtx.nD Cert.AttnCtx.τ).loc Cert.AttnCtx.main_arg1)
      ∧ r.2.mem ((c.tc : Thread Cert.AttnCtx.nD Cert.AttnCtx.τ).loc Cert.AttnCtx.main_arg2) = m ((c.tc : Thread Cert.AttnCtx.nD Cert.AttnCtx.τ).loc Cert.AttnCtx.main_arg2))
      ∧ r.2.sem = fun _ => 0)

def quiescent_AttnCtxIdeal [hAttnCtxIdeal : Cert.AttnCtxIdeal.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg), Pre_AttnCtxIdeal m →
    θ_run (Cert.AttnCtxIdeal.defs (F := Ideal)) (onTc (τ := Cert.AttnCtxIdeal.τ) (Cert.AttnCtxIdeal.main (F := Ideal))) ⟨m, fun _ => 0, g⟩ (fun r => (∀ c : Dev Cert.AttnCtxIdeal.nD,
      r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
      ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
      ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2))
      ∧ r.2.sem = fun _ => 0)

def quiescent_AttnCtxIdeal_pre_finite_ctx [hAttnCtxIdeal : Cert.AttnCtxIdeal.Facts] [hPre_finite_ctx : Cert.Pre_finite_ctx.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg), Pre_AttnCtxIdeal_finite_ctx m →
    θ_run (Cert.AttnCtxIdeal.defs (F := Ideal)) (onTc (τ := Cert.AttnCtxIdeal.τ) (Cert.AttnCtxIdeal.main (F := Ideal))) ⟨m, fun _ => 0, g⟩ (fun r => (∀ c : Dev Cert.AttnCtxIdeal.nD,
      r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
      ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
      ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2))
      ∧ r.2.sem = fun _ => 0)

def quiescent_AttnCtxReferenceIdeal [hAttnCtxReferenceIdeal : Cert.AttnCtxReferenceIdeal.Facts] : Prop :=
  ∀ (m : (ℓ : Loc Cert.AttnCtxReferenceIdeal.nD Cert.AttnCtxReferenceIdeal.τ Cert.AttnCtxReferenceIdeal.sig) → Buf (Elt Ideal) ℓ) (g : Dev Cert.AttnCtxReferenceIdeal.nD → PrngReg), Pre_AttnCtxReferenceIdeal m →
    θ_run (Cert.AttnCtxReferenceIdeal.defs (F := Ideal)) (onTc (τ := Cert.AttnCtxReferenceIdeal.τ) (Cert.AttnCtxReferenceIdeal.main (F := Ideal))) ⟨m, fun _ => 0, g⟩ (fun r => (∀ c : Dev Cert.AttnCtxReferenceIdeal.nD,
      r.2.mem ((c.tc : Thread Cert.AttnCtxReferenceIdeal.nD Cert.AttnCtxReferenceIdeal.τ).loc Cert.AttnCtxReferenceIdeal.main_arg0) = m ((c.tc : Thread Cert.AttnCtxReferenceIdeal.nD Cert.AttnCtxReferenceIdeal.τ).loc Cert.AttnCtxReferenceIdeal.main_arg0)
      ∧ r.2.mem ((c.tc : Thread Cert.AttnCtxReferenceIdeal.nD Cert.AttnCtxReferenceIdeal.τ).loc Cert.AttnCtxReferenceIdeal.main_arg1) = m ((c.tc : Thread Cert.AttnCtxReferenceIdeal.nD Cert.AttnCtxReferenceIdeal.τ).loc Cert.AttnCtxReferenceIdeal.main_arg1)
      ∧ r.2.mem ((c.tc : Thread Cert.AttnCtxReferenceIdeal.nD Cert.AttnCtxReferenceIdeal.τ).loc Cert.AttnCtxReferenceIdeal.main_arg2) = m ((c.tc : Thread Cert.AttnCtxReferenceIdeal.nD Cert.AttnCtxReferenceIdeal.τ).loc Cert.AttnCtxReferenceIdeal.main_arg2))
      ∧ r.2.sem = fun _ => 0)

def quiescent_AttnCtxReferenceIdeal_pre_finite_ctx [hAttnCtxReferenceIdeal : Cert.AttnCtxReferenceIdeal.Facts] [hPre_finite_ctx : Cert.Pre_finite_ctx.Facts] : Prop :=
  ∀ (m : (ℓ : Loc Cert.AttnCtxReferenceIdeal.nD Cert.AttnCtxReferenceIdeal.τ Cert.AttnCtxReferenceIdeal.sig) → Buf (Elt Ideal) ℓ) (g : Dev Cert.AttnCtxReferenceIdeal.nD → PrngReg), Pre_AttnCtxReferenceIdeal_finite_ctx m →
    θ_run (Cert.AttnCtxReferenceIdeal.defs (F := Ideal)) (onTc (τ := Cert.AttnCtxReferenceIdeal.τ) (Cert.AttnCtxReferenceIdeal.main (F := Ideal))) ⟨m, fun _ => 0, g⟩ (fun r => (∀ c : Dev Cert.AttnCtxReferenceIdeal.nD,
      r.2.mem ((c.tc : Thread Cert.AttnCtxReferenceIdeal.nD Cert.AttnCtxReferenceIdeal.τ).loc Cert.AttnCtxReferenceIdeal.main_arg0) = m ((c.tc : Thread Cert.AttnCtxReferenceIdeal.nD Cert.AttnCtxReferenceIdeal.τ).loc Cert.AttnCtxReferenceIdeal.main_arg0)
      ∧ r.2.mem ((c.tc : Thread Cert.AttnCtxReferenceIdeal.nD Cert.AttnCtxReferenceIdeal.τ).loc Cert.AttnCtxReferenceIdeal.main_arg1) = m ((c.tc : Thread Cert.AttnCtxReferenceIdeal.nD Cert.AttnCtxReferenceIdeal.τ).loc Cert.AttnCtxReferenceIdeal.main_arg1)
      ∧ r.2.mem ((c.tc : Thread Cert.AttnCtxReferenceIdeal.nD Cert.AttnCtxReferenceIdeal.τ).loc Cert.AttnCtxReferenceIdeal.main_arg2) = m ((c.tc : Thread Cert.AttnCtxReferenceIdeal.nD Cert.AttnCtxReferenceIdeal.τ).loc Cert.AttnCtxReferenceIdeal.main_arg2))
      ∧ r.2.sem = fun _ => 0)

def quiescent_S5Out [hS5Out : Cert.S5Out.Facts] : Prop :=
  ∀ (m : (ℓ : Loc Cert.S5Out.nD Cert.S5Out.τ Cert.S5Out.sig) → Buf (Elt Bits) ℓ) (g : Dev Cert.S5Out.nD → PrngReg), Pre_S5Out m →
    θ_run (Cert.S5Out.defs (F := Bits)) (onTc (τ := Cert.S5Out.τ) (Cert.S5Out.main (F := Bits))) ⟨m, fun _ => 0, g⟩ (fun r => (∀ c : Dev Cert.S5Out.nD,
      r.2.mem ((c.tc : Thread Cert.S5Out.nD Cert.S5Out.τ).loc Cert.S5Out.main_arg0) = m ((c.tc : Thread Cert.S5Out.nD Cert.S5Out.τ).loc Cert.S5Out.main_arg0)
      ∧ r.2.mem ((c.tc : Thread Cert.S5Out.nD Cert.S5Out.τ).loc Cert.S5Out.main_arg1) = m ((c.tc : Thread Cert.S5Out.nD Cert.S5Out.τ).loc Cert.S5Out.main_arg1)
      ∧ r.2.mem ((c.tc : Thread Cert.S5Out.nD Cert.S5Out.τ).loc Cert.S5Out.main_arg2) = m ((c.tc : Thread Cert.S5Out.nD Cert.S5Out.τ).loc Cert.S5Out.main_arg2)
      ∧ r.2.mem ((c.tc : Thread Cert.S5Out.nD Cert.S5Out.τ).loc Cert.S5Out.main_arg3) = m ((c.tc : Thread Cert.S5Out.nD Cert.S5Out.τ).loc Cert.S5Out.main_arg3)
      ∧ r.2.mem ((c.tc : Thread Cert.S5Out.nD Cert.S5Out.τ).loc Cert.S5Out.main_arg4) = m ((c.tc : Thread Cert.S5Out.nD Cert.S5Out.τ).loc Cert.S5Out.main_arg4))
      ∧ r.2.sem = fun _ => 0)

def quiescent_S5OutIdeal [hS5OutIdeal : Cert.S5OutIdeal.Facts] : Prop :=
  ∀ (m : (ℓ : Loc Cert.S5OutIdeal.nD Cert.S5OutIdeal.τ Cert.S5OutIdeal.sig) → Buf (Elt Ideal) ℓ) (g : Dev Cert.S5OutIdeal.nD → PrngReg), Pre_S5OutIdeal m →
    θ_run (Cert.S5OutIdeal.defs (F := Ideal)) (onTc (τ := Cert.S5OutIdeal.τ) (Cert.S5OutIdeal.main (F := Ideal))) ⟨m, fun _ => 0, g⟩ (fun r => (∀ c : Dev Cert.S5OutIdeal.nD,
      r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
      ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
      ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2)
      ∧ r.2.mem ((c.tc : Thread Cert.S5OutIdeal.nD Cert.S5OutIdeal.τ).loc Cert.S5OutIdeal.main_arg3) = m ((c.tc : Thread Cert.S5OutIdeal.nD Cert.S5OutIdeal.τ).loc Cert.S5OutIdeal.main_arg3)
      ∧ r.2.mem ((c.tc : Thread Cert.S5OutIdeal.nD Cert.S5OutIdeal.τ).loc Cert.S5OutIdeal.main_arg4) = m ((c.tc : Thread Cert.S5OutIdeal.nD Cert.S5OutIdeal.τ).loc Cert.S5OutIdeal.main_arg4))
      ∧ r.2.sem = fun _ => 0)

def quiescent_S5OutReferenceIdeal [hS5OutReferenceIdeal : Cert.S5OutReferenceIdeal.Facts] : Prop :=
  ∀ (m : (ℓ : Loc Cert.S5OutReferenceIdeal.nD Cert.S5OutReferenceIdeal.τ Cert.S5OutReferenceIdeal.sig) → Buf (Elt Ideal) ℓ) (g : Dev Cert.S5OutReferenceIdeal.nD → PrngReg), Pre_S5OutReferenceIdeal m →
    θ_run (Cert.S5OutReferenceIdeal.defs (F := Ideal)) (onTc (τ := Cert.S5OutReferenceIdeal.τ) (Cert.S5OutReferenceIdeal.main (F := Ideal))) ⟨m, fun _ => 0, g⟩ (fun r => (∀ c : Dev Cert.S5OutReferenceIdeal.nD,
      r.2.mem ((c.tc : Thread Cert.S5OutReferenceIdeal.nD Cert.S5OutReferenceIdeal.τ).loc Cert.S5OutReferenceIdeal.main_arg0) = m ((c.tc : Thread Cert.S5OutReferenceIdeal.nD Cert.S5OutReferenceIdeal.τ).loc Cert.S5OutReferenceIdeal.main_arg0)
      ∧ r.2.mem ((c.tc : Thread Cert.S5OutReferenceIdeal.nD Cert.S5OutReferenceIdeal.τ).loc Cert.S5OutReferenceIdeal.main_arg1) = m ((c.tc : Thread Cert.S5OutReferenceIdeal.nD Cert.S5OutReferenceIdeal.τ).loc Cert.S5OutReferenceIdeal.main_arg1)
      ∧ r.2.mem ((c.tc : Thread Cert.S5OutReferenceIdeal.nD Cert.S5OutReferenceIdeal.τ).loc Cert.S5OutReferenceIdeal.main_arg2) = m ((c.tc : Thread Cert.S5OutReferenceIdeal.nD Cert.S5OutReferenceIdeal.τ).loc Cert.S5OutReferenceIdeal.main_arg2)
      ∧ r.2.mem ((c.tc : Thread Cert.S5OutReferenceIdeal.nD Cert.S5OutReferenceIdeal.τ).loc Cert.S5OutReferenceIdeal.main_arg3) = m ((c.tc : Thread Cert.S5OutReferenceIdeal.nD Cert.S5OutReferenceIdeal.τ).loc Cert.S5OutReferenceIdeal.main_arg3)
      ∧ r.2.mem ((c.tc : Thread Cert.S5OutReferenceIdeal.nD Cert.S5OutReferenceIdeal.τ).loc Cert.S5OutReferenceIdeal.main_arg4) = m ((c.tc : Thread Cert.S5OutReferenceIdeal.nD Cert.S5OutReferenceIdeal.τ).loc Cert.S5OutReferenceIdeal.main_arg4))
      ∧ r.2.sem = fun _ => 0)

def quiescent_S5OutCtx [hS5OutCtx : Cert.S5OutCtx.Facts] : Prop :=
  ∀ (m : (ℓ : Loc Cert.S5OutCtx.nD Cert.S5OutCtx.τ Cert.S5OutCtx.sig) → Buf (Elt Bits) ℓ) (g : Dev Cert.S5OutCtx.nD → PrngReg), Pre_S5OutCtx m →
    θ_run (Cert.S5OutCtx.defs (F := Bits)) (onTc (τ := Cert.S5OutCtx.τ) (Cert.S5OutCtx.main (F := Bits))) ⟨m, fun _ => 0, g⟩ (fun r => (∀ c : Dev Cert.S5OutCtx.nD,
      r.2.mem ((c.tc : Thread Cert.S5OutCtx.nD Cert.S5OutCtx.τ).loc Cert.S5OutCtx.main_arg0) = m ((c.tc : Thread Cert.S5OutCtx.nD Cert.S5OutCtx.τ).loc Cert.S5OutCtx.main_arg0)
      ∧ r.2.mem ((c.tc : Thread Cert.S5OutCtx.nD Cert.S5OutCtx.τ).loc Cert.S5OutCtx.main_arg1) = m ((c.tc : Thread Cert.S5OutCtx.nD Cert.S5OutCtx.τ).loc Cert.S5OutCtx.main_arg1)
      ∧ r.2.mem ((c.tc : Thread Cert.S5OutCtx.nD Cert.S5OutCtx.τ).loc Cert.S5OutCtx.main_arg2) = m ((c.tc : Thread Cert.S5OutCtx.nD Cert.S5OutCtx.τ).loc Cert.S5OutCtx.main_arg2)
      ∧ r.2.mem ((c.tc : Thread Cert.S5OutCtx.nD Cert.S5OutCtx.τ).loc Cert.S5OutCtx.main_arg3) = m ((c.tc : Thread Cert.S5OutCtx.nD Cert.S5OutCtx.τ).loc Cert.S5OutCtx.main_arg3)
      ∧ r.2.mem ((c.tc : Thread Cert.S5OutCtx.nD Cert.S5OutCtx.τ).loc Cert.S5OutCtx.main_arg4) = m ((c.tc : Thread Cert.S5OutCtx.nD Cert.S5OutCtx.τ).loc Cert.S5OutCtx.main_arg4))
      ∧ r.2.sem = fun _ => 0)

def quiescent_S5OutCtxIdeal [hS5OutCtxIdeal : Cert.S5OutCtxIdeal.Facts] : Prop :=
  ∀ (m : (ℓ : Loc Cert.S5OutCtxIdeal.nD Cert.S5OutCtxIdeal.τ Cert.S5OutCtxIdeal.sig) → Buf (Elt Ideal) ℓ) (g : Dev Cert.S5OutCtxIdeal.nD → PrngReg), Pre_S5OutCtxIdeal m →
    θ_run (Cert.S5OutCtxIdeal.defs (F := Ideal)) (onTc (τ := Cert.S5OutCtxIdeal.τ) (Cert.S5OutCtxIdeal.main (F := Ideal))) ⟨m, fun _ => 0, g⟩ (fun r => (∀ c : Dev Cert.S5OutCtxIdeal.nD,
      r.2.mem ((c.tc : Thread Cert.S5OutCtxIdeal.nD Cert.S5OutCtxIdeal.τ).loc Cert.S5OutCtxIdeal.main_arg0) = m ((c.tc : Thread Cert.S5OutCtxIdeal.nD Cert.S5OutCtxIdeal.τ).loc Cert.S5OutCtxIdeal.main_arg0)
      ∧ r.2.mem ((c.tc : Thread Cert.S5OutCtxIdeal.nD Cert.S5OutCtxIdeal.τ).loc Cert.S5OutCtxIdeal.main_arg1) = m ((c.tc : Thread Cert.S5OutCtxIdeal.nD Cert.S5OutCtxIdeal.τ).loc Cert.S5OutCtxIdeal.main_arg1)
      ∧ r.2.mem ((c.tc : Thread Cert.S5OutCtxIdeal.nD Cert.S5OutCtxIdeal.τ).loc Cert.S5OutCtxIdeal.main_arg2) = m ((c.tc : Thread Cert.S5OutCtxIdeal.nD Cert.S5OutCtxIdeal.τ).loc Cert.S5OutCtxIdeal.main_arg2)
      ∧ r.2.mem ((c.tc : Thread Cert.S5OutCtxIdeal.nD Cert.S5OutCtxIdeal.τ).loc Cert.S5OutCtxIdeal.main_arg3) = m ((c.tc : Thread Cert.S5OutCtxIdeal.nD Cert.S5OutCtxIdeal.τ).loc Cert.S5OutCtxIdeal.main_arg3)
      ∧ r.2.mem ((c.tc : Thread Cert.S5OutCtxIdeal.nD Cert.S5OutCtxIdeal.τ).loc Cert.S5OutCtxIdeal.main_arg4) = m ((c.tc : Thread Cert.S5OutCtxIdeal.nD Cert.S5OutCtxIdeal.τ).loc Cert.S5OutCtxIdeal.main_arg4))
      ∧ r.2.sem = fun _ => 0)

def quiescent_S5OutCtxReferenceIdeal [hS5OutCtxReferenceIdeal : Cert.S5OutCtxReferenceIdeal.Facts] : Prop :=
  ∀ (m : (ℓ : Loc Cert.S5OutCtxReferenceIdeal.nD Cert.S5OutCtxReferenceIdeal.τ Cert.S5OutCtxReferenceIdeal.sig) → Buf (Elt Ideal) ℓ) (g : Dev Cert.S5OutCtxReferenceIdeal.nD → PrngReg), Pre_S5OutCtxReferenceIdeal m →
    θ_run (Cert.S5OutCtxReferenceIdeal.defs (F := Ideal)) (onTc (τ := Cert.S5OutCtxReferenceIdeal.τ) (Cert.S5OutCtxReferenceIdeal.main (F := Ideal))) ⟨m, fun _ => 0, g⟩ (fun r => (∀ c : Dev Cert.S5OutCtxReferenceIdeal.nD,
      r.2.mem ((c.tc : Thread Cert.S5OutCtxReferenceIdeal.nD Cert.S5OutCtxReferenceIdeal.τ).loc Cert.S5OutCtxReferenceIdeal.main_arg0) = m ((c.tc : Thread Cert.S5OutCtxReferenceIdeal.nD Cert.S5OutCtxReferenceIdeal.τ).loc Cert.S5OutCtxReferenceIdeal.main_arg0)
      ∧ r.2.mem ((c.tc : Thread Cert.S5OutCtxReferenceIdeal.nD Cert.S5OutCtxReferenceIdeal.τ).loc Cert.S5OutCtxReferenceIdeal.main_arg1) = m ((c.tc : Thread Cert.S5OutCtxReferenceIdeal.nD Cert.S5OutCtxReferenceIdeal.τ).loc Cert.S5OutCtxReferenceIdeal.main_arg1)
      ∧ r.2.mem ((c.tc : Thread Cert.S5OutCtxReferenceIdeal.nD Cert.S5OutCtxReferenceIdeal.τ).loc Cert.S5OutCtxReferenceIdeal.main_arg2) = m ((c.tc : Thread Cert.S5OutCtxReferenceIdeal.nD Cert.S5OutCtxReferenceIdeal.τ).loc Cert.S5OutCtxReferenceIdeal.main_arg2)
      ∧ r.2.mem ((c.tc : Thread Cert.S5OutCtxReferenceIdeal.nD Cert.S5OutCtxReferenceIdeal.τ).loc Cert.S5OutCtxReferenceIdeal.main_arg3) = m ((c.tc : Thread Cert.S5OutCtxReferenceIdeal.nD Cert.S5OutCtxReferenceIdeal.τ).loc Cert.S5OutCtxReferenceIdeal.main_arg3)
      ∧ r.2.mem ((c.tc : Thread Cert.S5OutCtxReferenceIdeal.nD Cert.S5OutCtxReferenceIdeal.τ).loc Cert.S5OutCtxReferenceIdeal.main_arg4) = m ((c.tc : Thread Cert.S5OutCtxReferenceIdeal.nD Cert.S5OutCtxReferenceIdeal.τ).loc Cert.S5OutCtxReferenceIdeal.main_arg4))
      ∧ r.2.sem = fun _ => 0)

def quiescent_HgOut [hHgOut : Cert.HgOut.Facts] : Prop :=
  ∀ (m : (ℓ : Loc Cert.HgOut.nD Cert.HgOut.τ Cert.HgOut.sig) → Buf (Elt Bits) ℓ) (g : Dev Cert.HgOut.nD → PrngReg), Pre_HgOut m →
    θ_run (Cert.HgOut.defs (F := Bits)) (onTc (τ := Cert.HgOut.τ) (Cert.HgOut.main (F := Bits))) ⟨m, fun _ => 0, g⟩ (fun r => (∀ c : Dev Cert.HgOut.nD,
      r.2.mem ((c.tc : Thread Cert.HgOut.nD Cert.HgOut.τ).loc Cert.HgOut.main_arg0) = m ((c.tc : Thread Cert.HgOut.nD Cert.HgOut.τ).loc Cert.HgOut.main_arg0)
      ∧ r.2.mem ((c.tc : Thread Cert.HgOut.nD Cert.HgOut.τ).loc Cert.HgOut.main_arg1) = m ((c.tc : Thread Cert.HgOut.nD Cert.HgOut.τ).loc Cert.HgOut.main_arg1)
      ∧ r.2.mem ((c.tc : Thread Cert.HgOut.nD Cert.HgOut.τ).loc Cert.HgOut.main_arg2) = m ((c.tc : Thread Cert.HgOut.nD Cert.HgOut.τ).loc Cert.HgOut.main_arg2)
      ∧ r.2.mem ((c.tc : Thread Cert.HgOut.nD Cert.HgOut.τ).loc Cert.HgOut.main_arg3) = m ((c.tc : Thread Cert.HgOut.nD Cert.HgOut.τ).loc Cert.HgOut.main_arg3))
      ∧ r.2.sem = fun _ => 0)

def quiescent_HgOutIdeal [hHgOutIdeal : Cert.HgOutIdeal.Facts] : Prop :=
  ∀ (m : (ℓ : Loc Cert.HgOutIdeal.nD Cert.HgOutIdeal.τ Cert.HgOutIdeal.sig) → Buf (Elt Ideal) ℓ) (g : Dev Cert.HgOutIdeal.nD → PrngReg), Pre_HgOutIdeal m →
    θ_run (Cert.HgOutIdeal.defs (F := Ideal)) (onTc (τ := Cert.HgOutIdeal.τ) (Cert.HgOutIdeal.main (F := Ideal))) ⟨m, fun _ => 0, g⟩ (fun r => (∀ c : Dev Cert.HgOutIdeal.nD,
      r.2.mem ((c.tc : Thread Cert.HgOutIdeal.nD Cert.HgOutIdeal.τ).loc Cert.HgOutIdeal.main_arg0) = m ((c.tc : Thread Cert.HgOutIdeal.nD Cert.HgOutIdeal.τ).loc Cert.HgOutIdeal.main_arg0)
      ∧ r.2.mem ((c.tc : Thread Cert.HgOutIdeal.nD Cert.HgOutIdeal.τ).loc Cert.HgOutIdeal.main_arg1) = m ((c.tc : Thread Cert.HgOutIdeal.nD Cert.HgOutIdeal.τ).loc Cert.HgOutIdeal.main_arg1)
      ∧ r.2.mem ((c.tc : Thread Cert.HgOutIdeal.nD Cert.HgOutIdeal.τ).loc Cert.HgOutIdeal.main_arg2) = m ((c.tc : Thread Cert.HgOutIdeal.nD Cert.HgOutIdeal.τ).loc Cert.HgOutIdeal.main_arg2)
      ∧ r.2.mem ((c.tc : Thread Cert.HgOutIdeal.nD Cert.HgOutIdeal.τ).loc Cert.HgOutIdeal.main_arg3) = m ((c.tc : Thread Cert.HgOutIdeal.nD Cert.HgOutIdeal.τ).loc Cert.HgOutIdeal.main_arg3))
      ∧ r.2.sem = fun _ => 0)

def quiescent_HgOutReferenceIdeal [hHgOutReferenceIdeal : Cert.HgOutReferenceIdeal.Facts] : Prop :=
  ∀ (m : (ℓ : Loc Cert.HgOutReferenceIdeal.nD Cert.HgOutReferenceIdeal.τ Cert.HgOutReferenceIdeal.sig) → Buf (Elt Ideal) ℓ) (g : Dev Cert.HgOutReferenceIdeal.nD → PrngReg), Pre_HgOutReferenceIdeal m →
    θ_run (Cert.HgOutReferenceIdeal.defs (F := Ideal)) (onTc (τ := Cert.HgOutReferenceIdeal.τ) (Cert.HgOutReferenceIdeal.main (F := Ideal))) ⟨m, fun _ => 0, g⟩ (fun r => (∀ c : Dev Cert.HgOutReferenceIdeal.nD,
      r.2.mem ((c.tc : Thread Cert.HgOutReferenceIdeal.nD Cert.HgOutReferenceIdeal.τ).loc Cert.HgOutReferenceIdeal.main_arg0) = m ((c.tc : Thread Cert.HgOutReferenceIdeal.nD Cert.HgOutReferenceIdeal.τ).loc Cert.HgOutReferenceIdeal.main_arg0)
      ∧ r.2.mem ((c.tc : Thread Cert.HgOutReferenceIdeal.nD Cert.HgOutReferenceIdeal.τ).loc Cert.HgOutReferenceIdeal.main_arg1) = m ((c.tc : Thread Cert.HgOutReferenceIdeal.nD Cert.HgOutReferenceIdeal.τ).loc Cert.HgOutReferenceIdeal.main_arg1)
      ∧ r.2.mem ((c.tc : Thread Cert.HgOutReferenceIdeal.nD Cert.HgOutReferenceIdeal.τ).loc Cert.HgOutReferenceIdeal.main_arg2) = m ((c.tc : Thread Cert.HgOutReferenceIdeal.nD Cert.HgOutReferenceIdeal.τ).loc Cert.HgOutReferenceIdeal.main_arg2)
      ∧ r.2.mem ((c.tc : Thread Cert.HgOutReferenceIdeal.nD Cert.HgOutReferenceIdeal.τ).loc Cert.HgOutReferenceIdeal.main_arg3) = m ((c.tc : Thread Cert.HgOutReferenceIdeal.nD Cert.HgOutReferenceIdeal.τ).loc Cert.HgOutReferenceIdeal.main_arg3))
      ∧ r.2.sem = fun _ => 0)

def quiescent_HgOutCtx [hHgOutCtx : Cert.HgOutCtx.Facts] : Prop :=
  ∀ (m : (ℓ : Loc Cert.HgOutCtx.nD Cert.HgOutCtx.τ Cert.HgOutCtx.sig) → Buf (Elt Bits) ℓ) (g : Dev Cert.HgOutCtx.nD → PrngReg), Pre_HgOutCtx m →
    θ_run (Cert.HgOutCtx.defs (F := Bits)) (onTc (τ := Cert.HgOutCtx.τ) (Cert.HgOutCtx.main (F := Bits))) ⟨m, fun _ => 0, g⟩ (fun r => (∀ c : Dev Cert.HgOutCtx.nD,
      r.2.mem ((c.tc : Thread Cert.HgOutCtx.nD Cert.HgOutCtx.τ).loc Cert.HgOutCtx.main_arg0) = m ((c.tc : Thread Cert.HgOutCtx.nD Cert.HgOutCtx.τ).loc Cert.HgOutCtx.main_arg0)
      ∧ r.2.mem ((c.tc : Thread Cert.HgOutCtx.nD Cert.HgOutCtx.τ).loc Cert.HgOutCtx.main_arg1) = m ((c.tc : Thread Cert.HgOutCtx.nD Cert.HgOutCtx.τ).loc Cert.HgOutCtx.main_arg1)
      ∧ r.2.mem ((c.tc : Thread Cert.HgOutCtx.nD Cert.HgOutCtx.τ).loc Cert.HgOutCtx.main_arg2) = m ((c.tc : Thread Cert.HgOutCtx.nD Cert.HgOutCtx.τ).loc Cert.HgOutCtx.main_arg2)
      ∧ r.2.mem ((c.tc : Thread Cert.HgOutCtx.nD Cert.HgOutCtx.τ).loc Cert.HgOutCtx.main_arg3) = m ((c.tc : Thread Cert.HgOutCtx.nD Cert.HgOutCtx.τ).loc Cert.HgOutCtx.main_arg3))
      ∧ r.2.sem = fun _ => 0)

def quiescent_HgOutCtxIdeal [hHgOutCtxIdeal : Cert.HgOutCtxIdeal.Facts] : Prop :=
  ∀ (m : (ℓ : Loc Cert.HgOutCtxIdeal.nD Cert.HgOutCtxIdeal.τ Cert.HgOutCtxIdeal.sig) → Buf (Elt Ideal) ℓ) (g : Dev Cert.HgOutCtxIdeal.nD → PrngReg), Pre_HgOutCtxIdeal m →
    θ_run (Cert.HgOutCtxIdeal.defs (F := Ideal)) (onTc (τ := Cert.HgOutCtxIdeal.τ) (Cert.HgOutCtxIdeal.main (F := Ideal))) ⟨m, fun _ => 0, g⟩ (fun r => (∀ c : Dev Cert.HgOutCtxIdeal.nD,
      r.2.mem ((c.tc : Thread Cert.HgOutCtxIdeal.nD Cert.HgOutCtxIdeal.τ).loc Cert.HgOutCtxIdeal.main_arg0) = m ((c.tc : Thread Cert.HgOutCtxIdeal.nD Cert.HgOutCtxIdeal.τ).loc Cert.HgOutCtxIdeal.main_arg0)
      ∧ r.2.mem ((c.tc : Thread Cert.HgOutCtxIdeal.nD Cert.HgOutCtxIdeal.τ).loc Cert.HgOutCtxIdeal.main_arg1) = m ((c.tc : Thread Cert.HgOutCtxIdeal.nD Cert.HgOutCtxIdeal.τ).loc Cert.HgOutCtxIdeal.main_arg1)
      ∧ r.2.mem ((c.tc : Thread Cert.HgOutCtxIdeal.nD Cert.HgOutCtxIdeal.τ).loc Cert.HgOutCtxIdeal.main_arg2) = m ((c.tc : Thread Cert.HgOutCtxIdeal.nD Cert.HgOutCtxIdeal.τ).loc Cert.HgOutCtxIdeal.main_arg2)
      ∧ r.2.mem ((c.tc : Thread Cert.HgOutCtxIdeal.nD Cert.HgOutCtxIdeal.τ).loc Cert.HgOutCtxIdeal.main_arg3) = m ((c.tc : Thread Cert.HgOutCtxIdeal.nD Cert.HgOutCtxIdeal.τ).loc Cert.HgOutCtxIdeal.main_arg3))
      ∧ r.2.sem = fun _ => 0)

def quiescent_HgOutCtxReferenceIdeal [hHgOutCtxReferenceIdeal : Cert.HgOutCtxReferenceIdeal.Facts] : Prop :=
  ∀ (m : (ℓ : Loc Cert.HgOutCtxReferenceIdeal.nD Cert.HgOutCtxReferenceIdeal.τ Cert.HgOutCtxReferenceIdeal.sig) → Buf (Elt Ideal) ℓ) (g : Dev Cert.HgOutCtxReferenceIdeal.nD → PrngReg), Pre_HgOutCtxReferenceIdeal m →
    θ_run (Cert.HgOutCtxReferenceIdeal.defs (F := Ideal)) (onTc (τ := Cert.HgOutCtxReferenceIdeal.τ) (Cert.HgOutCtxReferenceIdeal.main (F := Ideal))) ⟨m, fun _ => 0, g⟩ (fun r => (∀ c : Dev Cert.HgOutCtxReferenceIdeal.nD,
      r.2.mem ((c.tc : Thread Cert.HgOutCtxReferenceIdeal.nD Cert.HgOutCtxReferenceIdeal.τ).loc Cert.HgOutCtxReferenceIdeal.main_arg0) = m ((c.tc : Thread Cert.HgOutCtxReferenceIdeal.nD Cert.HgOutCtxReferenceIdeal.τ).loc Cert.HgOutCtxReferenceIdeal.main_arg0)
      ∧ r.2.mem ((c.tc : Thread Cert.HgOutCtxReferenceIdeal.nD Cert.HgOutCtxReferenceIdeal.τ).loc Cert.HgOutCtxReferenceIdeal.main_arg1) = m ((c.tc : Thread Cert.HgOutCtxReferenceIdeal.nD Cert.HgOutCtxReferenceIdeal.τ).loc Cert.HgOutCtxReferenceIdeal.main_arg1)
      ∧ r.2.mem ((c.tc : Thread Cert.HgOutCtxReferenceIdeal.nD Cert.HgOutCtxReferenceIdeal.τ).loc Cert.HgOutCtxReferenceIdeal.main_arg2) = m ((c.tc : Thread Cert.HgOutCtxReferenceIdeal.nD Cert.HgOutCtxReferenceIdeal.τ).loc Cert.HgOutCtxReferenceIdeal.main_arg2)
      ∧ r.2.mem ((c.tc : Thread Cert.HgOutCtxReferenceIdeal.nD Cert.HgOutCtxReferenceIdeal.τ).loc Cert.HgOutCtxReferenceIdeal.main_arg3) = m ((c.tc : Thread Cert.HgOutCtxReferenceIdeal.nD Cert.HgOutCtxReferenceIdeal.τ).loc Cert.HgOutCtxReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_MlpUp_MlpUpIdeal : Prop :=
  True

def algebraic_MlpUpIdeal_MlpUpReferenceIdeal [hMlpUpIdeal : Cert.MlpUpIdeal.Facts] [hMlpUpReferenceIdeal : Cert.MlpUpReferenceIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpReferenceIdeal.nD Cert.MlpUpReferenceIdeal.τ Cert.MlpUpReferenceIdeal.sig) → Buf (Elt Ideal) ℓ) (g' : Dev Cert.MlpUpReferenceIdeal.nD → PrngReg), Pre_MlpUpIdeal m →
    (∀ c : Dev Cert.MlpUpIdeal.nD,
      m' ((c.tc : Thread Cert.MlpUpReferenceIdeal.nD Cert.MlpUpReferenceIdeal.τ).loc Cert.MlpUpReferenceIdeal.main_arg0) = m ((c.tc : Thread Cert.MlpUpIdeal.nD Cert.MlpUpIdeal.τ).loc Cert.MlpUpIdeal.main_arg0)
      ∧ m' ((c.tc : Thread Cert.MlpUpReferenceIdeal.nD Cert.MlpUpReferenceIdeal.τ).loc Cert.MlpUpReferenceIdeal.main_arg1) = m ((c.tc : Thread Cert.MlpUpIdeal.nD Cert.MlpUpIdeal.τ).loc Cert.MlpUpIdeal.main_arg1)
      ∧ m' ((c.tc : Thread Cert.MlpUpReferenceIdeal.nD Cert.MlpUpReferenceIdeal.τ).loc Cert.MlpUpReferenceIdeal.main_arg2) = m ((c.tc : Thread Cert.MlpUpIdeal.nD Cert.MlpUpIdeal.τ).loc Cert.MlpUpIdeal.main_arg2)
      ∧ m' ((c.tc : Thread Cert.MlpUpReferenceIdeal.nD Cert.MlpUpReferenceIdeal.τ).loc Cert.MlpUpReferenceIdeal.main_arg3) = m ((c.tc : Thread Cert.MlpUpIdeal.nD Cert.MlpUpIdeal.τ).loc Cert.MlpUpIdeal.main_arg3)
      ∧ m' ((c.tc : Thread Cert.MlpUpReferenceIdeal.nD Cert.MlpUpReferenceIdeal.τ).loc Cert.MlpUpReferenceIdeal.main_arg4) = m ((c.tc : Thread Cert.MlpUpIdeal.nD Cert.MlpUpIdeal.τ).loc Cert.MlpUpIdeal.main_arg4)) →
    ∃ (v0 : (c : Dev Cert.MlpUpIdeal.nD) → Buf (Elt Ideal) ((c.tc : Thread Cert.MlpUpIdeal.nD Cert.MlpUpIdeal.τ).loc Cert.MlpUpIdeal.main_v2)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v2) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
          ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2)
          ∧ r.2.mem ((c.tc : Thread Cert.MlpUpIdeal.nD Cert.MlpUpIdeal.τ).loc Cert.MlpUpIdeal.main_arg3) = m ((c.tc : Thread Cert.MlpUpIdeal.nD Cert.MlpUpIdeal.τ).loc Cert.MlpUpIdeal.main_arg3)
          ∧ r.2.mem ((c.tc : Thread Cert.MlpUpIdeal.nD Cert.MlpUpIdeal.τ).loc Cert.MlpUpIdeal.main_arg4) = m ((c.tc : Thread Cert.MlpUpIdeal.nD Cert.MlpUpIdeal.τ).loc Cert.MlpUpIdeal.main_arg4))
      ∧ θ_run (Cert.MlpUpReferenceIdeal.defs (F := Ideal)) (onTc (τ := Cert.MlpUpReferenceIdeal.τ) (Cert.MlpUpReferenceIdeal.main (F := Ideal))) ⟨m', fun _ => 0, g'⟩ (fun r => ∀ c : Dev Cert.MlpUpReferenceIdeal.nD,
          r.2.mem ((c.tc : Thread Cert.MlpUpReferenceIdeal.nD Cert.MlpUpReferenceIdeal.τ).loc Cert.MlpUpReferenceIdeal.main_v22) = v0 c
          ∧ r.2.mem ((c.tc : Thread Cert.MlpUpReferenceIdeal.nD Cert.MlpUpReferenceIdeal.τ).loc Cert.MlpUpReferenceIdeal.main_arg0) = m' ((c.tc : Thread Cert.MlpUpReferenceIdeal.nD Cert.MlpUpReferenceIdeal.τ).loc Cert.MlpUpReferenceIdeal.main_arg0)
          ∧ r.2.mem ((c.tc : Thread Cert.MlpUpReferenceIdeal.nD Cert.MlpUpReferenceIdeal.τ).loc Cert.MlpUpReferenceIdeal.main_arg1) = m' ((c.tc : Thread Cert.MlpUpReferenceIdeal.nD Cert.MlpUpReferenceIdeal.τ).loc Cert.MlpUpReferenceIdeal.main_arg1)
          ∧ r.2.mem ((c.tc : Thread Cert.MlpUpReferenceIdeal.nD Cert.MlpUpReferenceIdeal.τ).loc Cert.MlpUpReferenceIdeal.main_arg2) = m' ((c.tc : Thread Cert.MlpUpReferenceIdeal.nD Cert.MlpUpReferenceIdeal.τ).loc Cert.MlpUpReferenceIdeal.main_arg2)
          ∧ r.2.mem ((c.tc : Thread Cert.MlpUpReferenceIdeal.nD Cert.MlpUpReferenceIdeal.τ).loc Cert.MlpUpReferenceIdeal.main_arg3) = m' ((c.tc : Thread Cert.MlpUpReferenceIdeal.nD Cert.MlpUpReferenceIdeal.τ).loc Cert.MlpUpReferenceIdeal.main_arg3)
          ∧ r.2.mem ((c.tc : Thread Cert.MlpUpReferenceIdeal.nD Cert.MlpUpReferenceIdeal.τ).loc Cert.MlpUpReferenceIdeal.main_arg4) = m' ((c.tc : Thread Cert.MlpUpReferenceIdeal.nD Cert.MlpUpReferenceIdeal.τ).loc Cert.MlpUpReferenceIdeal.main_arg4))

def preserves_MlpDown_MlpDownIdeal : Prop :=
  True

def algebraic_MlpDownIdeal_MlpDownReferenceIdeal [hMlpDownIdeal : Cert.MlpDownIdeal.Facts] [hMlpDownReferenceIdeal : Cert.MlpDownReferenceIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownReferenceIdeal.nD Cert.MlpDownReferenceIdeal.τ Cert.MlpDownReferenceIdeal.sig) → Buf (Elt Ideal) ℓ) (g' : Dev Cert.MlpDownReferenceIdeal.nD → PrngReg), Pre_MlpDownIdeal m →
    (∀ c : Dev Cert.MlpDownIdeal.nD,
      m' ((c.tc : Thread Cert.MlpDownReferenceIdeal.nD Cert.MlpDownReferenceIdeal.τ).loc Cert.MlpDownReferenceIdeal.main_arg0) = m ((c.tc : Thread Cert.MlpDownIdeal.nD Cert.MlpDownIdeal.τ).loc Cert.MlpDownIdeal.main_arg0)
      ∧ m' ((c.tc : Thread Cert.MlpDownReferenceIdeal.nD Cert.MlpDownReferenceIdeal.τ).loc Cert.MlpDownReferenceIdeal.main_arg1) = m ((c.tc : Thread Cert.MlpDownIdeal.nD Cert.MlpDownIdeal.τ).loc Cert.MlpDownIdeal.main_arg1)
      ∧ m' ((c.tc : Thread Cert.MlpDownReferenceIdeal.nD Cert.MlpDownReferenceIdeal.τ).loc Cert.MlpDownReferenceIdeal.main_arg2) = m ((c.tc : Thread Cert.MlpDownIdeal.nD Cert.MlpDownIdeal.τ).loc Cert.MlpDownIdeal.main_arg2)
      ∧ m' ((c.tc : Thread Cert.MlpDownReferenceIdeal.nD Cert.MlpDownReferenceIdeal.τ).loc Cert.MlpDownReferenceIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v1)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v1) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownReferenceIdeal.defs (F := Ideal)) (onTc (τ := Cert.MlpDownReferenceIdeal.τ) (Cert.MlpDownReferenceIdeal.main (F := Ideal))) ⟨m', fun _ => 0, g'⟩ (fun r => ∀ c : Dev Cert.MlpDownReferenceIdeal.nD,
          r.2.mem ((c.tc : Thread Cert.MlpDownReferenceIdeal.nD Cert.MlpDownReferenceIdeal.τ).loc Cert.MlpDownReferenceIdeal.main_v4) = v0 c
          ∧ r.2.mem ((c.tc : Thread Cert.MlpDownReferenceIdeal.nD Cert.MlpDownReferenceIdeal.τ).loc Cert.MlpDownReferenceIdeal.main_arg0) = m' ((c.tc : Thread Cert.MlpDownReferenceIdeal.nD Cert.MlpDownReferenceIdeal.τ).loc Cert.MlpDownReferenceIdeal.main_arg0)
          ∧ r.2.mem ((c.tc : Thread Cert.MlpDownReferenceIdeal.nD Cert.MlpDownReferenceIdeal.τ).loc Cert.MlpDownReferenceIdeal.main_arg1) = m' ((c.tc : Thread Cert.MlpDownReferenceIdeal.nD Cert.MlpDownReferenceIdeal.τ).loc Cert.MlpDownReferenceIdeal.main_arg1)
          ∧ r.2.mem ((c.tc : Thread Cert.MlpDownReferenceIdeal.nD Cert.MlpDownReferenceIdeal.τ).loc Cert.MlpDownReferenceIdeal.main_arg2) = m' ((c.tc : Thread Cert.MlpDownReferenceIdeal.nD Cert.MlpDownReferenceIdeal.τ).loc Cert.MlpDownReferenceIdeal.main_arg2)
          ∧ r.2.mem ((c.tc : Thread Cert.MlpDownReferenceIdeal.nD Cert.MlpDownReferenceIdeal.τ).loc Cert.MlpDownReferenceIdeal.main_arg3) = m' ((c.tc : Thread Cert.MlpDownReferenceIdeal.nD Cert.MlpDownReferenceIdeal.τ).loc Cert.MlpDownReferenceIdeal.main_arg3))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v8) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6))

def preserves_InProj_InProjIdeal : Prop :=
  True

def algebraic_InProjIdeal_InProjReferenceIdeal_pre_finite_in [hInProjIdeal : Cert.InProjIdeal.Facts] [hInProjReferenceIdeal : Cert.InProjReferenceIdeal.Facts] [hPre_finite_in : Cert.Pre_finite_in.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal_finite_in m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v57)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v57) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v32) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)
      ∧ m' ((c.tc : Thread Cert.ModReferenceIdeal.nD Cert.ModReferenceIdeal.τ).loc Cert.ModReferenceIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v4)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v4) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v7) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3))

def preserves_MlpUpCtx_MlpUpCtxIdeal : Prop :=
  True

def algebraic_MlpUpCtxIdeal_MlpUpCtxReferenceIdeal [hMlpUpCtxIdeal : Cert.MlpUpCtxIdeal.Facts] [hMlpUpCtxReferenceIdeal : Cert.MlpUpCtxReferenceIdeal.Facts] : Prop :=
  ∀ (m : (ℓ : Loc Cert.MlpUpCtxIdeal.nD Cert.MlpUpCtxIdeal.τ Cert.MlpUpCtxIdeal.sig) → Buf (Elt Ideal) ℓ) (g : Dev Cert.MlpUpCtxIdeal.nD → PrngReg)
    (m' : (ℓ : Loc Cert.MlpUpCtxReferenceIdeal.nD Cert.MlpUpCtxReferenceIdeal.τ Cert.MlpUpCtxReferenceIdeal.sig) → Buf (Elt Ideal) ℓ) (g' : Dev Cert.MlpUpCtxReferenceIdeal.nD → PrngReg), Pre_MlpUpCtxIdeal m →
    (∀ c : Dev Cert.MlpUpCtxIdeal.nD,
      m' ((c.tc : Thread Cert.MlpUpCtxReferenceIdeal.nD Cert.MlpUpCtxReferenceIdeal.τ).loc Cert.MlpUpCtxReferenceIdeal.main_arg0) = m ((c.tc : Thread Cert.MlpUpCtxIdeal.nD Cert.MlpUpCtxIdeal.τ).loc Cert.MlpUpCtxIdeal.main_arg0)
      ∧ m' ((c.tc : Thread Cert.MlpUpCtxReferenceIdeal.nD Cert.MlpUpCtxReferenceIdeal.τ).loc Cert.MlpUpCtxReferenceIdeal.main_arg1) = m ((c.tc : Thread Cert.MlpUpCtxIdeal.nD Cert.MlpUpCtxIdeal.τ).loc Cert.MlpUpCtxIdeal.main_arg1)
      ∧ m' ((c.tc : Thread Cert.MlpUpCtxReferenceIdeal.nD Cert.MlpUpCtxReferenceIdeal.τ).loc Cert.MlpUpCtxReferenceIdeal.main_arg2) = m ((c.tc : Thread Cert.MlpUpCtxIdeal.nD Cert.MlpUpCtxIdeal.τ).loc Cert.MlpUpCtxIdeal.main_arg2)
      ∧ m' ((c.tc : Thread Cert.MlpUpCtxReferenceIdeal.nD Cert.MlpUpCtxReferenceIdeal.τ).loc Cert.MlpUpCtxReferenceIdeal.main_arg3) = m ((c.tc : Thread Cert.MlpUpCtxIdeal.nD Cert.MlpUpCtxIdeal.τ).loc Cert.MlpUpCtxIdeal.main_arg3)
      ∧ m' ((c.tc : Thread Cert.MlpUpCtxReferenceIdeal.nD Cert.MlpUpCtxReferenceIdeal.τ).loc Cert.MlpUpCtxReferenceIdeal.main_arg4) = m ((c.tc : Thread Cert.MlpUpCtxIdeal.nD Cert.MlpUpCtxIdeal.τ).loc Cert.MlpUpCtxIdeal.main_arg4)) →
    ∃ (v0 : (c : Dev Cert.MlpUpCtxIdeal.nD) → Buf (Elt Ideal) ((c.tc : Thread Cert.MlpUpCtxIdeal.nD Cert.MlpUpCtxIdeal.τ).loc Cert.MlpUpCtxIdeal.main_v2)),
      θ_run (Cert.MlpUpCtxIdeal.defs (F := Ideal)) (onTc (τ := Cert.MlpUpCtxIdeal.τ) (Cert.MlpUpCtxIdeal.main (F := Ideal))) ⟨m, fun _ => 0, g⟩ (fun r => ∀ c : Dev Cert.MlpUpCtxIdeal.nD,
          r.2.mem ((c.tc : Thread Cert.MlpUpCtxIdeal.nD Cert.MlpUpCtxIdeal.τ).loc Cert.MlpUpCtxIdeal.main_v2) = v0 c
          ∧ r.2.mem ((c.tc : Thread Cert.MlpUpCtxIdeal.nD Cert.MlpUpCtxIdeal.τ).loc Cert.MlpUpCtxIdeal.main_arg0) = m ((c.tc : Thread Cert.MlpUpCtxIdeal.nD Cert.MlpUpCtxIdeal.τ).loc Cert.MlpUpCtxIdeal.main_arg0)
          ∧ r.2.mem ((c.tc : Thread Cert.MlpUpCtxIdeal.nD Cert.MlpUpCtxIdeal.τ).loc Cert.MlpUpCtxIdeal.main_arg1) = m ((c.tc : Thread Cert.MlpUpCtxIdeal.nD Cert.MlpUpCtxIdeal.τ).loc Cert.MlpUpCtxIdeal.main_arg1)
          ∧ r.2.mem ((c.tc : Thread Cert.MlpUpCtxIdeal.nD Cert.MlpUpCtxIdeal.τ).loc Cert.MlpUpCtxIdeal.main_arg2) = m ((c.tc : Thread Cert.MlpUpCtxIdeal.nD Cert.MlpUpCtxIdeal.τ).loc Cert.MlpUpCtxIdeal.main_arg2)
          ∧ r.2.mem ((c.tc : Thread Cert.MlpUpCtxIdeal.nD Cert.MlpUpCtxIdeal.τ).loc Cert.MlpUpCtxIdeal.main_arg3) = m ((c.tc : Thread Cert.MlpUpCtxIdeal.nD Cert.MlpUpCtxIdeal.τ).loc Cert.MlpUpCtxIdeal.main_arg3)
          ∧ r.2.mem ((c.tc : Thread Cert.MlpUpCtxIdeal.nD Cert.MlpUpCtxIdeal.τ).loc Cert.MlpUpCtxIdeal.main_arg4) = m ((c.tc : Thread Cert.MlpUpCtxIdeal.nD Cert.MlpUpCtxIdeal.τ).loc Cert.MlpUpCtxIdeal.main_arg4))
      ∧ θ_run (Cert.MlpUpCtxReferenceIdeal.defs (F := Ideal)) (onTc (τ := Cert.MlpUpCtxReferenceIdeal.τ) (Cert.MlpUpCtxReferenceIdeal.main (F := Ideal))) ⟨m', fun _ => 0, g'⟩ (fun r => ∀ c : Dev Cert.MlpUpCtxReferenceIdeal.nD,
          r.2.mem ((c.tc : Thread Cert.MlpUpCtxReferenceIdeal.nD Cert.MlpUpCtxReferenceIdeal.τ).loc Cert.MlpUpCtxReferenceIdeal.main_v22) = v0 c
          ∧ r.2.mem ((c.tc : Thread Cert.MlpUpCtxReferenceIdeal.nD Cert.MlpUpCtxReferenceIdeal.τ).loc Cert.MlpUpCtxReferenceIdeal.main_arg0) = m' ((c.tc : Thread Cert.MlpUpCtxReferenceIdeal.nD Cert.MlpUpCtxReferenceIdeal.τ).loc Cert.MlpUpCtxReferenceIdeal.main_arg0)
          ∧ r.2.mem ((c.tc : Thread Cert.MlpUpCtxReferenceIdeal.nD Cert.MlpUpCtxReferenceIdeal.τ).loc Cert.MlpUpCtxReferenceIdeal.main_arg1) = m' ((c.tc : Thread Cert.MlpUpCtxReferenceIdeal.nD Cert.MlpUpCtxReferenceIdeal.τ).loc Cert.MlpUpCtxReferenceIdeal.main_arg1)
          ∧ r.2.mem ((c.tc : Thread Cert.MlpUpCtxReferenceIdeal.nD Cert.MlpUpCtxReferenceIdeal.τ).loc Cert.MlpUpCtxReferenceIdeal.main_arg2) = m' ((c.tc : Thread Cert.MlpUpCtxReferenceIdeal.nD Cert.MlpUpCtxReferenceIdeal.τ).loc Cert.MlpUpCtxReferenceIdeal.main_arg2)
          ∧ r.2.mem ((c.tc : Thread Cert.MlpUpCtxReferenceIdeal.nD Cert.MlpUpCtxReferenceIdeal.τ).loc Cert.MlpUpCtxReferenceIdeal.main_arg3) = m' ((c.tc : Thread Cert.MlpUpCtxReferenceIdeal.nD Cert.MlpUpCtxReferenceIdeal.τ).loc Cert.MlpUpCtxReferenceIdeal.main_arg3)
          ∧ r.2.mem ((c.tc : Thread Cert.MlpUpCtxReferenceIdeal.nD Cert.MlpUpCtxReferenceIdeal.τ).loc Cert.MlpUpCtxReferenceIdeal.main_arg4) = m' ((c.tc : Thread Cert.MlpUpCtxReferenceIdeal.nD Cert.MlpUpCtxReferenceIdeal.τ).loc Cert.MlpUpCtxReferenceIdeal.main_arg4))

def preserves_MlpDownCtx_MlpDownCtxIdeal : Prop :=
  True

def algebraic_MlpDownCtxIdeal_MlpDownCtxReferenceIdeal [hMlpDownCtxIdeal : Cert.MlpDownCtxIdeal.Facts] [hMlpDownCtxReferenceIdeal : Cert.MlpDownCtxReferenceIdeal.Facts] : Prop :=
  ∀ (m : (ℓ : Loc Cert.MlpDownCtxIdeal.nD Cert.MlpDownCtxIdeal.τ Cert.MlpDownCtxIdeal.sig) → Buf (Elt Ideal) ℓ) (g : Dev Cert.MlpDownCtxIdeal.nD → PrngReg)
    (m' : (ℓ : Loc Cert.MlpDownCtxReferenceIdeal.nD Cert.MlpDownCtxReferenceIdeal.τ Cert.MlpDownCtxReferenceIdeal.sig) → Buf (Elt Ideal) ℓ) (g' : Dev Cert.MlpDownCtxReferenceIdeal.nD → PrngReg), Pre_MlpDownCtxIdeal m →
    (∀ c : Dev Cert.MlpDownCtxIdeal.nD,
      m' ((c.tc : Thread Cert.MlpDownCtxReferenceIdeal.nD Cert.MlpDownCtxReferenceIdeal.τ).loc Cert.MlpDownCtxReferenceIdeal.main_arg0) = m ((c.tc : Thread Cert.MlpDownCtxIdeal.nD Cert.MlpDownCtxIdeal.τ).loc Cert.MlpDownCtxIdeal.main_arg0)
      ∧ m' ((c.tc : Thread Cert.MlpDownCtxReferenceIdeal.nD Cert.MlpDownCtxReferenceIdeal.τ).loc Cert.MlpDownCtxReferenceIdeal.main_arg1) = m ((c.tc : Thread Cert.MlpDownCtxIdeal.nD Cert.MlpDownCtxIdeal.τ).loc Cert.MlpDownCtxIdeal.main_arg1)
      ∧ m' ((c.tc : Thread Cert.MlpDownCtxReferenceIdeal.nD Cert.MlpDownCtxReferenceIdeal.τ).loc Cert.MlpDownCtxReferenceIdeal.main_arg2) = m ((c.tc : Thread Cert.MlpDownCtxIdeal.nD Cert.MlpDownCtxIdeal.τ).loc Cert.MlpDownCtxIdeal.main_arg2)
      ∧ m' ((c.tc : Thread Cert.MlpDownCtxReferenceIdeal.nD Cert.MlpDownCtxReferenceIdeal.τ).loc Cert.MlpDownCtxReferenceIdeal.main_arg3) = m ((c.tc : Thread Cert.MlpDownCtxIdeal.nD Cert.MlpDownCtxIdeal.τ).loc Cert.MlpDownCtxIdeal.main_arg3)) →
    ∃ (v0 : (c : Dev Cert.MlpDownCtxIdeal.nD) → Buf (Elt Ideal) ((c.tc : Thread Cert.MlpDownCtxIdeal.nD Cert.MlpDownCtxIdeal.τ).loc Cert.MlpDownCtxIdeal.main_v1)),
      θ_run (Cert.MlpDownCtxIdeal.defs (F := Ideal)) (onTc (τ := Cert.MlpDownCtxIdeal.τ) (Cert.MlpDownCtxIdeal.main (F := Ideal))) ⟨m, fun _ => 0, g⟩ (fun r => ∀ c : Dev Cert.MlpDownCtxIdeal.nD,
          r.2.mem ((c.tc : Thread Cert.MlpDownCtxIdeal.nD Cert.MlpDownCtxIdeal.τ).loc Cert.MlpDownCtxIdeal.main_v1) = v0 c
          ∧ r.2.mem ((c.tc : Thread Cert.MlpDownCtxIdeal.nD Cert.MlpDownCtxIdeal.τ).loc Cert.MlpDownCtxIdeal.main_arg0) = m ((c.tc : Thread Cert.MlpDownCtxIdeal.nD Cert.MlpDownCtxIdeal.τ).loc Cert.MlpDownCtxIdeal.main_arg0)
          ∧ r.2.mem ((c.tc : Thread Cert.MlpDownCtxIdeal.nD Cert.MlpDownCtxIdeal.τ).loc Cert.MlpDownCtxIdeal.main_arg1) = m ((c.tc : Thread Cert.MlpDownCtxIdeal.nD Cert.MlpDownCtxIdeal.τ).loc Cert.MlpDownCtxIdeal.main_arg1)
          ∧ r.2.mem ((c.tc : Thread Cert.MlpDownCtxIdeal.nD Cert.MlpDownCtxIdeal.τ).loc Cert.MlpDownCtxIdeal.main_arg2) = m ((c.tc : Thread Cert.MlpDownCtxIdeal.nD Cert.MlpDownCtxIdeal.τ).loc Cert.MlpDownCtxIdeal.main_arg2)
          ∧ r.2.mem ((c.tc : Thread Cert.MlpDownCtxIdeal.nD Cert.MlpDownCtxIdeal.τ).loc Cert.MlpDownCtxIdeal.main_arg3) = m ((c.tc : Thread Cert.MlpDownCtxIdeal.nD Cert.MlpDownCtxIdeal.τ).loc Cert.MlpDownCtxIdeal.main_arg3))
      ∧ θ_run (Cert.MlpDownCtxReferenceIdeal.defs (F := Ideal)) (onTc (τ := Cert.MlpDownCtxReferenceIdeal.τ) (Cert.MlpDownCtxReferenceIdeal.main (F := Ideal))) ⟨m', fun _ => 0, g'⟩ (fun r => ∀ c : Dev Cert.MlpDownCtxReferenceIdeal.nD,
          r.2.mem ((c.tc : Thread Cert.MlpDownCtxReferenceIdeal.nD Cert.MlpDownCtxReferenceIdeal.τ).loc Cert.MlpDownCtxReferenceIdeal.main_v4) = v0 c
          ∧ r.2.mem ((c.tc : Thread Cert.MlpDownCtxReferenceIdeal.nD Cert.MlpDownCtxReferenceIdeal.τ).loc Cert.MlpDownCtxReferenceIdeal.main_arg0) = m' ((c.tc : Thread Cert.MlpDownCtxReferenceIdeal.nD Cert.MlpDownCtxReferenceIdeal.τ).loc Cert.MlpDownCtxReferenceIdeal.main_arg0)
          ∧ r.2.mem ((c.tc : Thread Cert.MlpDownCtxReferenceIdeal.nD Cert.MlpDownCtxReferenceIdeal.τ).loc Cert.MlpDownCtxReferenceIdeal.main_arg1) = m' ((c.tc : Thread Cert.MlpDownCtxReferenceIdeal.nD Cert.MlpDownCtxReferenceIdeal.τ).loc Cert.MlpDownCtxReferenceIdeal.main_arg1)
          ∧ r.2.mem ((c.tc : Thread Cert.MlpDownCtxReferenceIdeal.nD Cert.MlpDownCtxReferenceIdeal.τ).loc Cert.MlpDownCtxReferenceIdeal.main_arg2) = m' ((c.tc : Thread Cert.MlpDownCtxReferenceIdeal.nD Cert.MlpDownCtxReferenceIdeal.τ).loc Cert.MlpDownCtxReferenceIdeal.main_arg2)
          ∧ r.2.mem ((c.tc : Thread Cert.MlpDownCtxReferenceIdeal.nD Cert.MlpDownCtxReferenceIdeal.τ).loc Cert.MlpDownCtxReferenceIdeal.main_arg3) = m' ((c.tc : Thread Cert.MlpDownCtxReferenceIdeal.nD Cert.MlpDownCtxReferenceIdeal.τ).loc Cert.MlpDownCtxReferenceIdeal.main_arg3))

def preserves_MixCtx_MixCtxIdeal : Prop :=
  True

def algebraic_MixCtxIdeal_MixCtxReferenceIdeal [hMixCtxIdeal : Cert.MixCtxIdeal.Facts] [hMixCtxReferenceIdeal : Cert.MixCtxReferenceIdeal.Facts] : Prop :=
  ∀ (m : (ℓ : Loc Cert.MixCtxIdeal.nD Cert.MixCtxIdeal.τ Cert.MixCtxIdeal.sig) → Buf (Elt Ideal) ℓ) (g : Dev Cert.MixCtxIdeal.nD → PrngReg)
    (m' : (ℓ : Loc Cert.MixCtxReferenceIdeal.nD Cert.MixCtxReferenceIdeal.τ Cert.MixCtxReferenceIdeal.sig) → Buf (Elt Ideal) ℓ) (g' : Dev Cert.MixCtxReferenceIdeal.nD → PrngReg), Pre_MixCtxIdeal m →
    (∀ c : Dev Cert.MixCtxIdeal.nD,
      m' ((c.tc : Thread Cert.MixCtxReferenceIdeal.nD Cert.MixCtxReferenceIdeal.τ).loc Cert.MixCtxReferenceIdeal.main_arg0) = m ((c.tc : Thread Cert.MixCtxIdeal.nD Cert.MixCtxIdeal.τ).loc Cert.MixCtxIdeal.main_arg0)
      ∧ m' ((c.tc : Thread Cert.MixCtxReferenceIdeal.nD Cert.MixCtxReferenceIdeal.τ).loc Cert.MixCtxReferenceIdeal.main_arg1) = m ((c.tc : Thread Cert.MixCtxIdeal.nD Cert.MixCtxIdeal.τ).loc Cert.MixCtxIdeal.main_arg1)
      ∧ m' ((c.tc : Thread Cert.MixCtxReferenceIdeal.nD Cert.MixCtxReferenceIdeal.τ).loc Cert.MixCtxReferenceIdeal.main_arg2) = m ((c.tc : Thread Cert.MixCtxIdeal.nD Cert.MixCtxIdeal.τ).loc Cert.MixCtxIdeal.main_arg2)
      ∧ m' ((c.tc : Thread Cert.MixCtxReferenceIdeal.nD Cert.MixCtxReferenceIdeal.τ).loc Cert.MixCtxReferenceIdeal.main_arg3) = m ((c.tc : Thread Cert.MixCtxIdeal.nD Cert.MixCtxIdeal.τ).loc Cert.MixCtxIdeal.main_arg3)
      ∧ m' ((c.tc : Thread Cert.MixCtxReferenceIdeal.nD Cert.MixCtxReferenceIdeal.τ).loc Cert.MixCtxReferenceIdeal.main_arg4) = m ((c.tc : Thread Cert.MixCtxIdeal.nD Cert.MixCtxIdeal.τ).loc Cert.MixCtxIdeal.main_arg4)
      ∧ m' ((c.tc : Thread Cert.MixCtxReferenceIdeal.nD Cert.MixCtxReferenceIdeal.τ).loc Cert.MixCtxReferenceIdeal.main_arg5) = m ((c.tc : Thread Cert.MixCtxIdeal.nD Cert.MixCtxIdeal.τ).loc Cert.MixCtxIdeal.main_arg5)
      ∧ m' ((c.tc : Thread Cert.MixCtxReferenceIdeal.nD Cert.MixCtxReferenceIdeal.τ).loc Cert.MixCtxReferenceIdeal.main_arg6) = m ((c.tc : Thread Cert.MixCtxIdeal.nD Cert.MixCtxIdeal.τ).loc Cert.MixCtxIdeal.main_arg6)) →
    ∃ (v0 : (c : Dev Cert.MixCtxIdeal.nD) → Buf (Elt Ideal) ((c.tc : Thread Cert.MixCtxIdeal.nD Cert.MixCtxIdeal.τ).loc Cert.MixCtxIdeal.main_v1)),
      θ_run (Cert.MixCtxIdeal.defs (F := Ideal)) (onTc (τ := Cert.MixCtxIdeal.τ) (Cert.MixCtxIdeal.main (F := Ideal))) ⟨m, fun _ => 0, g⟩ (fun r => ∀ c : Dev Cert.MixCtxIdeal.nD,
          r.2.mem ((c.tc : Thread Cert.MixCtxIdeal.nD Cert.MixCtxIdeal.τ).loc Cert.MixCtxIdeal.main_v1) = v0 c
          ∧ r.2.mem ((c.tc : Thread Cert.MixCtxIdeal.nD Cert.MixCtxIdeal.τ).loc Cert.MixCtxIdeal.main_arg0) = m ((c.tc : Thread Cert.MixCtxIdeal.nD Cert.MixCtxIdeal.τ).loc Cert.MixCtxIdeal.main_arg0)
          ∧ r.2.mem ((c.tc : Thread Cert.MixCtxIdeal.nD Cert.MixCtxIdeal.τ).loc Cert.MixCtxIdeal.main_arg1) = m ((c.tc : Thread Cert.MixCtxIdeal.nD Cert.MixCtxIdeal.τ).loc Cert.MixCtxIdeal.main_arg1)
          ∧ r.2.mem ((c.tc : Thread Cert.MixCtxIdeal.nD Cert.MixCtxIdeal.τ).loc Cert.MixCtxIdeal.main_arg2) = m ((c.tc : Thread Cert.MixCtxIdeal.nD Cert.MixCtxIdeal.τ).loc Cert.MixCtxIdeal.main_arg2)
          ∧ r.2.mem ((c.tc : Thread Cert.MixCtxIdeal.nD Cert.MixCtxIdeal.τ).loc Cert.MixCtxIdeal.main_arg3) = m ((c.tc : Thread Cert.MixCtxIdeal.nD Cert.MixCtxIdeal.τ).loc Cert.MixCtxIdeal.main_arg3)
          ∧ r.2.mem ((c.tc : Thread Cert.MixCtxIdeal.nD Cert.MixCtxIdeal.τ).loc Cert.MixCtxIdeal.main_arg4) = m ((c.tc : Thread Cert.MixCtxIdeal.nD Cert.MixCtxIdeal.τ).loc Cert.MixCtxIdeal.main_arg4)
          ∧ r.2.mem ((c.tc : Thread Cert.MixCtxIdeal.nD Cert.MixCtxIdeal.τ).loc Cert.MixCtxIdeal.main_arg5) = m ((c.tc : Thread Cert.MixCtxIdeal.nD Cert.MixCtxIdeal.τ).loc Cert.MixCtxIdeal.main_arg5)
          ∧ r.2.mem ((c.tc : Thread Cert.MixCtxIdeal.nD Cert.MixCtxIdeal.τ).loc Cert.MixCtxIdeal.main_arg6) = m ((c.tc : Thread Cert.MixCtxIdeal.nD Cert.MixCtxIdeal.τ).loc Cert.MixCtxIdeal.main_arg6))
      ∧ θ_run (Cert.MixCtxReferenceIdeal.defs (F := Ideal)) (onTc (τ := Cert.MixCtxReferenceIdeal.τ) (Cert.MixCtxReferenceIdeal.main (F := Ideal))) ⟨m', fun _ => 0, g'⟩ (fun r => ∀ c : Dev Cert.MixCtxReferenceIdeal.nD,
          r.2.mem ((c.tc : Thread Cert.MixCtxReferenceIdeal.nD Cert.MixCtxReferenceIdeal.τ).loc Cert.MixCtxReferenceIdeal.main_v8) = v0 c
          ∧ r.2.mem ((c.tc : Thread Cert.MixCtxReferenceIdeal.nD Cert.MixCtxReferenceIdeal.τ).loc Cert.MixCtxReferenceIdeal.main_arg0) = m' ((c.tc : Thread Cert.MixCtxReferenceIdeal.nD Cert.MixCtxReferenceIdeal.τ).loc Cert.MixCtxReferenceIdeal.main_arg0)
          ∧ r.2.mem ((c.tc : Thread Cert.MixCtxReferenceIdeal.nD Cert.MixCtxReferenceIdeal.τ).loc Cert.MixCtxReferenceIdeal.main_arg1) = m' ((c.tc : Thread Cert.MixCtxReferenceIdeal.nD Cert.MixCtxReferenceIdeal.τ).loc Cert.MixCtxReferenceIdeal.main_arg1)
          ∧ r.2.mem ((c.tc : Thread Cert.MixCtxReferenceIdeal.nD Cert.MixCtxReferenceIdeal.τ).loc Cert.MixCtxReferenceIdeal.main_arg2) = m' ((c.tc : Thread Cert.MixCtxReferenceIdeal.nD Cert.MixCtxReferenceIdeal.τ).loc Cert.MixCtxReferenceIdeal.main_arg2)
          ∧ r.2.mem ((c.tc : Thread Cert.MixCtxReferenceIdeal.nD Cert.MixCtxReferenceIdeal.τ).loc Cert.MixCtxReferenceIdeal.main_arg3) = m' ((c.tc : Thread Cert.MixCtxReferenceIdeal.nD Cert.MixCtxReferenceIdeal.τ).loc Cert.MixCtxReferenceIdeal.main_arg3)
          ∧ r.2.mem ((c.tc : Thread Cert.MixCtxReferenceIdeal.nD Cert.MixCtxReferenceIdeal.τ).loc Cert.MixCtxReferenceIdeal.main_arg4) = m' ((c.tc : Thread Cert.MixCtxReferenceIdeal.nD Cert.MixCtxReferenceIdeal.τ).loc Cert.MixCtxReferenceIdeal.main_arg4)
          ∧ r.2.mem ((c.tc : Thread Cert.MixCtxReferenceIdeal.nD Cert.MixCtxReferenceIdeal.τ).loc Cert.MixCtxReferenceIdeal.main_arg5) = m' ((c.tc : Thread Cert.MixCtxReferenceIdeal.nD Cert.MixCtxReferenceIdeal.τ).loc Cert.MixCtxReferenceIdeal.main_arg5)
          ∧ r.2.mem ((c.tc : Thread Cert.MixCtxReferenceIdeal.nD Cert.MixCtxReferenceIdeal.τ).loc Cert.MixCtxReferenceIdeal.main_arg6) = m' ((c.tc : Thread Cert.MixCtxReferenceIdeal.nD Cert.MixCtxReferenceIdeal.τ).loc Cert.MixCtxReferenceIdeal.main_arg6))

def preserves_InProjCtx_InProjCtxIdeal : Prop :=
  True

def algebraic_InProjCtxIdeal_InProjCtxReferenceIdeal_pre_finite_in_ctx [hInProjCtxIdeal : Cert.InProjCtxIdeal.Facts] [hInProjCtxReferenceIdeal : Cert.InProjCtxReferenceIdeal.Facts] [hPre_finite_in_ctx : Cert.Pre_finite_in_ctx.Facts] : Prop :=
  ∀ (m : (ℓ : Loc Cert.InProjCtxIdeal.nD Cert.InProjCtxIdeal.τ Cert.InProjCtxIdeal.sig) → Buf (Elt Ideal) ℓ) (g : Dev Cert.InProjCtxIdeal.nD → PrngReg)
    (m' : (ℓ : Loc Cert.InProjCtxReferenceIdeal.nD Cert.InProjCtxReferenceIdeal.τ Cert.InProjCtxReferenceIdeal.sig) → Buf (Elt Ideal) ℓ) (g' : Dev Cert.InProjCtxReferenceIdeal.nD → PrngReg), Pre_InProjCtxIdeal_finite_in_ctx m →
    (∀ c : Dev Cert.InProjCtxIdeal.nD,
      m' ((c.tc : Thread Cert.InProjCtxReferenceIdeal.nD Cert.InProjCtxReferenceIdeal.τ).loc Cert.InProjCtxReferenceIdeal.main_arg0) = m ((c.tc : Thread Cert.InProjCtxIdeal.nD Cert.InProjCtxIdeal.τ).loc Cert.InProjCtxIdeal.main_arg0)
      ∧ m' ((c.tc : Thread Cert.InProjCtxReferenceIdeal.nD Cert.InProjCtxReferenceIdeal.τ).loc Cert.InProjCtxReferenceIdeal.main_arg1) = m ((c.tc : Thread Cert.InProjCtxIdeal.nD Cert.InProjCtxIdeal.τ).loc Cert.InProjCtxIdeal.main_arg1)
      ∧ m' ((c.tc : Thread Cert.InProjCtxReferenceIdeal.nD Cert.InProjCtxReferenceIdeal.τ).loc Cert.InProjCtxReferenceIdeal.main_arg2) = m ((c.tc : Thread Cert.InProjCtxIdeal.nD Cert.InProjCtxIdeal.τ).loc Cert.InProjCtxIdeal.main_arg2)
      ∧ m' ((c.tc : Thread Cert.InProjCtxReferenceIdeal.nD Cert.InProjCtxReferenceIdeal.τ).loc Cert.InProjCtxReferenceIdeal.main_arg3) = m ((c.tc : Thread Cert.InProjCtxIdeal.nD Cert.InProjCtxIdeal.τ).loc Cert.InProjCtxIdeal.main_arg3)
      ∧ m' ((c.tc : Thread Cert.InProjCtxReferenceIdeal.nD Cert.InProjCtxReferenceIdeal.τ).loc Cert.InProjCtxReferenceIdeal.main_arg4) = m ((c.tc : Thread Cert.InProjCtxIdeal.nD Cert.InProjCtxIdeal.τ).loc Cert.InProjCtxIdeal.main_arg4)) →
    ∃ (v0 : (c : Dev Cert.InProjCtxIdeal.nD) → Buf (Elt Ideal) ((c.tc : Thread Cert.InProjCtxIdeal.nD Cert.InProjCtxIdeal.τ).loc Cert.InProjCtxIdeal.main_v57)),
      θ_run (Cert.InProjCtxIdeal.defs (F := Ideal)) (onTc (τ := Cert.InProjCtxIdeal.τ) (Cert.InProjCtxIdeal.main (F := Ideal))) ⟨m, fun _ => 0, g⟩ (fun r => ∀ c : Dev Cert.InProjCtxIdeal.nD,
          r.2.mem ((c.tc : Thread Cert.InProjCtxIdeal.nD Cert.InProjCtxIdeal.τ).loc Cert.InProjCtxIdeal.main_v57) = v0 c
          ∧ r.2.mem ((c.tc : Thread Cert.InProjCtxIdeal.nD Cert.InProjCtxIdeal.τ).loc Cert.InProjCtxIdeal.main_arg0) = m ((c.tc : Thread Cert.InProjCtxIdeal.nD Cert.InProjCtxIdeal.τ).loc Cert.InProjCtxIdeal.main_arg0)
          ∧ r.2.mem ((c.tc : Thread Cert.InProjCtxIdeal.nD Cert.InProjCtxIdeal.τ).loc Cert.InProjCtxIdeal.main_arg1) = m ((c.tc : Thread Cert.InProjCtxIdeal.nD Cert.InProjCtxIdeal.τ).loc Cert.InProjCtxIdeal.main_arg1)
          ∧ r.2.mem ((c.tc : Thread Cert.InProjCtxIdeal.nD Cert.InProjCtxIdeal.τ).loc Cert.InProjCtxIdeal.main_arg2) = m ((c.tc : Thread Cert.InProjCtxIdeal.nD Cert.InProjCtxIdeal.τ).loc Cert.InProjCtxIdeal.main_arg2)
          ∧ r.2.mem ((c.tc : Thread Cert.InProjCtxIdeal.nD Cert.InProjCtxIdeal.τ).loc Cert.InProjCtxIdeal.main_arg3) = m ((c.tc : Thread Cert.InProjCtxIdeal.nD Cert.InProjCtxIdeal.τ).loc Cert.InProjCtxIdeal.main_arg3)
          ∧ r.2.mem ((c.tc : Thread Cert.InProjCtxIdeal.nD Cert.InProjCtxIdeal.τ).loc Cert.InProjCtxIdeal.main_arg4) = m ((c.tc : Thread Cert.InProjCtxIdeal.nD Cert.InProjCtxIdeal.τ).loc Cert.InProjCtxIdeal.main_arg4))
      ∧ θ_run (Cert.InProjCtxReferenceIdeal.defs (F := Ideal)) (onTc (τ := Cert.InProjCtxReferenceIdeal.τ) (Cert.InProjCtxReferenceIdeal.main (F := Ideal))) ⟨m', fun _ => 0, g'⟩ (fun r => ∀ c : Dev Cert.InProjCtxReferenceIdeal.nD,
          r.2.mem ((c.tc : Thread Cert.InProjCtxReferenceIdeal.nD Cert.InProjCtxReferenceIdeal.τ).loc Cert.InProjCtxReferenceIdeal.main_v32) = v0 c
          ∧ r.2.mem ((c.tc : Thread Cert.InProjCtxReferenceIdeal.nD Cert.InProjCtxReferenceIdeal.τ).loc Cert.InProjCtxReferenceIdeal.main_arg0) = m' ((c.tc : Thread Cert.InProjCtxReferenceIdeal.nD Cert.InProjCtxReferenceIdeal.τ).loc Cert.InProjCtxReferenceIdeal.main_arg0)
          ∧ r.2.mem ((c.tc : Thread Cert.InProjCtxReferenceIdeal.nD Cert.InProjCtxReferenceIdeal.τ).loc Cert.InProjCtxReferenceIdeal.main_arg1) = m' ((c.tc : Thread Cert.InProjCtxReferenceIdeal.nD Cert.InProjCtxReferenceIdeal.τ).loc Cert.InProjCtxReferenceIdeal.main_arg1)
          ∧ r.2.mem ((c.tc : Thread Cert.InProjCtxReferenceIdeal.nD Cert.InProjCtxReferenceIdeal.τ).loc Cert.InProjCtxReferenceIdeal.main_arg2) = m' ((c.tc : Thread Cert.InProjCtxReferenceIdeal.nD Cert.InProjCtxReferenceIdeal.τ).loc Cert.InProjCtxReferenceIdeal.main_arg2)
          ∧ r.2.mem ((c.tc : Thread Cert.InProjCtxReferenceIdeal.nD Cert.InProjCtxReferenceIdeal.τ).loc Cert.InProjCtxReferenceIdeal.main_arg3) = m' ((c.tc : Thread Cert.InProjCtxReferenceIdeal.nD Cert.InProjCtxReferenceIdeal.τ).loc Cert.InProjCtxReferenceIdeal.main_arg3)
          ∧ r.2.mem ((c.tc : Thread Cert.InProjCtxReferenceIdeal.nD Cert.InProjCtxReferenceIdeal.τ).loc Cert.InProjCtxReferenceIdeal.main_arg4) = m' ((c.tc : Thread Cert.InProjCtxReferenceIdeal.nD Cert.InProjCtxReferenceIdeal.τ).loc Cert.InProjCtxReferenceIdeal.main_arg4))

def preserves_AttnCtx_AttnCtxIdeal : Prop :=
  True

def algebraic_AttnCtxIdeal_AttnCtxReferenceIdeal_pre_finite_ctx [hAttnCtxIdeal : Cert.AttnCtxIdeal.Facts] [hAttnCtxReferenceIdeal : Cert.AttnCtxReferenceIdeal.Facts] [hPre_finite_ctx : Cert.Pre_finite_ctx.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg)
    (m' : (ℓ : Loc Cert.AttnCtxReferenceIdeal.nD Cert.AttnCtxReferenceIdeal.τ Cert.AttnCtxReferenceIdeal.sig) → Buf (Elt Ideal) ℓ) (g' : Dev Cert.AttnCtxReferenceIdeal.nD → PrngReg), Pre_AttnCtxIdeal_finite_ctx m →
    (∀ c : Dev Cert.AttnCtxIdeal.nD,
      m' ((c.tc : Thread Cert.AttnCtxReferenceIdeal.nD Cert.AttnCtxReferenceIdeal.τ).loc Cert.AttnCtxReferenceIdeal.main_arg0) = m ((c.tc : Thread Cert.AttnCtxIdeal.nD Cert.AttnCtxIdeal.τ).loc Cert.AttnCtxIdeal.main_arg0)
      ∧ m' ((c.tc : Thread Cert.AttnCtxReferenceIdeal.nD Cert.AttnCtxReferenceIdeal.τ).loc Cert.AttnCtxReferenceIdeal.main_arg1) = m ((c.tc : Thread Cert.AttnCtxIdeal.nD Cert.AttnCtxIdeal.τ).loc Cert.AttnCtxIdeal.main_arg1)
      ∧ m' ((c.tc : Thread Cert.AttnCtxReferenceIdeal.nD Cert.AttnCtxReferenceIdeal.τ).loc Cert.AttnCtxReferenceIdeal.main_arg2) = m ((c.tc : Thread Cert.AttnCtxIdeal.nD Cert.AttnCtxIdeal.τ).loc Cert.AttnCtxIdeal.main_arg2)) →
    ∃ (v0 : (c : Dev Cert.AttnCtxIdeal.nD) → Buf (Elt Ideal) ((c.tc : Thread Cert.AttnCtxIdeal.nD Cert.AttnCtxIdeal.τ).loc Cert.AttnCtxIdeal.main_v0)),
      θ_run (Cert.AttnCtxIdeal.defs (F := Ideal)) (onTc (τ := Cert.AttnCtxIdeal.τ) (Cert.AttnCtxIdeal.main (F := Ideal))) ⟨m, fun _ => 0, g⟩ (fun r => ∀ c : Dev Cert.AttnCtxIdeal.nD,
          r.2.mem ((c.tc : Thread Cert.AttnCtxIdeal.nD Cert.AttnCtxIdeal.τ).loc Cert.AttnCtxIdeal.main_v0) = v0 c
          ∧ r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
          ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
          ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2))
      ∧ θ_run (Cert.AttnCtxReferenceIdeal.defs (F := Ideal)) (onTc (τ := Cert.AttnCtxReferenceIdeal.τ) (Cert.AttnCtxReferenceIdeal.main (F := Ideal))) ⟨m', fun _ => 0, g'⟩ (fun r => ∀ c : Dev Cert.AttnCtxReferenceIdeal.nD,
          r.2.mem ((c.tc : Thread Cert.AttnCtxReferenceIdeal.nD Cert.AttnCtxReferenceIdeal.τ).loc Cert.AttnCtxReferenceIdeal.main_v21) = v0 c
          ∧ r.2.mem ((c.tc : Thread Cert.AttnCtxReferenceIdeal.nD Cert.AttnCtxReferenceIdeal.τ).loc Cert.AttnCtxReferenceIdeal.main_arg0) = m' ((c.tc : Thread Cert.AttnCtxReferenceIdeal.nD Cert.AttnCtxReferenceIdeal.τ).loc Cert.AttnCtxReferenceIdeal.main_arg0)
          ∧ r.2.mem ((c.tc : Thread Cert.AttnCtxReferenceIdeal.nD Cert.AttnCtxReferenceIdeal.τ).loc Cert.AttnCtxReferenceIdeal.main_arg1) = m' ((c.tc : Thread Cert.AttnCtxReferenceIdeal.nD Cert.AttnCtxReferenceIdeal.τ).loc Cert.AttnCtxReferenceIdeal.main_arg1)
          ∧ r.2.mem ((c.tc : Thread Cert.AttnCtxReferenceIdeal.nD Cert.AttnCtxReferenceIdeal.τ).loc Cert.AttnCtxReferenceIdeal.main_arg2) = m' ((c.tc : Thread Cert.AttnCtxReferenceIdeal.nD Cert.AttnCtxReferenceIdeal.τ).loc Cert.AttnCtxReferenceIdeal.main_arg2))

def preserves_S5Out_S5OutIdeal : Prop :=
  True

def algebraic_S5OutIdeal_S5OutReferenceIdeal [hS5OutIdeal : Cert.S5OutIdeal.Facts] [hS5OutReferenceIdeal : Cert.S5OutReferenceIdeal.Facts] : Prop :=
  ∀ (m : (ℓ : Loc Cert.S5OutIdeal.nD Cert.S5OutIdeal.τ Cert.S5OutIdeal.sig) → Buf (Elt Ideal) ℓ) (g : Dev Cert.S5OutIdeal.nD → PrngReg)
    (m' : (ℓ : Loc Cert.S5OutReferenceIdeal.nD Cert.S5OutReferenceIdeal.τ Cert.S5OutReferenceIdeal.sig) → Buf (Elt Ideal) ℓ) (g' : Dev Cert.S5OutReferenceIdeal.nD → PrngReg), Pre_S5OutIdeal m →
    (∀ c : Dev Cert.S5OutIdeal.nD,
      m' ((c.tc : Thread Cert.S5OutReferenceIdeal.nD Cert.S5OutReferenceIdeal.τ).loc Cert.S5OutReferenceIdeal.main_arg0) = m ((c.tc : Thread Cert.S5OutIdeal.nD Cert.S5OutIdeal.τ).loc Cert.S5OutIdeal.main_arg0)
      ∧ m' ((c.tc : Thread Cert.S5OutReferenceIdeal.nD Cert.S5OutReferenceIdeal.τ).loc Cert.S5OutReferenceIdeal.main_arg1) = m ((c.tc : Thread Cert.S5OutIdeal.nD Cert.S5OutIdeal.τ).loc Cert.S5OutIdeal.main_arg1)
      ∧ m' ((c.tc : Thread Cert.S5OutReferenceIdeal.nD Cert.S5OutReferenceIdeal.τ).loc Cert.S5OutReferenceIdeal.main_arg2) = m ((c.tc : Thread Cert.S5OutIdeal.nD Cert.S5OutIdeal.τ).loc Cert.S5OutIdeal.main_arg2)
      ∧ m' ((c.tc : Thread Cert.S5OutReferenceIdeal.nD Cert.S5OutReferenceIdeal.τ).loc Cert.S5OutReferenceIdeal.main_arg3) = m ((c.tc : Thread Cert.S5OutIdeal.nD Cert.S5OutIdeal.τ).loc Cert.S5OutIdeal.main_arg3)
      ∧ m' ((c.tc : Thread Cert.S5OutReferenceIdeal.nD Cert.S5OutReferenceIdeal.τ).loc Cert.S5OutReferenceIdeal.main_arg4) = m ((c.tc : Thread Cert.S5OutIdeal.nD Cert.S5OutIdeal.τ).loc Cert.S5OutIdeal.main_arg4)) →
    ∃ (v0 : (c : Dev Cert.S5OutIdeal.nD) → Buf (Elt Ideal) ((c.tc : Thread Cert.S5OutIdeal.nD Cert.S5OutIdeal.τ).loc Cert.S5OutIdeal.main_v3)),
      θ_run (Cert.S5OutIdeal.defs (F := Ideal)) (onTc (τ := Cert.S5OutIdeal.τ) (Cert.S5OutIdeal.main (F := Ideal))) ⟨m, fun _ => 0, g⟩ (fun r => ∀ c : Dev Cert.S5OutIdeal.nD,
          r.2.mem ((c.tc : Thread Cert.S5OutIdeal.nD Cert.S5OutIdeal.τ).loc Cert.S5OutIdeal.main_v3) = v0 c
          ∧ r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
          ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
          ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2)
          ∧ r.2.mem ((c.tc : Thread Cert.S5OutIdeal.nD Cert.S5OutIdeal.τ).loc Cert.S5OutIdeal.main_arg3) = m ((c.tc : Thread Cert.S5OutIdeal.nD Cert.S5OutIdeal.τ).loc Cert.S5OutIdeal.main_arg3)
          ∧ r.2.mem ((c.tc : Thread Cert.S5OutIdeal.nD Cert.S5OutIdeal.τ).loc Cert.S5OutIdeal.main_arg4) = m ((c.tc : Thread Cert.S5OutIdeal.nD Cert.S5OutIdeal.τ).loc Cert.S5OutIdeal.main_arg4))
      ∧ θ_run (Cert.S5OutReferenceIdeal.defs (F := Ideal)) (onTc (τ := Cert.S5OutReferenceIdeal.τ) (Cert.S5OutReferenceIdeal.main (F := Ideal))) ⟨m', fun _ => 0, g'⟩ (fun r => ∀ c : Dev Cert.S5OutReferenceIdeal.nD,
          r.2.mem ((c.tc : Thread Cert.S5OutReferenceIdeal.nD Cert.S5OutReferenceIdeal.τ).loc Cert.S5OutReferenceIdeal.main_v31) = v0 c
          ∧ r.2.mem ((c.tc : Thread Cert.S5OutReferenceIdeal.nD Cert.S5OutReferenceIdeal.τ).loc Cert.S5OutReferenceIdeal.main_arg0) = m' ((c.tc : Thread Cert.S5OutReferenceIdeal.nD Cert.S5OutReferenceIdeal.τ).loc Cert.S5OutReferenceIdeal.main_arg0)
          ∧ r.2.mem ((c.tc : Thread Cert.S5OutReferenceIdeal.nD Cert.S5OutReferenceIdeal.τ).loc Cert.S5OutReferenceIdeal.main_arg1) = m' ((c.tc : Thread Cert.S5OutReferenceIdeal.nD Cert.S5OutReferenceIdeal.τ).loc Cert.S5OutReferenceIdeal.main_arg1)
          ∧ r.2.mem ((c.tc : Thread Cert.S5OutReferenceIdeal.nD Cert.S5OutReferenceIdeal.τ).loc Cert.S5OutReferenceIdeal.main_arg2) = m' ((c.tc : Thread Cert.S5OutReferenceIdeal.nD Cert.S5OutReferenceIdeal.τ).loc Cert.S5OutReferenceIdeal.main_arg2)
          ∧ r.2.mem ((c.tc : Thread Cert.S5OutReferenceIdeal.nD Cert.S5OutReferenceIdeal.τ).loc Cert.S5OutReferenceIdeal.main_arg3) = m' ((c.tc : Thread Cert.S5OutReferenceIdeal.nD Cert.S5OutReferenceIdeal.τ).loc Cert.S5OutReferenceIdeal.main_arg3)
          ∧ r.2.mem ((c.tc : Thread Cert.S5OutReferenceIdeal.nD Cert.S5OutReferenceIdeal.τ).loc Cert.S5OutReferenceIdeal.main_arg4) = m' ((c.tc : Thread Cert.S5OutReferenceIdeal.nD Cert.S5OutReferenceIdeal.τ).loc Cert.S5OutReferenceIdeal.main_arg4))

def preserves_S5OutCtx_S5OutCtxIdeal : Prop :=
  True

def algebraic_S5OutCtxIdeal_S5OutCtxReferenceIdeal [hS5OutCtxIdeal : Cert.S5OutCtxIdeal.Facts] [hS5OutCtxReferenceIdeal : Cert.S5OutCtxReferenceIdeal.Facts] : Prop :=
  ∀ (m : (ℓ : Loc Cert.S5OutCtxIdeal.nD Cert.S5OutCtxIdeal.τ Cert.S5OutCtxIdeal.sig) → Buf (Elt Ideal) ℓ) (g : Dev Cert.S5OutCtxIdeal.nD → PrngReg)
    (m' : (ℓ : Loc Cert.S5OutCtxReferenceIdeal.nD Cert.S5OutCtxReferenceIdeal.τ Cert.S5OutCtxReferenceIdeal.sig) → Buf (Elt Ideal) ℓ) (g' : Dev Cert.S5OutCtxReferenceIdeal.nD → PrngReg), Pre_S5OutCtxIdeal m →
    (∀ c : Dev Cert.S5OutCtxIdeal.nD,
      m' ((c.tc : Thread Cert.S5OutCtxReferenceIdeal.nD Cert.S5OutCtxReferenceIdeal.τ).loc Cert.S5OutCtxReferenceIdeal.main_arg0) = m ((c.tc : Thread Cert.S5OutCtxIdeal.nD Cert.S5OutCtxIdeal.τ).loc Cert.S5OutCtxIdeal.main_arg0)
      ∧ m' ((c.tc : Thread Cert.S5OutCtxReferenceIdeal.nD Cert.S5OutCtxReferenceIdeal.τ).loc Cert.S5OutCtxReferenceIdeal.main_arg1) = m ((c.tc : Thread Cert.S5OutCtxIdeal.nD Cert.S5OutCtxIdeal.τ).loc Cert.S5OutCtxIdeal.main_arg1)
      ∧ m' ((c.tc : Thread Cert.S5OutCtxReferenceIdeal.nD Cert.S5OutCtxReferenceIdeal.τ).loc Cert.S5OutCtxReferenceIdeal.main_arg2) = m ((c.tc : Thread Cert.S5OutCtxIdeal.nD Cert.S5OutCtxIdeal.τ).loc Cert.S5OutCtxIdeal.main_arg2)
      ∧ m' ((c.tc : Thread Cert.S5OutCtxReferenceIdeal.nD Cert.S5OutCtxReferenceIdeal.τ).loc Cert.S5OutCtxReferenceIdeal.main_arg3) = m ((c.tc : Thread Cert.S5OutCtxIdeal.nD Cert.S5OutCtxIdeal.τ).loc Cert.S5OutCtxIdeal.main_arg3)
      ∧ m' ((c.tc : Thread Cert.S5OutCtxReferenceIdeal.nD Cert.S5OutCtxReferenceIdeal.τ).loc Cert.S5OutCtxReferenceIdeal.main_arg4) = m ((c.tc : Thread Cert.S5OutCtxIdeal.nD Cert.S5OutCtxIdeal.τ).loc Cert.S5OutCtxIdeal.main_arg4)) →
    ∃ (v0 : (c : Dev Cert.S5OutCtxIdeal.nD) → Buf (Elt Ideal) ((c.tc : Thread Cert.S5OutCtxIdeal.nD Cert.S5OutCtxIdeal.τ).loc Cert.S5OutCtxIdeal.main_v3)),
      θ_run (Cert.S5OutCtxIdeal.defs (F := Ideal)) (onTc (τ := Cert.S5OutCtxIdeal.τ) (Cert.S5OutCtxIdeal.main (F := Ideal))) ⟨m, fun _ => 0, g⟩ (fun r => ∀ c : Dev Cert.S5OutCtxIdeal.nD,
          r.2.mem ((c.tc : Thread Cert.S5OutCtxIdeal.nD Cert.S5OutCtxIdeal.τ).loc Cert.S5OutCtxIdeal.main_v3) = v0 c
          ∧ r.2.mem ((c.tc : Thread Cert.S5OutCtxIdeal.nD Cert.S5OutCtxIdeal.τ).loc Cert.S5OutCtxIdeal.main_arg0) = m ((c.tc : Thread Cert.S5OutCtxIdeal.nD Cert.S5OutCtxIdeal.τ).loc Cert.S5OutCtxIdeal.main_arg0)
          ∧ r.2.mem ((c.tc : Thread Cert.S5OutCtxIdeal.nD Cert.S5OutCtxIdeal.τ).loc Cert.S5OutCtxIdeal.main_arg1) = m ((c.tc : Thread Cert.S5OutCtxIdeal.nD Cert.S5OutCtxIdeal.τ).loc Cert.S5OutCtxIdeal.main_arg1)
          ∧ r.2.mem ((c.tc : Thread Cert.S5OutCtxIdeal.nD Cert.S5OutCtxIdeal.τ).loc Cert.S5OutCtxIdeal.main_arg2) = m ((c.tc : Thread Cert.S5OutCtxIdeal.nD Cert.S5OutCtxIdeal.τ).loc Cert.S5OutCtxIdeal.main_arg2)
          ∧ r.2.mem ((c.tc : Thread Cert.S5OutCtxIdeal.nD Cert.S5OutCtxIdeal.τ).loc Cert.S5OutCtxIdeal.main_arg3) = m ((c.tc : Thread Cert.S5OutCtxIdeal.nD Cert.S5OutCtxIdeal.τ).loc Cert.S5OutCtxIdeal.main_arg3)
          ∧ r.2.mem ((c.tc : Thread Cert.S5OutCtxIdeal.nD Cert.S5OutCtxIdeal.τ).loc Cert.S5OutCtxIdeal.main_arg4) = m ((c.tc : Thread Cert.S5OutCtxIdeal.nD Cert.S5OutCtxIdeal.τ).loc Cert.S5OutCtxIdeal.main_arg4))
      ∧ θ_run (Cert.S5OutCtxReferenceIdeal.defs (F := Ideal)) (onTc (τ := Cert.S5OutCtxReferenceIdeal.τ) (Cert.S5OutCtxReferenceIdeal.main (F := Ideal))) ⟨m', fun _ => 0, g'⟩ (fun r => ∀ c : Dev Cert.S5OutCtxReferenceIdeal.nD,
          r.2.mem ((c.tc : Thread Cert.S5OutCtxReferenceIdeal.nD Cert.S5OutCtxReferenceIdeal.τ).loc Cert.S5OutCtxReferenceIdeal.main_v31) = v0 c
          ∧ r.2.mem ((c.tc : Thread Cert.S5OutCtxReferenceIdeal.nD Cert.S5OutCtxReferenceIdeal.τ).loc Cert.S5OutCtxReferenceIdeal.main_arg0) = m' ((c.tc : Thread Cert.S5OutCtxReferenceIdeal.nD Cert.S5OutCtxReferenceIdeal.τ).loc Cert.S5OutCtxReferenceIdeal.main_arg0)
          ∧ r.2.mem ((c.tc : Thread Cert.S5OutCtxReferenceIdeal.nD Cert.S5OutCtxReferenceIdeal.τ).loc Cert.S5OutCtxReferenceIdeal.main_arg1) = m' ((c.tc : Thread Cert.S5OutCtxReferenceIdeal.nD Cert.S5OutCtxReferenceIdeal.τ).loc Cert.S5OutCtxReferenceIdeal.main_arg1)
          ∧ r.2.mem ((c.tc : Thread Cert.S5OutCtxReferenceIdeal.nD Cert.S5OutCtxReferenceIdeal.τ).loc Cert.S5OutCtxReferenceIdeal.main_arg2) = m' ((c.tc : Thread Cert.S5OutCtxReferenceIdeal.nD Cert.S5OutCtxReferenceIdeal.τ).loc Cert.S5OutCtxReferenceIdeal.main_arg2)
          ∧ r.2.mem ((c.tc : Thread Cert.S5OutCtxReferenceIdeal.nD Cert.S5OutCtxReferenceIdeal.τ).loc Cert.S5OutCtxReferenceIdeal.main_arg3) = m' ((c.tc : Thread Cert.S5OutCtxReferenceIdeal.nD Cert.S5OutCtxReferenceIdeal.τ).loc Cert.S5OutCtxReferenceIdeal.main_arg3)
          ∧ r.2.mem ((c.tc : Thread Cert.S5OutCtxReferenceIdeal.nD Cert.S5OutCtxReferenceIdeal.τ).loc Cert.S5OutCtxReferenceIdeal.main_arg4) = m' ((c.tc : Thread Cert.S5OutCtxReferenceIdeal.nD Cert.S5OutCtxReferenceIdeal.τ).loc Cert.S5OutCtxReferenceIdeal.main_arg4))

def preserves_HgOut_HgOutIdeal : Prop :=
  True

def algebraic_HgOutIdeal_HgOutReferenceIdeal [hHgOutIdeal : Cert.HgOutIdeal.Facts] [hHgOutReferenceIdeal : Cert.HgOutReferenceIdeal.Facts] : Prop :=
  ∀ (m : (ℓ : Loc Cert.HgOutIdeal.nD Cert.HgOutIdeal.τ Cert.HgOutIdeal.sig) → Buf (Elt Ideal) ℓ) (g : Dev Cert.HgOutIdeal.nD → PrngReg)
    (m' : (ℓ : Loc Cert.HgOutReferenceIdeal.nD Cert.HgOutReferenceIdeal.τ Cert.HgOutReferenceIdeal.sig) → Buf (Elt Ideal) ℓ) (g' : Dev Cert.HgOutReferenceIdeal.nD → PrngReg), Pre_HgOutIdeal m →
    (∀ c : Dev Cert.HgOutIdeal.nD,
      m' ((c.tc : Thread Cert.HgOutReferenceIdeal.nD Cert.HgOutReferenceIdeal.τ).loc Cert.HgOutReferenceIdeal.main_arg0) = m ((c.tc : Thread Cert.HgOutIdeal.nD Cert.HgOutIdeal.τ).loc Cert.HgOutIdeal.main_arg0)
      ∧ m' ((c.tc : Thread Cert.HgOutReferenceIdeal.nD Cert.HgOutReferenceIdeal.τ).loc Cert.HgOutReferenceIdeal.main_arg1) = m ((c.tc : Thread Cert.HgOutIdeal.nD Cert.HgOutIdeal.τ).loc Cert.HgOutIdeal.main_arg1)
      ∧ m' ((c.tc : Thread Cert.HgOutReferenceIdeal.nD Cert.HgOutReferenceIdeal.τ).loc Cert.HgOutReferenceIdeal.main_arg2) = m ((c.tc : Thread Cert.HgOutIdeal.nD Cert.HgOutIdeal.τ).loc Cert.HgOutIdeal.main_arg2)
      ∧ m' ((c.tc : Thread Cert.HgOutReferenceIdeal.nD Cert.HgOutReferenceIdeal.τ).loc Cert.HgOutReferenceIdeal.main_arg3) = m ((c.tc : Thread Cert.HgOutIdeal.nD Cert.HgOutIdeal.τ).loc Cert.HgOutIdeal.main_arg3)) →
    ∃ (v0 : (c : Dev Cert.HgOutIdeal.nD) → Buf (Elt Ideal) ((c.tc : Thread Cert.HgOutIdeal.nD Cert.HgOutIdeal.τ).loc Cert.HgOutIdeal.main_v1)),
      θ_run (Cert.HgOutIdeal.defs (F := Ideal)) (onTc (τ := Cert.HgOutIdeal.τ) (Cert.HgOutIdeal.main (F := Ideal))) ⟨m, fun _ => 0, g⟩ (fun r => ∀ c : Dev Cert.HgOutIdeal.nD,
          r.2.mem ((c.tc : Thread Cert.HgOutIdeal.nD Cert.HgOutIdeal.τ).loc Cert.HgOutIdeal.main_v1) = v0 c
          ∧ r.2.mem ((c.tc : Thread Cert.HgOutIdeal.nD Cert.HgOutIdeal.τ).loc Cert.HgOutIdeal.main_arg0) = m ((c.tc : Thread Cert.HgOutIdeal.nD Cert.HgOutIdeal.τ).loc Cert.HgOutIdeal.main_arg0)
          ∧ r.2.mem ((c.tc : Thread Cert.HgOutIdeal.nD Cert.HgOutIdeal.τ).loc Cert.HgOutIdeal.main_arg1) = m ((c.tc : Thread Cert.HgOutIdeal.nD Cert.HgOutIdeal.τ).loc Cert.HgOutIdeal.main_arg1)
          ∧ r.2.mem ((c.tc : Thread Cert.HgOutIdeal.nD Cert.HgOutIdeal.τ).loc Cert.HgOutIdeal.main_arg2) = m ((c.tc : Thread Cert.HgOutIdeal.nD Cert.HgOutIdeal.τ).loc Cert.HgOutIdeal.main_arg2)
          ∧ r.2.mem ((c.tc : Thread Cert.HgOutIdeal.nD Cert.HgOutIdeal.τ).loc Cert.HgOutIdeal.main_arg3) = m ((c.tc : Thread Cert.HgOutIdeal.nD Cert.HgOutIdeal.τ).loc Cert.HgOutIdeal.main_arg3))
      ∧ θ_run (Cert.HgOutReferenceIdeal.defs (F := Ideal)) (onTc (τ := Cert.HgOutReferenceIdeal.τ) (Cert.HgOutReferenceIdeal.main (F := Ideal))) ⟨m', fun _ => 0, g'⟩ (fun r => ∀ c : Dev Cert.HgOutReferenceIdeal.nD,
          r.2.mem ((c.tc : Thread Cert.HgOutReferenceIdeal.nD Cert.HgOutReferenceIdeal.τ).loc Cert.HgOutReferenceIdeal.main_v24) = v0 c
          ∧ r.2.mem ((c.tc : Thread Cert.HgOutReferenceIdeal.nD Cert.HgOutReferenceIdeal.τ).loc Cert.HgOutReferenceIdeal.main_arg0) = m' ((c.tc : Thread Cert.HgOutReferenceIdeal.nD Cert.HgOutReferenceIdeal.τ).loc Cert.HgOutReferenceIdeal.main_arg0)
          ∧ r.2.mem ((c.tc : Thread Cert.HgOutReferenceIdeal.nD Cert.HgOutReferenceIdeal.τ).loc Cert.HgOutReferenceIdeal.main_arg1) = m' ((c.tc : Thread Cert.HgOutReferenceIdeal.nD Cert.HgOutReferenceIdeal.τ).loc Cert.HgOutReferenceIdeal.main_arg1)
          ∧ r.2.mem ((c.tc : Thread Cert.HgOutReferenceIdeal.nD Cert.HgOutReferenceIdeal.τ).loc Cert.HgOutReferenceIdeal.main_arg2) = m' ((c.tc : Thread Cert.HgOutReferenceIdeal.nD Cert.HgOutReferenceIdeal.τ).loc Cert.HgOutReferenceIdeal.main_arg2)
          ∧ r.2.mem ((c.tc : Thread Cert.HgOutReferenceIdeal.nD Cert.HgOutReferenceIdeal.τ).loc Cert.HgOutReferenceIdeal.main_arg3) = m' ((c.tc : Thread Cert.HgOutReferenceIdeal.nD Cert.HgOutReferenceIdeal.τ).loc Cert.HgOutReferenceIdeal.main_arg3))

def preserves_HgOutCtx_HgOutCtxIdeal : Prop :=
  True

def algebraic_HgOutCtxIdeal_HgOutCtxReferenceIdeal [hHgOutCtxIdeal : Cert.HgOutCtxIdeal.Facts] [hHgOutCtxReferenceIdeal : Cert.HgOutCtxReferenceIdeal.Facts] : Prop :=
  ∀ (m : (ℓ : Loc Cert.HgOutCtxIdeal.nD Cert.HgOutCtxIdeal.τ Cert.HgOutCtxIdeal.sig) → Buf (Elt Ideal) ℓ) (g : Dev Cert.HgOutCtxIdeal.nD → PrngReg)
    (m' : (ℓ : Loc Cert.HgOutCtxReferenceIdeal.nD Cert.HgOutCtxReferenceIdeal.τ Cert.HgOutCtxReferenceIdeal.sig) → Buf (Elt Ideal) ℓ) (g' : Dev Cert.HgOutCtxReferenceIdeal.nD → PrngReg), Pre_HgOutCtxIdeal m →
    (∀ c : Dev Cert.HgOutCtxIdeal.nD,
      m' ((c.tc : Thread Cert.HgOutCtxReferenceIdeal.nD Cert.HgOutCtxReferenceIdeal.τ).loc Cert.HgOutCtxReferenceIdeal.main_arg0) = m ((c.tc : Thread Cert.HgOutCtxIdeal.nD Cert.HgOutCtxIdeal.τ).loc Cert.HgOutCtxIdeal.main_arg0)
      ∧ m' ((c.tc : Thread Cert.HgOutCtxReferenceIdeal.nD Cert.HgOutCtxReferenceIdeal.τ).loc Cert.HgOutCtxReferenceIdeal.main_arg1) = m ((c.tc : Thread Cert.HgOutCtxIdeal.nD Cert.HgOutCtxIdeal.τ).loc Cert.HgOutCtxIdeal.main_arg1)
      ∧ m' ((c.tc : Thread Cert.HgOutCtxReferenceIdeal.nD Cert.HgOutCtxReferenceIdeal.τ).loc Cert.HgOutCtxReferenceIdeal.main_arg2) = m ((c.tc : Thread Cert.HgOutCtxIdeal.nD Cert.HgOutCtxIdeal.τ).loc Cert.HgOutCtxIdeal.main_arg2)
      ∧ m' ((c.tc : Thread Cert.HgOutCtxReferenceIdeal.nD Cert.HgOutCtxReferenceIdeal.τ).loc Cert.HgOutCtxReferenceIdeal.main_arg3) = m ((c.tc : Thread Cert.HgOutCtxIdeal.nD Cert.HgOutCtxIdeal.τ).loc Cert.HgOutCtxIdeal.main_arg3)) →
    ∃ (v0 : (c : Dev Cert.HgOutCtxIdeal.nD) → Buf (Elt Ideal) ((c.tc : Thread Cert.HgOutCtxIdeal.nD Cert.HgOutCtxIdeal.τ).loc Cert.HgOutCtxIdeal.main_v1)),
      θ_run (Cert.HgOutCtxIdeal.defs (F := Ideal)) (onTc (τ := Cert.HgOutCtxIdeal.τ) (Cert.HgOutCtxIdeal.main (F := Ideal))) ⟨m, fun _ => 0, g⟩ (fun r => ∀ c : Dev Cert.HgOutCtxIdeal.nD,
          r.2.mem ((c.tc : Thread Cert.HgOutCtxIdeal.nD Cert.HgOutCtxIdeal.τ).loc Cert.HgOutCtxIdeal.main_v1) = v0 c
          ∧ r.2.mem ((c.tc : Thread Cert.HgOutCtxIdeal.nD Cert.HgOutCtxIdeal.τ).loc Cert.HgOutCtxIdeal.main_arg0) = m ((c.tc : Thread Cert.HgOutCtxIdeal.nD Cert.HgOutCtxIdeal.τ).loc Cert.HgOutCtxIdeal.main_arg0)
          ∧ r.2.mem ((c.tc : Thread Cert.HgOutCtxIdeal.nD Cert.HgOutCtxIdeal.τ).loc Cert.HgOutCtxIdeal.main_arg1) = m ((c.tc : Thread Cert.HgOutCtxIdeal.nD Cert.HgOutCtxIdeal.τ).loc Cert.HgOutCtxIdeal.main_arg1)
          ∧ r.2.mem ((c.tc : Thread Cert.HgOutCtxIdeal.nD Cert.HgOutCtxIdeal.τ).loc Cert.HgOutCtxIdeal.main_arg2) = m ((c.tc : Thread Cert.HgOutCtxIdeal.nD Cert.HgOutCtxIdeal.τ).loc Cert.HgOutCtxIdeal.main_arg2)
          ∧ r.2.mem ((c.tc : Thread Cert.HgOutCtxIdeal.nD Cert.HgOutCtxIdeal.τ).loc Cert.HgOutCtxIdeal.main_arg3) = m ((c.tc : Thread Cert.HgOutCtxIdeal.nD Cert.HgOutCtxIdeal.τ).loc Cert.HgOutCtxIdeal.main_arg3))
      ∧ θ_run (Cert.HgOutCtxReferenceIdeal.defs (F := Ideal)) (onTc (τ := Cert.HgOutCtxReferenceIdeal.τ) (Cert.HgOutCtxReferenceIdeal.main (F := Ideal))) ⟨m', fun _ => 0, g'⟩ (fun r => ∀ c : Dev Cert.HgOutCtxReferenceIdeal.nD,
          r.2.mem ((c.tc : Thread Cert.HgOutCtxReferenceIdeal.nD Cert.HgOutCtxReferenceIdeal.τ).loc Cert.HgOutCtxReferenceIdeal.main_v24) = v0 c
          ∧ r.2.mem ((c.tc : Thread Cert.HgOutCtxReferenceIdeal.nD Cert.HgOutCtxReferenceIdeal.τ).loc Cert.HgOutCtxReferenceIdeal.main_arg0) = m' ((c.tc : Thread Cert.HgOutCtxReferenceIdeal.nD Cert.HgOutCtxReferenceIdeal.τ).loc Cert.HgOutCtxReferenceIdeal.main_arg0)
          ∧ r.2.mem ((c.tc : Thread Cert.HgOutCtxReferenceIdeal.nD Cert.HgOutCtxReferenceIdeal.τ).loc Cert.HgOutCtxReferenceIdeal.main_arg1) = m' ((c.tc : Thread Cert.HgOutCtxReferenceIdeal.nD Cert.HgOutCtxReferenceIdeal.τ).loc Cert.HgOutCtxReferenceIdeal.main_arg1)
          ∧ r.2.mem ((c.tc : Thread Cert.HgOutCtxReferenceIdeal.nD Cert.HgOutCtxReferenceIdeal.τ).loc Cert.HgOutCtxReferenceIdeal.main_arg2) = m' ((c.tc : Thread Cert.HgOutCtxReferenceIdeal.nD Cert.HgOutCtxReferenceIdeal.τ).loc Cert.HgOutCtxReferenceIdeal.main_arg2)
          ∧ r.2.mem ((c.tc : Thread Cert.HgOutCtxReferenceIdeal.nD Cert.HgOutCtxReferenceIdeal.τ).loc Cert.HgOutCtxReferenceIdeal.main_arg3) = m' ((c.tc : Thread Cert.HgOutCtxReferenceIdeal.nD Cert.HgOutCtxReferenceIdeal.τ).loc Cert.HgOutCtxReferenceIdeal.main_arg3))

def Claim : Prop :=
  ∃ (hKernel : Cert.Kernel.Facts) (hKernelIdeal : Cert.KernelIdeal.Facts) (hReferenceIdeal : Cert.ReferenceIdeal.Facts) (hMlpUp : Cert.MlpUp.Facts) (hMlpUpIdeal : Cert.MlpUpIdeal.Facts) (hMlpUpReferenceIdeal : Cert.MlpUpReferenceIdeal.Facts) (hMlpDown : Cert.MlpDown.Facts) (hMlpDownIdeal : Cert.MlpDownIdeal.Facts) (hMlpDownReferenceIdeal : Cert.MlpDownReferenceIdeal.Facts) (hMix : Cert.Mix.Facts) (hMixIdeal : Cert.MixIdeal.Facts) (hMixReferenceIdeal : Cert.MixReferenceIdeal.Facts) (hInProj : Cert.InProj.Facts) (hInProjIdeal : Cert.InProjIdeal.Facts) (hInProjReferenceIdeal : Cert.InProjReferenceIdeal.Facts) (hMod : Cert.Mod.Facts) (hModIdeal : Cert.ModIdeal.Facts) (hModReferenceIdeal : Cert.ModReferenceIdeal.Facts) (hMlpUpCtx : Cert.MlpUpCtx.Facts) (hMlpUpCtxIdeal : Cert.MlpUpCtxIdeal.Facts) (hMlpUpCtxReferenceIdeal : Cert.MlpUpCtxReferenceIdeal.Facts) (hMlpDownCtx : Cert.MlpDownCtx.Facts) (hMlpDownCtxIdeal : Cert.MlpDownCtxIdeal.Facts) (hMlpDownCtxReferenceIdeal : Cert.MlpDownCtxReferenceIdeal.Facts) (hMixCtx : Cert.MixCtx.Facts) (hMixCtxIdeal : Cert.MixCtxIdeal.Facts) (hMixCtxReferenceIdeal : Cert.MixCtxReferenceIdeal.Facts) (hInProjCtx : Cert.InProjCtx.Facts) (hInProjCtxIdeal : Cert.InProjCtxIdeal.Facts) (hInProjCtxReferenceIdeal : Cert.InProjCtxReferenceIdeal.Facts) (hAttnCtx : Cert.AttnCtx.Facts) (hAttnCtxIdeal : Cert.AttnCtxIdeal.Facts) (hAttnCtxReferenceIdeal : Cert.AttnCtxReferenceIdeal.Facts) (hS5Out : Cert.S5Out.Facts) (hS5OutIdeal : Cert.S5OutIdeal.Facts) (hS5OutReferenceIdeal : Cert.S5OutReferenceIdeal.Facts) (hS5OutCtx : Cert.S5OutCtx.Facts) (hS5OutCtxIdeal : Cert.S5OutCtxIdeal.Facts) (hS5OutCtxReferenceIdeal : Cert.S5OutCtxReferenceIdeal.Facts) (hHgOut : Cert.HgOut.Facts) (hHgOutIdeal : Cert.HgOutIdeal.Facts) (hHgOutReferenceIdeal : Cert.HgOutReferenceIdeal.Facts) (hHgOutCtx : Cert.HgOutCtx.Facts) (hHgOutCtxIdeal : Cert.HgOutCtxIdeal.Facts) (hHgOutCtxReferenceIdeal : Cert.HgOutCtxReferenceIdeal.Facts) (hPre_finite : Cert.Pre_finite.Facts) (hPre_finite_in : Cert.Pre_finite_in.Facts) (hPre_finite_in_ctx : Cert.Pre_finite_in_ctx.Facts) (hPre_finite_ctx : Cert.Pre_finite_ctx.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MlpUp (hMlpUp := hMlpUp)
    ∧ quiescent_MlpUpIdeal (hMlpUpIdeal := hMlpUpIdeal)
    ∧ quiescent_MlpUpReferenceIdeal (hMlpUpReferenceIdeal := hMlpUpReferenceIdeal)
    ∧ quiescent_MlpDown (hMlpDown := hMlpDown)
    ∧ quiescent_MlpDownIdeal (hMlpDownIdeal := hMlpDownIdeal)
    ∧ quiescent_MlpDownReferenceIdeal (hMlpDownReferenceIdeal := hMlpDownReferenceIdeal)
    ∧ quiescent_Mix (hMix := hMix)
    ∧ quiescent_MixIdeal (hMixIdeal := hMixIdeal)
    ∧ quiescent_MixReferenceIdeal (hMixReferenceIdeal := hMixReferenceIdeal)
    ∧ quiescent_InProj (hInProj := hInProj)
    ∧ quiescent_InProjIdeal (hInProjIdeal := hInProjIdeal)
    ∧ quiescent_InProjIdeal_pre_finite_in (hInProjIdeal := hInProjIdeal) (hPre_finite_in := hPre_finite_in)
    ∧ quiescent_InProjReferenceIdeal (hInProjReferenceIdeal := hInProjReferenceIdeal)
    ∧ quiescent_InProjReferenceIdeal_pre_finite_in (hInProjReferenceIdeal := hInProjReferenceIdeal) (hPre_finite_in := hPre_finite_in)
    ∧ quiescent_Mod (hMod := hMod)
    ∧ quiescent_ModIdeal (hModIdeal := hModIdeal)
    ∧ quiescent_ModReferenceIdeal (hModReferenceIdeal := hModReferenceIdeal)
    ∧ quiescent_MlpUpCtx (hMlpUpCtx := hMlpUpCtx)
    ∧ quiescent_MlpUpCtxIdeal (hMlpUpCtxIdeal := hMlpUpCtxIdeal)
    ∧ quiescent_MlpUpCtxReferenceIdeal (hMlpUpCtxReferenceIdeal := hMlpUpCtxReferenceIdeal)
    ∧ quiescent_MlpDownCtx (hMlpDownCtx := hMlpDownCtx)
    ∧ quiescent_MlpDownCtxIdeal (hMlpDownCtxIdeal := hMlpDownCtxIdeal)
    ∧ quiescent_MlpDownCtxReferenceIdeal (hMlpDownCtxReferenceIdeal := hMlpDownCtxReferenceIdeal)
    ∧ quiescent_MixCtx (hMixCtx := hMixCtx)
    ∧ quiescent_MixCtxIdeal (hMixCtxIdeal := hMixCtxIdeal)
    ∧ quiescent_MixCtxReferenceIdeal (hMixCtxReferenceIdeal := hMixCtxReferenceIdeal)
    ∧ quiescent_InProjCtx (hInProjCtx := hInProjCtx)
    ∧ quiescent_InProjCtxIdeal (hInProjCtxIdeal := hInProjCtxIdeal)
    ∧ quiescent_InProjCtxIdeal_pre_finite_in_ctx (hInProjCtxIdeal := hInProjCtxIdeal) (hPre_finite_in_ctx := hPre_finite_in_ctx)
    ∧ quiescent_InProjCtxReferenceIdeal (hInProjCtxReferenceIdeal := hInProjCtxReferenceIdeal)
    ∧ quiescent_InProjCtxReferenceIdeal_pre_finite_in_ctx (hInProjCtxReferenceIdeal := hInProjCtxReferenceIdeal) (hPre_finite_in_ctx := hPre_finite_in_ctx)
    ∧ quiescent_AttnCtx (hAttnCtx := hAttnCtx)
    ∧ quiescent_AttnCtxIdeal (hAttnCtxIdeal := hAttnCtxIdeal)
    ∧ quiescent_AttnCtxIdeal_pre_finite_ctx (hAttnCtxIdeal := hAttnCtxIdeal) (hPre_finite_ctx := hPre_finite_ctx)
    ∧ quiescent_AttnCtxReferenceIdeal (hAttnCtxReferenceIdeal := hAttnCtxReferenceIdeal)
    ∧ quiescent_AttnCtxReferenceIdeal_pre_finite_ctx (hAttnCtxReferenceIdeal := hAttnCtxReferenceIdeal) (hPre_finite_ctx := hPre_finite_ctx)
    ∧ quiescent_S5Out (hS5Out := hS5Out)
    ∧ quiescent_S5OutIdeal (hS5OutIdeal := hS5OutIdeal)
    ∧ quiescent_S5OutReferenceIdeal (hS5OutReferenceIdeal := hS5OutReferenceIdeal)
    ∧ quiescent_S5OutCtx (hS5OutCtx := hS5OutCtx)
    ∧ quiescent_S5OutCtxIdeal (hS5OutCtxIdeal := hS5OutCtxIdeal)
    ∧ quiescent_S5OutCtxReferenceIdeal (hS5OutCtxReferenceIdeal := hS5OutCtxReferenceIdeal)
    ∧ quiescent_HgOut (hHgOut := hHgOut)
    ∧ quiescent_HgOutIdeal (hHgOutIdeal := hHgOutIdeal)
    ∧ quiescent_HgOutReferenceIdeal (hHgOutReferenceIdeal := hHgOutReferenceIdeal)
    ∧ quiescent_HgOutCtx (hHgOutCtx := hHgOutCtx)
    ∧ quiescent_HgOutCtxIdeal (hHgOutCtxIdeal := hHgOutCtxIdeal)
    ∧ quiescent_HgOutCtxReferenceIdeal (hHgOutCtxReferenceIdeal := hHgOutCtxReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MlpUp_MlpUpIdeal
    ∧ algebraic_MlpUpIdeal_MlpUpReferenceIdeal (hMlpUpIdeal := hMlpUpIdeal) (hMlpUpReferenceIdeal := hMlpUpReferenceIdeal)
    ∧ preserves_MlpDown_MlpDownIdeal
    ∧ algebraic_MlpDownIdeal_MlpDownReferenceIdeal (hMlpDownIdeal := hMlpDownIdeal) (hMlpDownReferenceIdeal := hMlpDownReferenceIdeal)
    ∧ preserves_Mix_MixIdeal
    ∧ algebraic_MixIdeal_MixReferenceIdeal (hMixIdeal := hMixIdeal) (hMixReferenceIdeal := hMixReferenceIdeal)
    ∧ preserves_InProj_InProjIdeal
    ∧ algebraic_InProjIdeal_InProjReferenceIdeal_pre_finite_in (hInProjIdeal := hInProjIdeal) (hInProjReferenceIdeal := hInProjReferenceIdeal) (hPre_finite_in := hPre_finite_in)
    ∧ preserves_Mod_ModIdeal
    ∧ algebraic_ModIdeal_ModReferenceIdeal (hModIdeal := hModIdeal) (hModReferenceIdeal := hModReferenceIdeal)
    ∧ preserves_MlpUpCtx_MlpUpCtxIdeal
    ∧ algebraic_MlpUpCtxIdeal_MlpUpCtxReferenceIdeal (hMlpUpCtxIdeal := hMlpUpCtxIdeal) (hMlpUpCtxReferenceIdeal := hMlpUpCtxReferenceIdeal)
    ∧ preserves_MlpDownCtx_MlpDownCtxIdeal
    ∧ algebraic_MlpDownCtxIdeal_MlpDownCtxReferenceIdeal (hMlpDownCtxIdeal := hMlpDownCtxIdeal) (hMlpDownCtxReferenceIdeal := hMlpDownCtxReferenceIdeal)
    ∧ preserves_MixCtx_MixCtxIdeal
    ∧ algebraic_MixCtxIdeal_MixCtxReferenceIdeal (hMixCtxIdeal := hMixCtxIdeal) (hMixCtxReferenceIdeal := hMixCtxReferenceIdeal)
    ∧ preserves_InProjCtx_InProjCtxIdeal
    ∧ algebraic_InProjCtxIdeal_InProjCtxReferenceIdeal_pre_finite_in_ctx (hInProjCtxIdeal := hInProjCtxIdeal) (hInProjCtxReferenceIdeal := hInProjCtxReferenceIdeal) (hPre_finite_in_ctx := hPre_finite_in_ctx)
    ∧ preserves_AttnCtx_AttnCtxIdeal
    ∧ algebraic_AttnCtxIdeal_AttnCtxReferenceIdeal_pre_finite_ctx (hAttnCtxIdeal := hAttnCtxIdeal) (hAttnCtxReferenceIdeal := hAttnCtxReferenceIdeal) (hPre_finite_ctx := hPre_finite_ctx)
    ∧ preserves_S5Out_S5OutIdeal
    ∧ algebraic_S5OutIdeal_S5OutReferenceIdeal (hS5OutIdeal := hS5OutIdeal) (hS5OutReferenceIdeal := hS5OutReferenceIdeal)
    ∧ preserves_S5OutCtx_S5OutCtxIdeal
    ∧ algebraic_S5OutCtxIdeal_S5OutCtxReferenceIdeal (hS5OutCtxIdeal := hS5OutCtxIdeal) (hS5OutCtxReferenceIdeal := hS5OutCtxReferenceIdeal)
    ∧ preserves_HgOut_HgOutIdeal
    ∧ algebraic_HgOutIdeal_HgOutReferenceIdeal (hHgOutIdeal := hHgOutIdeal) (hHgOutReferenceIdeal := hHgOutReferenceIdeal)
    ∧ preserves_HgOutCtx_HgOutCtxIdeal
    ∧ algebraic_HgOutCtxIdeal_HgOutCtxReferenceIdeal (hHgOutCtxIdeal := hHgOutCtxIdeal) (hHgOutCtxReferenceIdeal := hHgOutCtxReferenceIdeal)
-- ==== Pre_finite.lean ====
abbrev S4x4x4096x256 : Shape := ⟨4, ![4, 4, 4096, 256]⟩
abbrev S4x4x4096x128 : Shape := ⟨4, ![4, 4, 4096, 128]⟩
abbrev S4x4x256x256 : Shape := ⟨4, ![4, 4, 256, 256]⟩
abbrev S4x4x256x128 : Shape := ⟨4, ![4, 4, 256, 128]⟩
abbrev S_ : Shape := ⟨0, ![]⟩

class Facts : Prop where
  bitsLt_bf16_f32 : FTy.bits .bf16 < FTy.bits .f32
  bcast_S_S4x4x4096x256 : S_.BroadcastsInDim S4x4x4096x256 (![] : Fin 0 → Fin S4x4x4096x256.rank)
  reducesTo_S4x4x4096x256_S_d0_1_2_3 : S4x4x4096x256.ReducesTo [0, 1, 2, 3] S_
  h_S_ : 0 < S_.numel
  bcast_S_S4x4x256x256 : S_.BroadcastsInDim S4x4x256x256 (![] : Fin 0 → Fin S4x4x256x256.rank)
  reducesTo_S4x4x256x256_S_d0_1_2_3 : S4x4x256x256.ReducesTo [0, 1, 2, 3] S_

variable [Facts]

def fn {F : FTy → Type} [FloatOps F] (main_arg0 : FVec F S4x4x4096x256 .bf16) (main_arg1 : FVec F S4x4x4096x256 .bf16) (main_arg2 : FVec F S4x4x4096x128 .bf16) (main_arg3 : FVec F S4x4x256x256 .bf16) (main_arg4 : FVec F S4x4x256x128 .bf16) : IVec S_ 1 × IVec S_ 1 × IVec S_ 1 :=
  let main_v0 : FVec F S4x4x4096x256 .f32 := (extf .f32 · bitsLt_bf16_f32) main_arg0
  let main_v1 : FVec F S4x4x4096x256 .f32 := Host.absf main_v0
  let main_cst : FVec F S_ .f32 := constant S_ .f32 0x7F800000#32
  let main_v2 : FVec F S4x4x4096x256 .f32 := broadcastInDim S4x4x4096x256 ![] bcast_S_S4x4x4096x256 main_cst
  let main_v3 : IVec S4x4x4096x256 1 := cmpf .olt main_v1 main_v2
  let main_c : IVec S_ 1 := constantI S_ 1 1#1
  let main_v4 : IVec S_ 1 := (fun x v => Host.reduce IntOp.andi x v reducesTo_S4x4x4096x256_S_d0_1_2_3 h_S_) main_v3 main_c
  let main_v5 : FVec F S4x4x4096x256 .f32 := (extf .f32 · bitsLt_bf16_f32) main_arg1
  let main_v6 : FVec F S4x4x4096x256 .f32 := Host.absf main_v5
  let main_cst_0 : FVec F S_ .f32 := constant S_ .f32 0x7F800000#32
  let main_v7 : FVec F S4x4x4096x256 .f32 := broadcastInDim S4x4x4096x256 ![] bcast_S_S4x4x4096x256 main_cst_0
  let main_v8 : IVec S4x4x4096x256 1 := cmpf .olt main_v6 main_v7
  let main_c_1 : IVec S_ 1 := constantI S_ 1 1#1
  let main_v9 : IVec S_ 1 := (fun x v => Host.reduce IntOp.andi x v reducesTo_S4x4x4096x256_S_d0_1_2_3 h_S_) main_v8 main_c_1
  let main_v10 : FVec F S4x4x256x256 .f32 := (extf .f32 · bitsLt_bf16_f32) main_arg3
  let main_v11 : FVec F S4x4x256x256 .f32 := Host.absf main_v10
  let main_cst_2 : FVec F S_ .f32 := constant S_ .f32 0x7F800000#32
  let main_v12 : FVec F S4x4x256x256 .f32 := broadcastInDim S4x4x256x256 ![] bcast_S_S4x4x256x256 main_cst_2
  let main_v13 : IVec S4x4x256x256 1 := cmpf .olt main_v11 main_v12
  let main_c_3 : IVec S_ 1 := constantI S_ 1 1#1
  let main_v14 : IVec S_ 1 := (fun x v => Host.reduce IntOp.andi x v reducesTo_S4x4x256x256_S_d0_1_2_3 h_S_) main_v13 main_c_3
  (main_v4, main_v9, main_v14)
-- ==== Pre_finite_ctx.lean ====
abbrev S4x4x256x256 : Shape := ⟨4, ![4, 4, 256, 256]⟩
abbrev S4x4x256x128 : Shape := ⟨4, ![4, 4, 256, 128]⟩
abbrev S_ : Shape := ⟨0, ![]⟩

class Facts : Prop where
  bitsLt_bf16_f32 : FTy.bits .bf16 < FTy.bits .f32
  bcast_S_S4x4x256x256 : S_.BroadcastsInDim S4x4x256x256 (![] : Fin 0 → Fin S4x4x256x256.rank)
  reducesTo_S4x4x256x256_S_d0_1_2_3 : S4x4x256x256.ReducesTo [0, 1, 2, 3] S_
  h_S_ : 0 < S_.numel

variable [Facts]

def fn {F : FTy → Type} [FloatOps F] (main_arg0 : FVec F S4x4x256x256 .bf16) (main_arg1 : FVec F S4x4x256x256 .bf16) (main_arg2 : FVec F S4x4x256x128 .bf16) : IVec S_ 1 × IVec S_ 1 :=
  let main_v0 : FVec F S4x4x256x256 .f32 := (extf .f32 · bitsLt_bf16_f32) main_arg0
  let main_v1 : FVec F S4x4x256x256 .f32 := Host.absf main_v0
  let main_cst : FVec F S_ .f32 := constant S_ .f32 0x7F800000#32
  let main_v2 : FVec F S4x4x256x256 .f32 := broadcastInDim S4x4x256x256 ![] bcast_S_S4x4x256x256 main_cst
  let main_v3 : IVec S4x4x256x256 1 := cmpf .olt main_v1 main_v2
  let main_c : IVec S_ 1 := constantI S_ 1 1#1
  let main_v4 : IVec S_ 1 := (fun x v => Host.reduce IntOp.andi x v reducesTo_S4x4x256x256_S_d0_1_2_3 h_S_) main_v3 main_c
  let main_v5 : FVec F S4x4x256x256 .f32 := (extf .f32 · bitsLt_bf16_f32) main_arg1
  let main_v6 : FVec F S4x4x256x256 .f32 := Host.absf main_v5
  let main_cst_0 : FVec F S_ .f32 := constant S_ .f32 0x7F800000#32
  let main_v7 : FVec F S4x4x256x256 .f32 := broadcastInDim S4x4x256x256 ![] bcast_S_S4x4x256x256 main_cst_0
  let main_v8 : IVec S4x4x256x256 1 := cmpf .olt main_v6 main_v7
  let main_c_1 : IVec S_ 1 := constantI S_ 1 1#1
  let main_v9 : IVec S_ 1 := (fun x v => Host.reduce IntOp.andi x v reducesTo_S4x4x256x256_S_d0_1_2_3 h_S_) main_v8 main_c_1
  (main_v4, main_v9)
-- ==== Pre_finite_in.lean ====
abbrev S4x4096x2048 : Shape := ⟨3, ![4, 4096, 2048]⟩
abbrev S4x1x2048 : Shape := ⟨3, ![4, 1, 2048]⟩
abbrev S2048 : Shape := ⟨1, ![2048]⟩
abbrev S2048x5440 : Shape := ⟨2, ![2048, 5440]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x1x2048 : S_.BroadcastsInDim S4x1x2048 (![] : Fin 0 → Fin S4x1x2048.rank)
  reducesTo_S4x1x2048_S_d0_1_2 : S4x1x2048.ReducesTo [0, 1, 2] S_
  bcast_S_S2048 : S_.BroadcastsInDim S2048 (![] : Fin 0 → Fin S2048.rank)
  reducesTo_S2048_S_d0 : S2048.ReducesTo [0] S_
  bcast_S_S2048x5440 : S_.BroadcastsInDim S2048x5440 (![] : Fin 0 → Fin S2048x5440.rank)
  reducesTo_S2048x5440_S_d0_1 : S2048x5440.ReducesTo [0, 1] S_

variable [Facts]

def fn_part1 {F : FTy → Type} [FloatOps F] (main_arg4 : FVec F S2048x5440 .f32) (main_v3 : IVec S_ 1) (main_v7 : IVec S_ 1) (main_v11 : IVec S_ 1) (main_v15 : IVec S_ 1) : IVec S_ 1 × IVec S_ 1 × IVec S_ 1 × IVec S_ 1 × IVec S_ 1 :=
  let main_v16 : FVec F S2048x5440 .f32 := Host.absf main_arg4
  let main_cst_6 : FVec F S_ .f32 := constant S_ .f32 0x7F800000#32
  let main_v17 : FVec F S2048x5440 .f32 := broadcastInDim S2048x5440 ![] bcast_S_S2048x5440 main_cst_6
  let main_v18 : IVec S2048x5440 1 := cmpf .olt main_v16 main_v17
  let main_c_7 : IVec S_ 1 := constantI S_ 1 1#1
  let main_v19 : IVec S_ 1 := (fun x v => Host.reduce IntOp.andi x v reducesTo_S2048x5440_S_d0_1 h_S_) main_v18 main_c_7
  (main_v3, main_v7, main_v11, main_v15, main_v19)

def fn {F : FTy → Type} [FloatOps F] (main_arg0 : FVec F S4x4096x2048 .f32) (main_arg1 : FVec F S4x1x2048 .f32) (main_arg2 : FVec F S4x1x2048 .f32) (main_arg3 : FVec F S2048 .f32) (main_arg4 : FVec F S2048x5440 .f32) : IVec S_ 1 × IVec S_ 1 × IVec S_ 1 × IVec S_ 1 × IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x1x2048 .f32 := Host.absf main_arg1
  let main_cst_0 : FVec F S_ .f32 := constant S_ .f32 0x7F800000#32
  let main_v5 : FVec F S4x1x2048 .f32 := broadcastInDim S4x1x2048 ![] bcast_S_S4x1x2048 main_cst_0
  let main_v6 : IVec S4x1x2048 1 := cmpf .olt main_v4 main_v5
  let main_c_1 : IVec S_ 1 := constantI S_ 1 1#1
  let main_v7 : IVec S_ 1 := (fun x v => Host.reduce IntOp.andi x v reducesTo_S4x1x2048_S_d0_1_2 h_S_) main_v6 main_c_1
  let main_v8 : FVec F S4x1x2048 .f32 := Host.absf main_arg2
  let main_cst_2 : FVec F S_ .f32 := constant S_ .f32 0x7F800000#32
  let main_v9 : FVec F S4x1x2048 .f32 := broadcastInDim S4x1x2048 ![] bcast_S_S4x1x2048 main_cst_2
  let main_v10 : IVec S4x1x2048 1 := cmpf .olt main_v8 main_v9
  let main_c_3 : IVec S_ 1 := constantI S_ 1 1#1
  let main_v11 : IVec S_ 1 := (fun x v => Host.reduce IntOp.andi x v reducesTo_S4x1x2048_S_d0_1_2 h_S_) main_v10 main_c_3
  let main_v12 : FVec F S2048 .f32 := Host.absf main_arg3
  let main_cst_4 : FVec F S_ .f32 := constant S_ .f32 0x7F800000#32
  let main_v13 : FVec F S2048 .f32 := broadcastInDim S2048 ![] bcast_S_S2048 main_cst_4
  let main_v14 : IVec S2048 1 := cmpf .olt main_v12 main_v13
  let main_c_5 : IVec S_ 1 := constantI S_ 1 1#1
  let main_v15 : IVec S_ 1 := (fun x v => Host.reduce IntOp.andi x v reducesTo_S2048_S_d0 h_S_) main_v14 main_c_5
  fn_part1 (F := F) main_arg4 main_v3 main_v7 main_v11 main_v15
-- ==== Pre_finite_in_ctx.lean ====
abbrev S4x256x2048 : Shape := ⟨3, ![4, 256, 2048]⟩
abbrev S1x1x2048 : Shape := ⟨3, ![1, 1, 2048]⟩
abbrev S2048 : Shape := ⟨1, ![2048]⟩
abbrev S2048x5440 : Shape := ⟨2, ![2048, 5440]⟩
abbrev S_ : Shape := ⟨0, ![]⟩

class Facts : Prop where
  bcast_S_S4x256x2048 : S_.BroadcastsInDim S4x256x2048 (![] : Fin 0 → Fin S4x256x2048.rank)
  reducesTo_S4x256x2048_S_d0_1_2 : S4x256x2048.ReducesTo [0, 1, 2] S_
  h_S_ : 0 < S_.numel
  bcast_S_S1x1x2048 : S_.BroadcastsInDim S1x1x2048 (![] : Fin 0 → Fin S1x1x2048.rank)
  reducesTo_S1x1x2048_S_d0_1_2 : S1x1x2048.ReducesTo [0, 1, 2] S_
  bcast_S_S2048 : S_.BroadcastsInDim S2048 (![] : Fin 0 → Fin S2048.rank)
  reducesTo_S2048_S_d0 : S2048.ReducesTo [0] S_
  bcast_S_S2048x5440 : S_.BroadcastsInDim S2048x5440 (![] : Fin 0 → Fin S2048x5440.rank)
  reducesTo_S2048x5440_S_d0_1 : S2048x5440.ReducesTo [0, 1] S_

variable [Facts]

def fn_part1 {F : FTy → Type} [FloatOps F] (main_arg4 : FVec F S2048x5440 .f32) (main_v3 : IVec S_ 1) (main_v7 : IVec S_ 1) (main_v11 : IVec S_ 1) (main_v15 : IVec S_ 1) : IVec S_ 1 × IVec S_ 1 × IVec S_ 1 × IVec S_ 1 × IVec S_ 1 :=
  let main_v16 : FVec F S2048x5440 .f32 := Host.absf main_arg4
  let main_cst_6 : FVec F S_ .f32 := constant S_ .f32 0x7F800000#32
  let main_v17 : FVec F S2048x5440 .f32 := broadcastInDim S2048x5440 ![] bcast_S_S2048x5440 main_cst_6
  let main_v18 : IVec S2048x5440 1 := cmpf .olt main_v16 main_v17
  let main_c_7 : IVec S_ 1 := constantI S_ 1 1#1
  let main_v19 : IVec S_ 1 := (fun x v => Host.reduce IntOp.andi x v reducesTo_S2048x5440_S_d0_1 h_S_) main_v18 main_c_7
  (main_v3, main_v7, main_v11, main_v15, main_v19)

def fn {F : FTy → Type} [FloatOps F] (main_arg0 : FVec F S4x256x2048 .f32) (main_arg1 : FVec F S1x1x2048 .f32) (main_arg2 : FVec F S1x1x2048 .f32) (main_arg3 : FVec F S2048 .f32) (main_arg4 : FVec F S2048x5440 .f32) : IVec S_ 1 × IVec S_ 1 × IVec S_ 1 × IVec S_ 1 × IVec S_ 1 :=
  let main_v0 : FVec F S4x256x2048 .f32 := Host.absf main_arg0
  let main_cst : FVec F S_ .f32 := constant S_ .f32 0x7F800000#32
  let main_v1 : FVec F S4x256x2048 .f32 := broadcastInDim S4x256x2048 ![] bcast_S_S4x256x2048 main_cst
  let main_v2 : IVec S4x256x2048 1 := cmpf .olt main_v0 main_v1
  let main_c : IVec S_ 1 := constantI S_ 1 1#1
  let main_v3 : IVec S_ 1 := (fun x v => Host.reduce IntOp.andi x v reducesTo_S4x256x2048_S_d0_1_2 h_S_) main_v2 main_c
  let main_v4 : FVec F S1x1x2048 .f32 := Host.absf main_arg1
  let main_cst_0 : FVec F S_ .f32 := constant S_ .f32 0x7F800000#32
  let main_v5 : FVec F S1x1x2048 .f32 := broadcastInDim S1x1x2048 ![] bcast_S_S1x1x2048 main_cst_0
  let main_v6 : IVec S1x1x2048 1 := cmpf .olt main_v4 main_v5
  let main_c_1 : IVec S_ 1 := constantI S_ 1 1#1
  let main_v7 : IVec S_ 1 := (fun x v => Host.reduce IntOp.andi x v reducesTo_S1x1x2048_S_d0_1_2 h_S_) main_v6 main_c_1
  let main_v8 : FVec F S1x1x2048 .f32 := Host.absf main_arg2
  let main_cst_2 : FVec F S_ .f32 := constant S_ .f32 0x7F800000#32
  let main_v9 : FVec F S1x1x2048 .f32 := broadcastInDim S1x1x2048 ![] bcast_S_S1x1x2048 main_cst_2
  let main_v10 : IVec S1x1x2048 1 := cmpf .olt main_v8 main_v9
  let main_c_3 : IVec S_ 1 := constantI S_ 1 1#1
  let main_v11 : IVec S_ 1 := (fun x v => Host.reduce IntOp.andi x v reducesTo_S1x1x2048_S_d0_1_2 h_S_) main_v10 main_c_3
  let main_v12 : FVec F S2048 .f32 := Host.absf main_arg3
  let main_cst_4 : FVec F S_ .f32 := constant S_ .f32 0x7F800000#32
  let main_v13 : FVec F S2048 .f32 := broadcastInDim S2048 ![] bcast_S_S2048 main_cst_4
  let main_v14 : IVec S2048 1 := cmpf .olt main_v12 main_v13
  let main_c_5 : IVec S_ 1 := constantI S_ 1 1#1
  let main_v15 : IVec S_ 1 := (fun x v => Host.reduce IntOp.andi x v reducesTo_S2048_S_d0 h_S_) main_v14 main_c_5
  fn_part1 (F := F) main_arg4 main_v3 main_v7 main_v11 main_v15
-- ==== Kernel.lean ====
abbrev S4x4x4096x256 : Shape := ⟨4, ![4, 4, 4096, 256]⟩
abbrev S4x4x4096x128 : Shape := ⟨4, ![4, 4, 4096, 128]⟩
abbrev S4x4x256x256 : Shape := ⟨4, ![4, 4, 256, 256]⟩
abbrev S4x4x256x128 : Shape := ⟨4, ![4, 4, 256, 128]⟩
abbrev S4x4096x512 : Shape := ⟨3, ![4, 4096, 512]⟩
abbrev S1x1x1024x256 : Shape := ⟨4, ![1, 1, 1024, 256]⟩
abbrev S1x1x4096x256 : Shape := ⟨4, ![1, 1, 4096, 256]⟩
abbrev S1x1x4096x128 : Shape := ⟨4, ![1, 1, 4096, 128]⟩
abbrev S1x1x256x256 : Shape := ⟨4, ![1, 1, 256, 256]⟩
abbrev S1x1x256x128 : Shape := ⟨4, ![1, 1, 256, 128]⟩
abbrev S1x1024x128 : Shape := ⟨3, ![1, 1024, 128]⟩
abbrev S1x1x512x256 : Shape := ⟨4, ![1, 1, 512, 256]⟩
abbrev S512x256 : Shape := ⟨2, ![512, 256]⟩
abbrev S512x1 : Shape := ⟨2, ![512, 1]⟩
abbrev S512x128 : Shape := ⟨2, ![512, 128]⟩
abbrev S4096x256 : Shape := ⟨2, ![4096, 256]⟩
abbrev S512x4096 : Shape := ⟨2, ![512, 4096]⟩
abbrev S512 : Shape := ⟨1, ![512]⟩
abbrev S4096x128 : Shape := ⟨2, ![4096, 128]⟩
abbrev S256x256 : Shape := ⟨2, ![256, 256]⟩
abbrev S256x128 : Shape := ⟨2, ![256, 128]⟩
abbrev S1x512x128 : Shape := ⟨3, ![1, 512, 128]⟩

abbrev nBuf : Space → Nat
  | .hbm => 6
  | .vmem => 12
  | .smem => 0
  | _ => 0

abbrev bufTy : (tb : Table) → Fin (tcTables nBuf tb) → BufTy
  | .hbm, ⟨0, _⟩ => ⟨S4x4x4096x256, .bf16⟩
  | .hbm, ⟨1, _⟩ => ⟨S4x4x4096x256, .bf16⟩
  | .hbm, ⟨2, _⟩ => ⟨S4x4x4096x128, .bf16⟩
  | .hbm, ⟨3, _⟩ => ⟨S4x4x256x256, .bf16⟩
  | .hbm, ⟨4, _⟩ => ⟨S4x4x256x128, .bf16⟩
  | .hbm, ⟨5, _⟩ => ⟨S4x4096x512, .bf16⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1x4096x256, .bf16⟩
  | .local _ .vmem, ⟨3, _⟩ => ⟨S1x1x4096x256, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x1x256x256, .bf16⟩
  | .local _ .vmem, ⟨7, _⟩ => ⟨S1x1x256x256, .bf16⟩
  | .local _ .vmem, ⟨8, _⟩ => ⟨S1x1x256x128, .bf16⟩
  | .local _ .vmem, ⟨9, _⟩ => ⟨S1x1x256x128, .bf16⟩
  | .local _ .vmem, ⟨10, _⟩ => ⟨S1x1024x128, .bf16⟩
  | .local _ .vmem, ⟨11, _⟩ => ⟨S1x1024x128, .bf16⟩
  | _, _ => ⟨S4x4x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4x4096x256 : Shape := ⟨4, ![4, 4, 4096, 256]⟩
abbrev S4x4x4096x128 : Shape := ⟨4, ![4, 4, 4096, 128]⟩
abbrev S4x4x256x256 : Shape := ⟨4, ![4, 4, 256, 256]⟩
abbrev S4x4x256x128 : Shape := ⟨4, ![4, 4, 256, 128]⟩
abbrev S4x4x4352x256 : Shape := ⟨4, ![4, 4, 4352, 256]⟩
abbrev S4x4x4352x128 : Shape := ⟨4, ![4, 4, 4352, 128]⟩
abbrev S4x4x4096x4352 : Shape := ⟨4, ![4, 4, 4096, 4352]⟩
abbrev S_ : Shape := ⟨0, ![]⟩
abbrev S4x4x4096 : Shape := ⟨3, ![4, 4, 4096]⟩
abbrev S4x4x4096x1 : Shape := ⟨4, ![4, 4, 4096, 1]⟩
abbrev S4x4096x4x128 : Shape := ⟨4, ![4, 4096, 4, 128]⟩
abbrev S4x4096x512 : Shape := ⟨3, ![4, 4096, 512]⟩

abbrev nBuf : Space → Nat
  | .hbm => 33
  | .vmem => 0
  | .smem => 0
  | _ => 0

abbrev bufTy : (tb : Table) → Fin (tcTables nBuf tb) → BufTy
  | .hbm, ⟨0, _⟩ => ⟨S4x4x4096x256, .bf16⟩
  | .hbm, ⟨1, _⟩ => ⟨S4x4x4096x256, .bf16⟩
  | .hbm, ⟨2, _⟩ => ⟨S4x4x4096x128, .bf16⟩
  | .hbm, ⟨3, _⟩ => ⟨S4x4x256x256, .bf16⟩
  | .hbm, ⟨4, _⟩ => ⟨S4x4x256x128, .bf16⟩
  | .hbm, ⟨5, _⟩ => ⟨S4x4x4352x256, .bf16⟩
  | .hbm, ⟨6, _⟩ => ⟨S4x4x4352x256, .f32⟩
  | .hbm, ⟨7, _⟩ => ⟨S4x4x4352x128, .bf16⟩
  | .hbm, ⟨8, _⟩ => ⟨S4x4x4352x128, .f32⟩
  | .hbm, ⟨9, _⟩ => ⟨S4x4x4096x256, .f32⟩
  | .hbm, ⟨10, _⟩ => ⟨S4x4x4096x4352, .f32⟩
  | .hbm, ⟨11, _⟩ => ⟨S_, .f32⟩
  | .hbm, ⟨12, _⟩ => ⟨S_, .f32⟩
  | .hbm, ⟨13, _⟩ => ⟨S4x4x4096x4352, .f32⟩
  | .hbm, ⟨14, _⟩ => ⟨S4x4x4096x4352, .f32⟩
  | .hbm, ⟨15, _⟩ => ⟨S_, .f32⟩
  | .hbm, ⟨16, _⟩ => ⟨S4x4x4096, .f32⟩
  | .hbm, ⟨17, _⟩ => ⟨S_, .f32⟩
  | .hbm, ⟨18, _⟩ => ⟨S4x4x4096, .f32⟩
  | .hbm, ⟨19, _⟩ => ⟨S4x4x4096, .f32⟩
  | .hbm, ⟨20, _⟩ => ⟨S4x4x4096x1, .f32⟩
  | .hbm, ⟨21, _⟩ => ⟨S4x4x4096x4352, .f32⟩
  | .hbm, ⟨22, _⟩ => ⟨S4x4x4096x4352, .f32⟩
  | .hbm, ⟨23, _⟩ => ⟨S4x4x4096x4352, .f32⟩
  | .hbm, ⟨24, _⟩ => ⟨S_, .f32⟩
  | .hbm, ⟨25, _⟩ => ⟨S4x4x4096, .f32⟩
  | .hbm, ⟨26, _⟩ => ⟨S4x4x4096x1, .f32⟩
  | .hbm, ⟨27, _⟩ => ⟨S4x4x4096x4352, .f32⟩
  | .hbm, ⟨28, _⟩ => ⟨S4x4x4096x4352, .f32⟩
  | .hbm, ⟨29, _⟩ => ⟨S4x4x4096x128, .f32⟩
  | .hbm, ⟨30, _⟩ => ⟨S4x4096x4x128, .f32⟩
  | .hbm, ⟨31, _⟩ => ⟨S4x4096x512, .f32⟩
  | .hbm, ⟨32, _⟩ => ⟨S4x4096x512, .bf16⟩
  | _, _ => ⟨S4x4x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== MlpUp.lean ====
abbrev S4x4096x2048 : Shape := ⟨3, ![4, 4096, 2048]⟩
abbrev S4x1x2048 : Shape := ⟨3, ![4, 1, 2048]⟩
abbrev S2048 : Shape := ⟨1, ![2048]⟩
abbrev S2048x8192 : Shape := ⟨2, ![2048, 8192]⟩
abbrev S1x2048 : Shape := ⟨2, ![1, 2048]⟩
abbrev S4x4096x8192 : Shape := ⟨3, ![4, 4096, 8192]⟩
abbrev S1x1024x2048 : Shape := ⟨3, ![1, 1024, 2048]⟩
abbrev S1x1x2048 : Shape := ⟨3, ![1, 1, 2048]⟩
abbrev S2048x2048 : Shape := ⟨2, ![2048, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S4x1x2048, .f32⟩
  | .hbm, ⟨3, _⟩ => ⟨S2048, .f32⟩
  | .hbm, ⟨4, _⟩ => ⟨S2048x8192, .f32⟩
  | .hbm, ⟨5, _⟩ => ⟨S1x2048, .f32⟩
  | .hbm, ⟨6, _⟩ => ⟨S2048x8192, .bf16⟩
  | .hbm, ⟨7, _⟩ => ⟨S4x4096x8192, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x2048, .bf16⟩
  | .local _ .vmem, ⟨8, _⟩ => ⟨S2048x2048, .bf16⟩
  | .local _ .vmem, ⟨9, _⟩ => ⟨S1x1024x2048, .bf16⟩
  | .local _ .vmem, ⟨10, _⟩ => ⟨S1x1024x2048, .bf16⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MlpUpReferenceIdeal.lean ====
abbrev S4x4096x2048 : Shape := ⟨3, ![4, 4096, 2048]⟩
abbrev S4x1x2048 : Shape := ⟨3, ![4, 1, 2048]⟩
abbrev S2048 : Shape := ⟨1, ![2048]⟩
abbrev S2048x8192 : Shape := ⟨2, ![2048, 8192]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x8192 : Shape := ⟨3, ![4, 4096, 8192]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S4x1x2048, .f32⟩
  | .hbm, ⟨3, _⟩ => ⟨S2048, .f32⟩
  | .hbm, ⟨4, _⟩ => ⟨S2048x8192, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x1x2048, .f32⟩
  | .hbm, ⟨23, _⟩ => ⟨S4x1x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x8192, .f32⟩
  | .hbm, ⟨29, _⟩ => ⟨S_, .f32⟩
  | .hbm, ⟨30, _⟩ => ⟨S4x4096x8192, .f32⟩
  | .hbm, ⟨31, _⟩ => ⟨S4x4096x8192, .f32⟩
  | .hbm, ⟨32, _⟩ => ⟨S4x4096x8192, .f32⟩
  | .hbm, ⟨33, _⟩ => ⟨S4x4096x8192, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_cst : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== MlpDown.lean ====
abbrev S4x4096x8192 : Shape := ⟨3, ![4, 4096, 8192]⟩
abbrev S8192x2048 : Shape := ⟨2, ![8192, 2048]⟩
abbrev S4x4096x2048 : Shape := ⟨3, ![4, 4096, 2048]⟩
abbrev S4x1x2048 : Shape := ⟨3, ![4, 1, 2048]⟩
abbrev S1x1024x2048 : Shape := ⟨3, ![1, 1024, 2048]⟩
abbrev S2048x1024 : Shape := ⟨2, ![2048, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x2048 : Shape := ⟨2, ![1024, 2048]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4x4096x8192, .bf16⟩
  | .hbm, ⟨1, _⟩ => ⟨S8192x2048, .f32⟩
  | .hbm, ⟨2, _⟩ => ⟨S4x4096x2048, .f32⟩
  | .hbm, ⟨3, _⟩ => ⟨S4x1x2048, .f32⟩
  | .hbm, ⟨4, _⟩ => ⟨S8192x2048, .bf16⟩
  | .hbm, ⟨5, _⟩ => ⟨S4x4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .f32⟩
  | _, _ => ⟨S4x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![4, 4, 2, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== MlpDownIdeal.lean ====
abbrev S4x4096x8192 : Shape := ⟨3, ![4, 4096, 8192]⟩
abbrev S8192x2048 : Shape := ⟨2, ![8192, 2048]⟩
abbrev S4x4096x2048 : Shape := ⟨3, ![4, 4096, 2048]⟩
abbrev S4x1x2048 : Shape := ⟨3, ![4, 1, 2048]⟩
abbrev S1x1024x2048 : Shape := ⟨3, ![1, 1024, 2048]⟩
abbrev S2048x1024 : Shape := ⟨2, ![2048, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x2048 : Shape := ⟨2, ![1024, 2048]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4x4096x8192, .bf16⟩
  | .hbm, ⟨1, _⟩ => ⟨S8192x2048, .f32⟩
  | .hbm, ⟨2, _⟩ => ⟨S4x4096x2048, .f32⟩
  | .hbm, ⟨3, _⟩ => ⟨S4x1x2048, .f32⟩
  | .hbm, ⟨4, _⟩ => ⟨S8192x2048, .bf16⟩
  | .hbm, ⟨5, _⟩ => ⟨S4x4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .f32⟩
  | _, _ => ⟨S4x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![4, 4, 2, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== MlpDownReferenceIdeal.lean ====
abbrev S4x4096x8192 : Shape := ⟨3, ![4, 4096, 8192]⟩
abbrev S8192x2048 : Shape := ⟨2, ![8192, 2048]⟩
abbrev S4x4096x2048 : Shape := ⟨3, ![4, 4096, 2048]⟩
abbrev S4x1x2048 : Shape := ⟨3, ![4, 1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x8192, .bf16⟩
  | .hbm, ⟨1, _⟩ => ⟨S8192x2048, .f32⟩
  | .hbm, ⟨2, _⟩ => ⟨S4x4096x2048, .f32⟩
  | .hbm, ⟨3, _⟩ => ⟨S4x1x2048, .f32⟩
  | .hbm, ⟨4, _⟩ => ⟨S4x4096x8192, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | _, _ => ⟨S4x4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Mix.lean ====
abbrev S4x4096x512 : Shape := ⟨3, ![4, 4096, 512]⟩
abbrev S2x4096x1024 : Shape := ⟨3, ![2, 4096, 1024]⟩
abbrev S2048x2048 : Shape := ⟨2, ![2048, 2048]⟩
abbrev S4x4096x2048 : Shape := ⟨3, ![4, 4096, 2048]⟩
abbrev S4x1x2048 : Shape := ⟨3, ![4, 1, 2048]⟩
abbrev S1x1024x512 : Shape := ⟨3, ![1, 1024, 512]⟩
abbrev S2048x1024 : Shape := ⟨2, ![2048, 1024]⟩
abbrev S1x1024x1024 : Shape := ⟨3, ![1, 1024, 1024]⟩
abbrev S1x1x1024 : Shape := ⟨3, ![1, 1, 1024]⟩
abbrev S1024x512 : Shape := ⟨2, ![1024, 512]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 9
  | .vmem => 16
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S2x4096x1024, .bf16⟩
  | .hbm, ⟨4, _⟩ => ⟨S2048x2048, .f32⟩
  | .hbm, ⟨5, _⟩ => ⟨S4x4096x2048, .f32⟩
  | .hbm, ⟨6, _⟩ => ⟨S4x1x2048, .f32⟩
  | .hbm, ⟨7, _⟩ => ⟨S2048x2048, .bf16⟩
  | .hbm, ⟨8, _⟩ => ⟨S4x4096x2048, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S2048x1024, .bf16⟩
  | .local _ .vmem, ⟨9, _⟩ => ⟨S2048x1024, .bf16⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024x1024, .f32⟩
  | .local _ .vmem, ⟨15, _⟩ => ⟨S1x1024x1024, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, arg1.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== MixIdeal.lean ====
abbrev S4x4096x512 : Shape := ⟨3, ![4, 4096, 512]⟩
abbrev S2x4096x1024 : Shape := ⟨3, ![2, 4096, 1024]⟩
abbrev S2048x2048 : Shape := ⟨2, ![2048, 2048]⟩
abbrev S4x4096x2048 : Shape := ⟨3, ![4, 4096, 2048]⟩
abbrev S4x1x2048 : Shape := ⟨3, ![4, 1, 2048]⟩
abbrev S1x1024x512 : Shape := ⟨3, ![1, 1024, 512]⟩
abbrev S2048x1024 : Shape := ⟨2, ![2048, 1024]⟩
abbrev S1x1024x1024 : Shape := ⟨3, ![1, 1024, 1024]⟩
abbrev S1x1x1024 : Shape := ⟨3, ![1, 1, 1024]⟩
abbrev S1024x512 : Shape := ⟨2, ![1024, 512]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 9
  | .vmem => 16
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S2x4096x1024, .bf16⟩
  | .hbm, ⟨4, _⟩ => ⟨S2048x2048, .f32⟩
  | .hbm, ⟨5, _⟩ => ⟨S4x4096x2048, .f32⟩
  | .hbm, ⟨6, _⟩ => ⟨S4x1x2048, .f32⟩
  | .hbm, ⟨7, _⟩ => ⟨S2048x2048, .bf16⟩
  | .hbm, ⟨8, _⟩ => ⟨S4x4096x2048, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S2048x1024, .bf16⟩
  | .local _ .vmem, ⟨9, _⟩ => ⟨S2048x1024, .bf16⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024x1024, .f32⟩
  | .local _ .vmem, ⟨15, _⟩ => ⟨S1x1024x1024, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, arg1.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== MixReferenceIdeal.lean ====
abbrev S4x4096x512 : Shape := ⟨3, ![4, 4096, 512]⟩
abbrev S2x4096x1024 : Shape := ⟨3, ![2, 4096, 1024]⟩
abbrev S2048x2048 : Shape := ⟨2, ![2048, 2048]⟩
abbrev S4x4096x2048 : Shape := ⟨3, ![4, 4096, 2048]⟩
abbrev S4x1x2048 : Shape := ⟨3, ![4, 1, 2048]⟩
abbrev S2x4096x2x512 : Shape := ⟨4, ![2, 4096, 2, 512]⟩
abbrev S2x2x4096x512 : Shape := ⟨4, ![2, 2, 4096, 512]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S2x4096x1024, .bf16⟩
  | .hbm, ⟨4, _⟩ => ⟨S2048x2048, .f32⟩
  | .hbm, ⟨5, _⟩ => ⟨S4x4096x2048, .f32⟩
  | .hbm, ⟨6, _⟩ => ⟨S4x1x2048, .f32⟩
  | .hbm, ⟨7, _⟩ => ⟨S2x4096x2x512, .bf16⟩
  | .hbm, ⟨8, _⟩ => ⟨S2x2x4096x512, .bf16⟩
  | .hbm, ⟨9, _⟩ => ⟨S4x4096x512, .bf16⟩
  | .hbm, ⟨10, _⟩ => ⟨S4x4096x2048, .bf16⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== InProj.lean ====
abbrev S4x4096x2048 : Shape := ⟨3, ![4, 4096, 2048]⟩
abbrev S4x1x2048 : Shape := ⟨3, ![4, 1, 2048]⟩
abbrev S2048 : Shape := ⟨1, ![2048]⟩
abbrev S2048x5440 : Shape := ⟨2, ![2048, 5440]⟩
abbrev S_ : Shape := ⟨0, ![]⟩
abbrev S512x768 : Shape := ⟨2, ![512, 768]⟩
abbrev S256x1024 : Shape := ⟨2, ![256, 1024]⟩
abbrev S512 : Shape := ⟨1, ![512]⟩
abbrev S256 : Shape := ⟨1, ![256]⟩
abbrev S192 : Shape := ⟨1, ![192]⟩
abbrev S2048x256 : Shape := ⟨2, ![2048, 256]⟩
abbrev S2048x64 : Shape := ⟨2, ![2048, 64]⟩
abbrev S2048x5120 : Shape := ⟨2, ![2048, 5120]⟩
abbrev S2048x16 : Shape := ⟨2, ![2048, 16]⟩
abbrev S2048x128 : Shape := ⟨2, ![2048, 128]⟩
abbrev S2048x5632 : Shape := ⟨2, ![2048, 5632]⟩
abbrev S512x4x192 : Shape := ⟨3, ![512, 4, 192]⟩
abbrev S512x4x64 : Shape := ⟨3, ![512, 4, 64]⟩
abbrev S512x4x16 : Shape := ⟨3, ![512, 4, 16]⟩
abbrev S512x4x256 : Shape := ⟨3, ![512, 4, 256]⟩
abbrev S512x1024 : Shape := ⟨2, ![512, 1024]⟩
abbrev S1x256 : Shape := ⟨2, ![1, 256]⟩
abbrev S1x512 : Shape := ⟨2, ![1, 512]⟩
abbrev S128 : Shape := ⟨1, ![128]⟩
abbrev S1x128 : Shape := ⟨2, ![1, 128]⟩
abbrev S64 : Shape := ⟨1, ![64]⟩
abbrev S16 : Shape := ⟨1, ![16]⟩
abbrev S1x2048 : Shape := ⟨2, ![1, 2048]⟩
abbrev S4x4096x5632 : Shape := ⟨3, ![4, 4096, 5632]⟩
abbrev S1x1024x2048 : Shape := ⟨3, ![1, 1024, 2048]⟩
abbrev S1x1x2048 : Shape := ⟨3, ![1, 1, 2048]⟩
abbrev S2048x1408 : Shape := ⟨2, ![2048, 1408]⟩
abbrev S1x1024x1408 : Shape := ⟨3, ![1, 1024, 1408]⟩
abbrev S1024x2048 : Shape := ⟨2, ![1024, 2048]⟩
abbrev S1024 : Shape := ⟨1, ![1024]⟩
abbrev S1024x1 : Shape := ⟨2, ![1024, 1]⟩
abbrev S1024x1408 : Shape := ⟨2, ![1024, 1408]⟩

abbrev nBuf : Space → Nat
  | .hbm => 70
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S4x1x2048, .f32⟩
  | .hbm, ⟨3, _⟩ => ⟨S2048, .f32⟩
  | .hbm, ⟨4, _⟩ => ⟨S2048x5440, .f32⟩
  | .hbm, ⟨5, _⟩ => ⟨S_, .f32⟩
  | .hbm, ⟨6, _⟩ => ⟨S512x768, .f32⟩
  | .hbm, ⟨7, _⟩ => ⟨S_, .f32⟩
  | .hbm, ⟨8, _⟩ => ⟨S256x1024, .f32⟩
  | .hbm, ⟨9, _⟩ => ⟨S_, .f32⟩
  | .hbm, ⟨10, _⟩ => ⟨S512, .f32⟩
  | .hbm, ⟨11, _⟩ => ⟨S_, .f32⟩
  | .hbm, ⟨12, _⟩ => ⟨S256, .f32⟩
  | .hbm, ⟨13, _⟩ => ⟨S_, .f32⟩
  | .hbm, ⟨14, _⟩ => ⟨S192, .f32⟩
  | .hbm, ⟨15, _⟩ => ⟨S_, .f32⟩
  | .hbm, ⟨16, _⟩ => ⟨S192, .f32⟩
  | .hbm, ⟨17, _⟩ => ⟨S2048x256, .f32⟩
  | .hbm, ⟨18, _⟩ => ⟨S2048x64, .f32⟩
  | .hbm, ⟨19, _⟩ => ⟨S2048x5120, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S2048x64, .f32⟩
  | .hbm, ⟨27, _⟩ => ⟨S_, .f32⟩
  | .hbm, ⟨28, _⟩ => ⟨S2048x128, .f32⟩
  | .hbm, ⟨29, _⟩ => ⟨S2048x5632, .f32⟩
  | .hbm, ⟨30, _⟩ => ⟨S512x4x192, .f32⟩
  | .hbm, ⟨31, _⟩ => ⟨S512x4x64, .f32⟩
  | .hbm, ⟨32, _⟩ => ⟨S512x4x16, .f32⟩
  | .hbm, ⟨33, _⟩ => ⟨S512x4x16, .f32⟩
  | .hbm, ⟨34, _⟩ => ⟨S512x4x16, .f32⟩
  | .hbm, ⟨35, _⟩ => ⟨S512x4x16, .f32⟩
  | .hbm, ⟨36, _⟩ => ⟨S512x4x16, .f32⟩
  | .hbm, ⟨37, _⟩ => ⟨S512x4x16, .f32⟩
  | .hbm, ⟨38, _⟩ => ⟨S512x4x64, .f32⟩
  | .hbm, ⟨39, _⟩ => ⟨S512x4x256, .f32⟩
  | .hbm, ⟨40, _⟩ => ⟨S512x1024, .f32⟩
  | .hbm, ⟨41, _⟩ => ⟨S256x1024, .bf16⟩
  | .hbm, ⟨42, _⟩ => ⟨S512x1024, .bf16⟩
  | .hbm, ⟨43, _⟩ => ⟨S1x256, .f32⟩
  | .hbm, ⟨44, _⟩ => ⟨S1x512, .f32⟩
  | .hbm, ⟨45, _⟩ => ⟨S128, .f32⟩
  | .hbm, ⟨46, _⟩ => ⟨S1x128, .f32⟩
  | .hbm, ⟨47, _⟩ => ⟨S64, .f32⟩
  | .hbm, ⟨48, _⟩ => ⟨S64, .f32⟩
  | .hbm, ⟨49, _⟩ => ⟨S16, .f32⟩
  | .hbm, ⟨50, _⟩ => ⟨S16, .f32⟩
  | .hbm, ⟨51, _⟩ => ⟨S16, .f32⟩
  | .hbm, ⟨52, _⟩ => ⟨S16, .f32⟩
  | .hbm, ⟨53, _⟩ => ⟨S64, .f32⟩
  | .hbm, ⟨54, _⟩ => ⟨S128, .f32⟩
  | .hbm, ⟨55, _⟩ => ⟨S1x128, .f32⟩
  | .hbm, ⟨56, _⟩ => ⟨S128, .f32⟩
  | .hbm, ⟨57, _⟩ => ⟨S1x128, .f32⟩
  | .hbm, ⟨58, _⟩ => ⟨S64, .f32⟩
  | .hbm, ⟨59, _⟩ => ⟨S64, .f32⟩
  | .hbm, ⟨60, _⟩ => ⟨S16, .f32⟩
  | .hbm, ⟨61, _⟩ => ⟨S16, .f32⟩
  | .hbm, ⟨62, _⟩ => ⟨S16, .f32⟩
  | .hbm, ⟨63, _⟩ => ⟨S16, .f32⟩
  | .hbm, ⟨64, _⟩ => ⟨S64, .f32⟩
  | .hbm, ⟨65, _⟩ => ⟨S128, .f32⟩
  | .hbm, ⟨66, _⟩ => ⟨S1x128, .f32⟩
  | .hbm, ⟨67, _⟩ => ⟨S2048x5632, .bf16⟩
  | .hbm, ⟨68, _⟩ => ⟨S1x2048, .f32⟩
  | .hbm, ⟨69, _⟩ => ⟨S4x4096x5632, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x1408, .bf16⟩
  | .local _ .vmem, ⟨8, _⟩ => ⟨S2048x1408, .bf16⟩
  | .local _ .vmem, ⟨9, _⟩ => ⟨S1x1024x1408, .bf16⟩
  | .local _ .vmem, ⟨10, _⟩ => ⟨S1x1024x1408, .bf16⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_cst_3 : Ref sig .tc := ⟨.hbm, 13, rfl⟩
abbrev main_v4 : Ref sig .tc := ⟨.hbm, 14, rfl⟩
abbrev main_cst_4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== InProjIdeal.lean ====
abbrev S4x4096x2048 : Shape := ⟨3, ![4, 4096, 2048]⟩
abbrev S4x1x2048 : Shape := ⟨3, ![4, 1, 2048]⟩
abbrev S2048 : Shape := ⟨1, ![2048]⟩
abbrev S2048x5440 : Shape := ⟨2, ![2048, 5440]⟩
abbrev S_ : Shape := ⟨0, ![]⟩
abbrev S512x768 : Shape := ⟨2, ![512, 768]⟩
abbrev S256x1024 : Shape := ⟨2, ![256, 1024]⟩
abbrev S512 : Shape := ⟨1, ![512]⟩
abbrev S256 : Shape := ⟨1, ![256]⟩
abbrev S192 : Shape := ⟨1, ![192]⟩
abbrev S2048x256 : Shape := ⟨2, ![2048, 256]⟩
abbrev S2048x64 : Shape := ⟨2, ![2048, 64]⟩
abbrev S2048x5120 : Shape := ⟨2, ![2048, 5120]⟩
abbrev S2048x16 : Shape := ⟨2, ![2048, 16]⟩
abbrev S2048x128 : Shape := ⟨2, ![2048, 128]⟩
abbrev S2048x5632 : Shape := ⟨2, ![2048, 5632]⟩
abbrev S512x4x192 : Shape := ⟨3, ![512, 4, 192]⟩
abbrev S512x4x64 : Shape := ⟨3, ![512, 4, 64]⟩
abbrev S512x4x16 : Shape := ⟨3, ![512, 4, 16]⟩
abbrev S512x4x256 : Shape := ⟨3, ![512, 4, 256]⟩
abbrev S512x1024 : Shape := ⟨2, ![512, 1024]⟩
abbrev S1x256 : Shape := ⟨2, ![1, 256]⟩
abbrev S1x512 : Shape := ⟨2, ![1, 512]⟩
abbrev S128 : Shape := ⟨1, ![128]⟩
abbrev S1x128 : Shape := ⟨2, ![1, 128]⟩
abbrev S64 : Shape := ⟨1, ![64]⟩
abbrev S16 : Shape := ⟨1, ![16]⟩
abbrev S1x2048 : Shape := ⟨2, ![1, 2048]⟩
abbrev S4x4096x5632 : Shape := ⟨3, ![4, 4096, 5632]⟩
abbrev S1x1024x2048 : Shape := ⟨3, ![1, 1024, 2048]⟩
abbrev S1x1x2048 : Shape := ⟨3, ![1, 1, 2048]⟩
abbrev S2048x1408 : Shape := ⟨2, ![2048, 1408]⟩
abbrev S1x1024x1408 : Shape := ⟨3, ![1, 1024, 1408]⟩
abbrev S1024x2048 : Shape := ⟨2, ![1024, 2048]⟩
abbrev S1024 : Shape := ⟨1, ![1024]⟩
abbrev S1024x1 : Shape := ⟨2, ![1024, 1]⟩
abbrev S1024x1408 : Shape := ⟨2, ![1024, 1408]⟩

abbrev nBuf : Space → Nat
  | .hbm => 70
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S4x1x2048, .f32⟩
  | .hbm, ⟨3, _⟩ => ⟨S2048, .f32⟩
  | .hbm, ⟨4, _⟩ => ⟨S2048x5440, .f32⟩
  | .hbm, ⟨5, _⟩ => ⟨S_, .f32⟩
  | .hbm, ⟨6, _⟩ => ⟨S512x768, .f32⟩
  | .hbm, ⟨7, _⟩ => ⟨S_, .f32⟩
  | .hbm, ⟨8, _⟩ => ⟨S256x1024, .f32⟩
  | .hbm, ⟨9, _⟩ => ⟨S_, .f32⟩
  | .hbm, ⟨10, _⟩ => ⟨S512, .f32⟩
  | .hbm, ⟨11, _⟩ => ⟨S_, .f32⟩
  | .hbm, ⟨12, _⟩ => ⟨S256, .f32⟩
  | .hbm, ⟨13, _⟩ => ⟨S_, .f32⟩
  | .hbm, ⟨14, _⟩ => ⟨S192, .f32⟩
  | .hbm, ⟨15, _⟩ => ⟨S_, .f32⟩
  | .hbm, ⟨16, _⟩ => ⟨S192, .f32⟩
  | .hbm, ⟨17, _⟩ => ⟨S2048x256, .f32⟩
  | .hbm, ⟨18, _⟩ => ⟨S2048x64, .f32⟩
  | .hbm, ⟨19, _⟩ => ⟨S2048x5120, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S2048x64, .f32⟩
  | .hbm, ⟨27, _⟩ => ⟨S_, .f32⟩
  | .hbm, ⟨28, _⟩ => ⟨S2048x128, .f32⟩
  | .hbm, ⟨29, _⟩ => ⟨S2048x5632, .f32⟩
  | .hbm, ⟨30, _⟩ => ⟨S512x4x192, .f32⟩
  | .hbm, ⟨31, _⟩ => ⟨S512x4x64, .f32⟩
  | .hbm, ⟨32, _⟩ => ⟨S512x4x16, .f32⟩
  | .hbm, ⟨33, _⟩ => ⟨S512x4x16, .f32⟩
  | .hbm, ⟨34, _⟩ => ⟨S512x4x16, .f32⟩
  | .hbm, ⟨35, _⟩ => ⟨S512x4x16, .f32⟩
  | .hbm, ⟨36, _⟩ => ⟨S512x4x16, .f32⟩
  | .hbm, ⟨37, _⟩ => ⟨S512x4x16, .f32⟩
  | .hbm, ⟨38, _⟩ => ⟨S512x4x64, .f32⟩
  | .hbm, ⟨39, _⟩ => ⟨S512x4x256, .f32⟩
  | .hbm, ⟨40, _⟩ => ⟨S512x1024, .f32⟩
  | .hbm, ⟨41, _⟩ => ⟨S256x1024, .bf16⟩
  | .hbm, ⟨42, _⟩ => ⟨S512x1024, .bf16⟩
  | .hbm, ⟨43, _⟩ => ⟨S1x256, .f32⟩
  | .hbm, ⟨44, _⟩ => ⟨S1x512, .f32⟩
  | .hbm, ⟨45, _⟩ => ⟨S128, .f32⟩
  | .hbm, ⟨46, _⟩ => ⟨S1x128, .f32⟩
  | .hbm, ⟨47, _⟩ => ⟨S64, .f32⟩
  | .hbm, ⟨48, _⟩ => ⟨S64, .f32⟩
  | .hbm, ⟨49, _⟩ => ⟨S16, .f32⟩
  | .hbm, ⟨50, _⟩ => ⟨S16, .f32⟩
  | .hbm, ⟨51, _⟩ => ⟨S16, .f32⟩
  | .hbm, ⟨52, _⟩ => ⟨S16, .f32⟩
  | .hbm, ⟨53, _⟩ => ⟨S64, .f32⟩
  | .hbm, ⟨54, _⟩ => ⟨S128, .f32⟩
  | .hbm, ⟨55, _⟩ => ⟨S1x128, .f32⟩
  | .hbm, ⟨56, _⟩ => ⟨S128, .f32⟩
  | .hbm, ⟨57, _⟩ => ⟨S1x128, .f32⟩
  | .hbm, ⟨58, _⟩ => ⟨S64, .f32⟩
  | .hbm, ⟨59, _⟩ => ⟨S64, .f32⟩
  | .hbm, ⟨60, _⟩ => ⟨S16, .f32⟩
  | .hbm, ⟨61, _⟩ => ⟨S16, .f32⟩
  | .hbm, ⟨62, _⟩ => ⟨S16, .f32⟩
  | .hbm, ⟨63, _⟩ => ⟨S16, .f32⟩
  | .hbm, ⟨64, _⟩ => ⟨S64, .f32⟩
  | .hbm, ⟨65, _⟩ => ⟨S128, .f32⟩
  | .hbm, ⟨66, _⟩ => ⟨S1x128, .f32⟩
  | .hbm, ⟨67, _⟩ => ⟨S2048x5632, .bf16⟩
  | .hbm, ⟨68, _⟩ => ⟨S1x2048, .f32⟩
  | .hbm, ⟨69, _⟩ => ⟨S4x4096x5632, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x1408, .bf16⟩
  | .local _ .vmem, ⟨8, _⟩ => ⟨S2048x1408, .bf16⟩
  | .local _ .vmem, ⟨9, _⟩ => ⟨S1x1024x1408, .bf16⟩
  | .local _ .vmem, ⟨10, _⟩ => ⟨S1x1024x1408, .bf16⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_cst_3 : Ref sig .tc := ⟨.hbm, 13, rfl⟩
abbrev main_v4 : Ref sig .tc := ⟨.hbm, 14, rfl⟩
abbrev main_cst_4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== InProjReferenceIdeal.lean ====
abbrev S4x4096x2048 : Shape := ⟨3, ![4, 4096, 2048]⟩
abbrev S4x1x2048 : Shape := ⟨3, ![4, 1, 2048]⟩
abbrev S2048 : Shape := ⟨1, ![2048]⟩
abbrev S2048x5440 : Shape := ⟨2, ![2048, 5440]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x5440 : Shape := ⟨3, ![4, 4096, 5440]⟩
abbrev S4x4096x256 : Shape := ⟨3, ![4, 4096, 256]⟩
abbrev S4x4096x64 : Shape := ⟨3, ![4, 4096, 64]⟩
abbrev S4x4096x5120 : Shape := ⟨3, ![4, 4096, 5120]⟩
abbrev S4x4096x16 : Shape := ⟨3, ![4, 4096, 16]⟩
abbrev S4x4096x128 : Shape := ⟨3, ![4, 4096, 128]⟩
abbrev S4x4096x5632 : Shape := ⟨3, ![4, 4096, 5632]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S4x1x2048, .f32⟩
  | .hbm, ⟨3, _⟩ => ⟨S2048, .f32⟩
  | .hbm, ⟨4, _⟩ => ⟨S2048x5440, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x1x2048, .f32⟩
  | .hbm, ⟨23, _⟩ => ⟨S4x1x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x5440, .f32⟩
  | .hbm, ⟨29, _⟩ => ⟨S4x4096x256, .f32⟩
  | .hbm, ⟨30, _⟩ => ⟨S4x4096x64, .f32⟩
  | .hbm, ⟨31, _⟩ => ⟨S4x4096x5120, .f32⟩
  | .hbm, ⟨32, _⟩ => ⟨S4x4096x16, .f32⟩
  | .hbm, ⟨33, _⟩ => ⟨S4x4096x16, .f32⟩
  | .hbm, ⟨34, _⟩ => ⟨S4x4096x16, .f32⟩
  | .hbm, ⟨35, _⟩ => ⟨S4x4096x16, .f32⟩
  | .hbm, ⟨36, _⟩ => ⟨S4x4096x16, .f32⟩
  | .hbm, ⟨37, _⟩ => ⟨S4x4096x16, .f32⟩
  | .hbm, ⟨38, _⟩ => ⟨S4x4096x64, .f32⟩
  | .hbm, ⟨39, _⟩ => ⟨S_, .f32⟩
  | .hbm, ⟨40, _⟩ => ⟨S4x4096x128, .f32⟩
  | .hbm, ⟨41, _⟩ => ⟨S4x4096x5632, .f32⟩
  | .hbm, ⟨42, _⟩ => ⟨S4x4096x5632, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Mod.lean ====
abbrev S4x2048 : Shape := ⟨2, ![4, 2048]⟩
abbrev S2048 : Shape := ⟨1, ![2048]⟩
abbrev S2048x12288 : Shape := ⟨2, ![2048, 12288]⟩
abbrev S12288 : Shape := ⟨1, ![12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S1x12288 : Shape := ⟨2, ![1, 12288]⟩
abbrev S8x12288 : Shape := ⟨2, ![8, 12288]⟩
abbrev S2048x1536 : Shape := ⟨2, ![2048, 1536]⟩
abbrev S1x1536 : Shape := ⟨2, ![1, 1536]⟩
abbrev S8x1536 : Shape := ⟨2, ![8, 1536]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2048x12288, .f32⟩
  | .hbm, ⟨3, _⟩ => ⟨S12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S1x12288, .f32⟩
  | .hbm, ⟨9, _⟩ => ⟨S8x12288, .f32⟩
  | .local _ .vmem, ⟨0, _⟩ => ⟨S8x2048, .f32⟩
  | .local _ .vmem, ⟨1, _⟩ => ⟨S2048x1536, .f32⟩
  | .local _ .vmem, ⟨2, _⟩ => ⟨S2048x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModReferenceIdeal.lean ====
abbrev S4x2048 : Shape := ⟨2, ![4, 2048]⟩
abbrev S2048 : Shape := ⟨1, ![2048]⟩
abbrev S2048x12288 : Shape := ⟨2, ![2048, 12288]⟩
abbrev S12288 : Shape := ⟨1, ![12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S8x12288 : Shape := ⟨2, ![8, 12288]⟩
abbrev S1x12288 : Shape := ⟨2, ![1, 12288]⟩

abbrev nBuf : Space → Nat
  | .hbm => 21
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2048x12288, .f32⟩
  | .hbm, ⟨3, _⟩ => ⟨S12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S8x12288, .f32⟩
  | .hbm, ⟨18, _⟩ => ⟨S1x12288, .f32⟩
  | .hbm, ⟨19, _⟩ => ⟨S8x12288, .f32⟩
  | .hbm, ⟨20, _⟩ => ⟨S8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== MlpUpCtx.lean ====
abbrev S4x256x2048 : Shape := ⟨3, ![4, 256, 2048]⟩
abbrev S1x1x2048 : Shape := ⟨3, ![1, 1, 2048]⟩
abbrev S2048 : Shape := ⟨1, ![2048]⟩
abbrev S2048x8192 : Shape := ⟨2, ![2048, 8192]⟩
abbrev S1x2048 : Shape := ⟨2, ![1, 2048]⟩
abbrev S4x256x8192 : Shape := ⟨3, ![4, 256, 8192]⟩
abbrev S1x256x2048 : Shape := ⟨3, ![1, 256, 2048]⟩
abbrev S2048x512 : Shape := ⟨2, ![2048, 512]⟩
abbrev S1x256x512 : Shape := ⟨3, ![1, 256, 512]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩

abbrev nBuf : Space → Nat
  | .hbm => 8
  | .vmem => 10
  | .smem => 0
  | _ => 0

abbrev bufTy : (tb : Table) → Fin (tcTables nBuf tb) → BufTy
  | .hbm, ⟨0, _⟩ => ⟨S4x256x2048, .f32⟩
  | .hbm, ⟨1, _⟩ => ⟨S1x1x2048, .f32⟩
  | .hbm, ⟨2, _⟩ => ⟨S1x1x2048, .f32⟩
  | .hbm, ⟨3, _⟩ => ⟨S2048, .f32⟩
  | .hbm, ⟨4, _⟩ => ⟨S2048x8192, .f32⟩
  | .hbm, ⟨5, _⟩ => ⟨S1x2048, .f32⟩
  | .hbm, ⟨6, _⟩ => ⟨S2048x8192, .bf16⟩
  | .hbm, ⟨7, _⟩ => ⟨S4x256x8192, .bf16⟩
  | .local _ .vmem, ⟨0, _⟩ => ⟨S1x256x2048, .f32⟩
  | .local _ .vmem, ⟨1, _⟩ => ⟨S1x256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S1x256x512, .bf16⟩
  | .local _ .vmem, ⟨8, _⟩ => ⟨S1x256x512, .bf16⟩
  | .local _ .vmem, ⟨9, _⟩ => ⟨S256x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![4, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MlpUpCtxReferenceIdeal.lean ====
abbrev S4x256x2048 : Shape := ⟨3, ![4, 256, 2048]⟩
abbrev S1x1x2048 : Shape := ⟨3, ![1, 1, 2048]⟩
abbrev S2048 : Shape := ⟨1, ![2048]⟩
abbrev S2048x8192 : Shape := ⟨2, ![2048, 8192]⟩
abbrev S_ : Shape := ⟨0, ![]⟩
abbrev S4x256 : Shape := ⟨2, ![4, 256]⟩
abbrev S4x256x1 : Shape := ⟨3, ![4, 256, 1]⟩
abbrev S4x256x8192 : Shape := ⟨3, ![4, 256, 8192]⟩

abbrev nBuf : Space → Nat
  | .hbm => 34
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x1x2048, .f32⟩
  | .hbm, ⟨2, _⟩ => ⟨S1x1x2048, .f32⟩
  | .hbm, ⟨3, _⟩ => ⟨S2048, .f32⟩
  | .hbm, ⟨4, _⟩ => ⟨S2048x8192, .f32⟩
  | .hbm, ⟨5, _⟩ => ⟨S4x256x2048, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x2048, .f32⟩
  | .hbm, ⟨17, _⟩ => ⟨S4x256x2048, .f32⟩
  | .hbm, ⟨18, _⟩ => ⟨S1x1x2048, .f32⟩
  | .hbm, ⟨19, _⟩ => ⟨S4x256x2048, .f32⟩
  | .hbm, ⟨20, _⟩ => ⟨S4x256x2048, .f32⟩
  | .hbm, ⟨21, _⟩ => ⟨S_, .f32⟩
  | .hbm, ⟨22, _⟩ => ⟨S1x1x2048, .f32⟩
  | .hbm, ⟨23, _⟩ => ⟨S1x1x2048, .f32⟩
  | .hbm, ⟨24, _⟩ => ⟨S4x256x2048, .f32⟩
  | .hbm, ⟨25, _⟩ => ⟨S4x256x2048, .f32⟩
  | .hbm, ⟨26, _⟩ => ⟨S4x256x2048, .f32⟩
  | .hbm, ⟨27, _⟩ => ⟨S4x256x2048, .f32⟩
  | .hbm, ⟨28, _⟩ => ⟨S4x256x8192, .f32⟩
  | .hbm, ⟨29, _⟩ => ⟨S_, .f32⟩
  | .hbm, ⟨30, _⟩ => ⟨S4x256x8192, .f32⟩
  | .hbm, ⟨31, _⟩ => ⟨S4x256x8192, .f32⟩
  | .hbm, ⟨32, _⟩ => ⟨S4x256x8192, .f32⟩
  | .hbm, ⟨33, _⟩ => ⟨S4x256x8192, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_cst : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== MlpDownCtx.lean ====
abbrev S4x256x8192 : Shape := ⟨3, ![4, 256, 8192]⟩
abbrev S8192x2048 : Shape := ⟨2, ![8192, 2048]⟩
abbrev S4x256x2048 : Shape := ⟨3, ![4, 256, 2048]⟩
abbrev S1x1x2048 : Shape := ⟨3, ![1, 1, 2048]⟩
abbrev S1x256x2048 : Shape := ⟨3, ![1, 256, 2048]⟩
abbrev S2048x1024 : Shape := ⟨2, ![2048, 1024]⟩
abbrev S1x256x1024 : Shape := ⟨3, ![1, 256, 1024]⟩
abbrev S1x1x1024 : Shape := ⟨3, ![1, 1, 1024]⟩
abbrev S256x1024 : Shape := ⟨2, ![256, 1024]⟩
abbrev S256x2048 : Shape := ⟨2, ![256, 2048]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4x256x8192, .bf16⟩
  | .hbm, ⟨1, _⟩ => ⟨S8192x2048, .f32⟩
  | .hbm, ⟨2, _⟩ => ⟨S4x256x2048, .f32⟩
  | .hbm, ⟨3, _⟩ => ⟨S1x1x2048, .f32⟩
  | .hbm, ⟨4, _⟩ => ⟨S8192x2048, .bf16⟩
  | .hbm, ⟨5, _⟩ => ⟨S4x256x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x256x1024, .f32⟩
  | .local _ .vmem, ⟨9, _⟩ => ⟨S1x256x1024, .f32⟩
  | .local _ .vmem, ⟨10, _⟩ => ⟨S256x1024, .f32⟩
  | _, _ => ⟨S4x256x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![4, 1, 2, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== MlpDownCtxReferenceIdeal.lean ====
abbrev S4x256x8192 : Shape := ⟨3, ![4, 256, 8192]⟩
abbrev S8192x2048 : Shape := ⟨2, ![8192, 2048]⟩
abbrev S4x256x2048 : Shape := ⟨3, ![4, 256, 2048]⟩
abbrev S1x1x2048 : Shape := ⟨3, ![1, 1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x256x8192, .bf16⟩
  | .hbm, ⟨1, _⟩ => ⟨S8192x2048, .f32⟩
  | .hbm, ⟨2, _⟩ => ⟨S4x256x2048, .f32⟩
  | .hbm, ⟨3, _⟩ => ⟨S1x1x2048, .f32⟩
  | .hbm, ⟨4, _⟩ => ⟨S4x256x8192, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | _, _ => ⟨S4x256x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MixCtx.lean ====
abbrev S4x256x512 : Shape := ⟨3, ![4, 256, 512]⟩
abbrev S2x256x1024 : Shape := ⟨3, ![2, 256, 1024]⟩
abbrev S2048x2048 : Shape := ⟨2, ![2048, 2048]⟩
abbrev S4x256x2048 : Shape := ⟨3, ![4, 256, 2048]⟩
abbrev S1x1x2048 : Shape := ⟨3, ![1, 1, 2048]⟩
abbrev S1x256x512 : Shape := ⟨3, ![1, 256, 512]⟩
abbrev S2048x1024 : Shape := ⟨2, ![2048, 1024]⟩
abbrev S1x256x1024 : Shape := ⟨3, ![1, 256, 1024]⟩
abbrev S1x1x1024 : Shape := ⟨3, ![1, 1, 1024]⟩
abbrev S256x512 : Shape := ⟨2, ![256, 512]⟩
abbrev S512x1024 : Shape := ⟨2, ![512, 1024]⟩
abbrev S256x1024 : Shape := ⟨2, ![256, 1024]⟩
abbrev S1x1024 : Shape := ⟨2, ![1, 1024]⟩

abbrev nBuf : Space → Nat
  | .hbm => 9
  | .vmem => 16
  | .smem => 0
  | _ => 0

abbrev bufTy : (tb : Table) → Fin (tcTables nBuf tb) → BufTy
  | .hbm, ⟨0, _⟩ => ⟨S4x256x512, .bf16⟩
  | .hbm, ⟨1, _⟩ => ⟨S4x256x512, .bf16⟩
  | .hbm, ⟨2, _⟩ => ⟨S4x256x512, .bf16⟩
  | .hbm, ⟨3, _⟩ => ⟨S2x256x1024, .bf16⟩
  | .hbm, ⟨4, _⟩ => ⟨S2048x2048, .f32⟩
  | .hbm, ⟨5, _⟩ => ⟨S4x256x2048, .f32⟩
  | .hbm, ⟨6, _⟩ => ⟨S1x1x2048, .f32⟩
  | .hbm, ⟨7, _⟩ => ⟨S2048x2048, .bf16⟩
  | .hbm, ⟨8, _⟩ => ⟨S4x256x2048, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S2048x1024, .bf16⟩
  | .local _ .vmem, ⟨9, _⟩ => ⟨S2048x1024, .bf16⟩
  | .local _ .vmem, ⟨10, _⟩ => ⟨S1x256x1024, .f32⟩
  | .local _ .vmem, ⟨11, _⟩ => ⟨S1x256x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x256x1024, .f32⟩
  | .local _ .vmem, ⟨15, _⟩ => ⟨S1x256x1024, .f32⟩
  | _, _ => ⟨S4x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, arg1.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== MixCtxReferenceIdeal.lean ====
abbrev S4x256x512 : Shape := ⟨3, ![4, 256, 512]⟩
abbrev S2x256x1024 : Shape := ⟨3, ![2, 256, 1024]⟩
abbrev S2048x2048 : Shape := ⟨2, ![2048, 2048]⟩
abbrev S4x256x2048 : Shape := ⟨3, ![4, 256, 2048]⟩
abbrev S1x1x2048 : Shape := ⟨3, ![1, 1, 2048]⟩
abbrev S2x256x2x512 : Shape := ⟨4, ![2, 256, 2, 512]⟩
abbrev S2x2x256x512 : Shape := ⟨4, ![2, 2, 256, 512]⟩

abbrev nBuf : Space → Nat
  | .hbm => 16
  | .vmem => 0
  | .smem => 0
  | _ => 0

abbrev bufTy : (tb : Table) → Fin (tcTables nBuf tb) → BufTy
  | .hbm, ⟨0, _⟩ => ⟨S4x256x512, .bf16⟩
  | .hbm, ⟨1, _⟩ => ⟨S4x256x512, .bf16⟩
  | .hbm, ⟨2, _⟩ => ⟨S4x256x512, .bf16⟩
  | .hbm, ⟨3, _⟩ => ⟨S2x256x1024, .bf16⟩
  | .hbm, ⟨4, _⟩ => ⟨S2048x2048, .f32⟩
  | .hbm, ⟨5, _⟩ => ⟨S4x256x2048, .f32⟩
  | .hbm, ⟨6, _⟩ => ⟨S1x1x2048, .f32⟩
  | .hbm, ⟨7, _⟩ => ⟨S2x256x2x512, .bf16⟩
  | .hbm, ⟨8, _⟩ => ⟨S2x2x256x512, .bf16⟩
  | .hbm, ⟨9, _⟩ => ⟨S4x256x512, .bf16⟩
  | .hbm, ⟨10, _⟩ => ⟨S4x256x2048, .bf16⟩
  | .hbm, ⟨11, _⟩ => ⟨S4x256x2048, .f32⟩
  | .hbm, ⟨12, _⟩ => ⟨S4x256x2048, .f32⟩
  | .hbm, ⟨13, _⟩ => ⟨S4x256x2048, .f32⟩
  | .hbm, ⟨14, _⟩ => ⟨S4x256x2048, .f32⟩
  | .hbm, ⟨15, _⟩ => ⟨S4x256x2048, .f32⟩
  | _, _ => ⟨S4x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== InProjCtx.lean ====
abbrev S4x256x2048 : Shape := ⟨3, ![4, 256, 2048]⟩
abbrev S1x1x2048 : Shape := ⟨3, ![1, 1, 2048]⟩
abbrev S2048 : Shape := ⟨1, ![2048]⟩
abbrev S2048x5440 : Shape := ⟨2, ![2048, 5440]⟩
abbrev S_ : Shape := ⟨0, ![]⟩
abbrev S512x768 : Shape := ⟨2, ![512, 768]⟩
abbrev S256x1024 : Shape := ⟨2, ![256, 1024]⟩
abbrev S512 : Shape := ⟨1, ![512]⟩
abbrev S256 : Shape := ⟨1, ![256]⟩
abbrev S192 : Shape := ⟨1, ![192]⟩
abbrev S2048x256 : Shape := ⟨2, ![2048, 256]⟩
abbrev S2048x64 : Shape := ⟨2, ![2048, 64]⟩
abbrev S2048x5120 : Shape := ⟨2, ![2048, 5120]⟩
abbrev S2048x16 : Shape := ⟨2, ![2048, 16]⟩
abbrev S2048x128 : Shape := ⟨2, ![2048, 128]⟩
abbrev S2048x5632 : Shape := ⟨2, ![2048, 5632]⟩
abbrev S512x4x192 : Shape := ⟨3, ![512, 4, 192]⟩
abbrev S512x4x64 : Shape := ⟨3, ![512, 4, 64]⟩
abbrev S512x4x16 : Shape := ⟨3, ![512, 4, 16]⟩
abbrev S512x4x256 : Shape := ⟨3, ![512, 4, 256]⟩
abbrev S512x1024 : Shape := ⟨2, ![512, 1024]⟩
abbrev S1x256 : Shape := ⟨2, ![1, 256]⟩
abbrev S1x512 : Shape := ⟨2, ![1, 512]⟩
abbrev S128 : Shape := ⟨1, ![128]⟩
abbrev S1x128 : Shape := ⟨2, ![1, 128]⟩
abbrev S64 : Shape := ⟨1, ![64]⟩
abbrev S16 : Shape := ⟨1, ![16]⟩
abbrev S1x2048 : Shape := ⟨2, ![1, 2048]⟩
abbrev S4x256x5632 : Shape := ⟨3, ![4, 256, 5632]⟩
abbrev S1x256x2048 : Shape := ⟨3, ![1, 256, 2048]⟩
abbrev S2048x1408 : Shape := ⟨2, ![2048, 1408]⟩
abbrev S1x256x1408 : Shape := ⟨3, ![1, 256, 1408]⟩
abbrev S256x2048 : Shape := ⟨2, ![256, 2048]⟩
abbrev S256x1 : Shape := ⟨2, ![256, 1]⟩
abbrev S256x1408 : Shape := ⟨2, ![256, 1408]⟩

abbrev nBuf : Space → Nat
  | .hbm => 70
  | .vmem => 10
  | .smem => 0
  | _ => 0

abbrev bufTy : (tb : Table) → Fin (tcTables nBuf tb) → BufTy
  | .hbm, ⟨0, _⟩ => ⟨S4x256x2048, .f32⟩
  | .hbm, ⟨1, _⟩ => ⟨S1x1x2048, .f32⟩
  | .hbm, ⟨2, _⟩ => ⟨S1x1x2048, .f32⟩
  | .hbm, ⟨3, _⟩ => ⟨S2048, .f32⟩
  | .hbm, ⟨4, _⟩ => ⟨S2048x5440, .f32⟩
  | .hbm, ⟨5, _⟩ => ⟨S_, .f32⟩
  | .hbm, ⟨6, _⟩ => ⟨S512x768, .f32⟩
  | .hbm, ⟨7, _⟩ => ⟨S_, .f32⟩
  | .hbm, ⟨8, _⟩ => ⟨S256x1024, .f32⟩
  | .hbm, ⟨9, _⟩ => ⟨S_, .f32⟩
  | .hbm, ⟨10, _⟩ => ⟨S512, .f32⟩
  | .hbm, ⟨11, _⟩ => ⟨S_, .f32⟩
  | .hbm, ⟨12, _⟩ => ⟨S256, .f32⟩
  | .hbm, ⟨13, _⟩ => ⟨S_, .f32⟩
  | .hbm, ⟨14, _⟩ => ⟨S192, .f32⟩
  | .hbm, ⟨15, _⟩ => ⟨S_, .f32⟩
  | .hbm, ⟨16, _⟩ => ⟨S192, .f32⟩
  | .hbm, ⟨17, _⟩ => ⟨S2048x256, .f32⟩
  | .hbm, ⟨18, _⟩ => ⟨S2048x64, .f32⟩
  | .hbm, ⟨19, _⟩ => ⟨S2048x5120, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S2048x64, .f32⟩
  | .hbm, ⟨27, _⟩ => ⟨S_, .f32⟩
  | .hbm, ⟨28, _⟩ => ⟨S2048x128, .f32⟩
  | .hbm, ⟨29, _⟩ => ⟨S2048x5632, .f32⟩
  | .hbm, ⟨30, _⟩ => ⟨S512x4x192, .f32⟩
  | .hbm, ⟨31, _⟩ => ⟨S512x4x64, .f32⟩
  | .hbm, ⟨32, _⟩ => ⟨S512x4x16, .f32⟩
  | .hbm, ⟨33, _⟩ => ⟨S512x4x16, .f32⟩
  | .hbm, ⟨34, _⟩ => ⟨S512x4x16, .f32⟩
  | .hbm, ⟨35, _⟩ => ⟨S512x4x16, .f32⟩
  | .hbm, ⟨36, _⟩ => ⟨S512x4x16, .f32⟩
  | .hbm, ⟨37, _⟩ => ⟨S512x4x16, .f32⟩
  | .hbm, ⟨38, _⟩ => ⟨S512x4x64, .f32⟩
  | .hbm, ⟨39, _⟩ => ⟨S512x4x256, .f32⟩
  | .hbm, ⟨40, _⟩ => ⟨S512x1024, .f32⟩
  | .hbm, ⟨41, _⟩ => ⟨S256x1024, .bf16⟩
  | .hbm, ⟨42, _⟩ => ⟨S512x1024, .bf16⟩
  | .hbm, ⟨43, _⟩ => ⟨S1x256, .f32⟩
  | .hbm, ⟨44, _⟩ => ⟨S1x512, .f32⟩
  | .hbm, ⟨45, _⟩ => ⟨S128, .f32⟩
  | .hbm, ⟨46, _⟩ => ⟨S1x128, .f32⟩
  | .hbm, ⟨47, _⟩ => ⟨S64, .f32⟩
  | .hbm, ⟨48, _⟩ => ⟨S64, .f32⟩
  | .hbm, ⟨49, _⟩ => ⟨S16, .f32⟩
  | .hbm, ⟨50, _⟩ => ⟨S16, .f32⟩
  | .hbm, ⟨51, _⟩ => ⟨S16, .f32⟩
  | .hbm, ⟨52, _⟩ => ⟨S16, .f32⟩
  | .hbm, ⟨53, _⟩ => ⟨S64, .f32⟩
  | .hbm, ⟨54, _⟩ => ⟨S128, .f32⟩
  | .hbm, ⟨55, _⟩ => ⟨S1x128, .f32⟩
  | .hbm, ⟨56, _⟩ => ⟨S128, .f32⟩
  | .hbm, ⟨57, _⟩ => ⟨S1x128, .f32⟩
  | .hbm, ⟨58, _⟩ => ⟨S64, .f32⟩
  | .hbm, ⟨59, _⟩ => ⟨S64, .f32⟩
  | .hbm, ⟨60, _⟩ => ⟨S16, .f32⟩
  | .hbm, ⟨61, _⟩ => ⟨S16, .f32⟩
  | .hbm, ⟨62, _⟩ => ⟨S16, .f32⟩
  | .hbm, ⟨63, _⟩ => ⟨S16, .f32⟩
  | .hbm, ⟨64, _⟩ => ⟨S64, .f32⟩
  | .hbm, ⟨65, _⟩ => ⟨S128, .f32⟩
  | .hbm, ⟨66, _⟩ => ⟨S1x128, .f32⟩
  | .hbm, ⟨67, _⟩ => ⟨S2048x5632, .bf16⟩
  | .hbm, ⟨68, _⟩ => ⟨S1x2048, .f32⟩
  | .hbm, ⟨69, _⟩ => ⟨S4x256x5632, .bf16⟩
  | .local _ .vmem, ⟨0, _⟩ => ⟨S1x256x2048, .f32⟩
  | .local _ .vmem, ⟨1, _⟩ => ⟨S1x256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048, .f32⟩
  | .local _ .vmem, ⟨5, _⟩ => ⟨S2048x1408, .bf16⟩
  | .local _ .vmem, ⟨6, _⟩ => ⟨S2048x1408, .bf16⟩
  | .local _ .vmem, ⟨7, _⟩ => ⟨S1x256x1408, .bf16⟩
  | .local _ .vmem, ⟨8, _⟩ => ⟨S1x256x1408, .bf16⟩
  | .local _ .vmem, ⟨9, _⟩ => ⟨S256x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_cst_3 : Ref sig .tc := ⟨.hbm, 13, rfl⟩
abbrev main_v4 : Ref sig .tc := ⟨.hbm, 14, rfl⟩
abbrev main_cst_4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== InProjCtxReferenceIdeal.lean ====
abbrev S4x256x2048 : Shape := ⟨3, ![4, 256, 2048]⟩
abbrev S1x1x2048 : Shape := ⟨3, ![1, 1, 2048]⟩
abbrev S2048 : Shape := ⟨1, ![2048]⟩
abbrev S2048x5440 : Shape := ⟨2, ![2048, 5440]⟩
abbrev S_ : Shape := ⟨0, ![]⟩
abbrev S4x256 : Shape := ⟨2, ![4, 256]⟩
abbrev S4x256x1 : Shape := ⟨3, ![4, 256, 1]⟩
abbrev S4x256x5440 : Shape := ⟨3, ![4, 256, 5440]⟩
abbrev S4x256x256 : Shape := ⟨3, ![4, 256, 256]⟩
abbrev S4x256x64 : Shape := ⟨3, ![4, 256, 64]⟩
abbrev S4x256x5120 : Shape := ⟨3, ![4, 256, 5120]⟩
abbrev S4x256x16 : Shape := ⟨3, ![4, 256, 16]⟩
abbrev S4x256x128 : Shape := ⟨3, ![4, 256, 128]⟩
abbrev S4x256x5632 : Shape := ⟨3, ![4, 256, 5632]⟩

abbrev nBuf : Space → Nat
  | .hbm => 43
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x1x2048, .f32⟩
  | .hbm, ⟨2, _⟩ => ⟨S1x1x2048, .f32⟩
  | .hbm, ⟨3, _⟩ => ⟨S2048, .f32⟩
  | .hbm, ⟨4, _⟩ => ⟨S2048x5440, .f32⟩
  | .hbm, ⟨5, _⟩ => ⟨S4x256x2048, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x2048, .f32⟩
  | .hbm, ⟨17, _⟩ => ⟨S4x256x2048, .f32⟩
  | .hbm, ⟨18, _⟩ => ⟨S1x1x2048, .f32⟩
  | .hbm, ⟨19, _⟩ => ⟨S4x256x2048, .f32⟩
  | .hbm, ⟨20, _⟩ => ⟨S4x256x2048, .f32⟩
  | .hbm, ⟨21, _⟩ => ⟨S_, .f32⟩
  | .hbm, ⟨22, _⟩ => ⟨S1x1x2048, .f32⟩
  | .hbm, ⟨23, _⟩ => ⟨S1x1x2048, .f32⟩
  | .hbm, ⟨24, _⟩ => ⟨S4x256x2048, .f32⟩
  | .hbm, ⟨25, _⟩ => ⟨S4x256x2048, .f32⟩
  | .hbm, ⟨26, _⟩ => ⟨S4x256x2048, .f32⟩
  | .hbm, ⟨27, _⟩ => ⟨S4x256x2048, .f32⟩
  | .hbm, ⟨28, _⟩ => ⟨S4x256x5440, .f32⟩
  | .hbm, ⟨29, _⟩ => ⟨S4x256x256, .f32⟩
  | .hbm, ⟨30, _⟩ => ⟨S4x256x64, .f32⟩
  | .hbm, ⟨31, _⟩ => ⟨S4x256x5120, .f32⟩
  | .hbm, ⟨32, _⟩ => ⟨S4x256x16, .f32⟩
  | .hbm, ⟨33, _⟩ => ⟨S4x256x16, .f32⟩
  | .hbm, ⟨34, _⟩ => ⟨S4x256x16, .f32⟩
  | .hbm, ⟨35, _⟩ => ⟨S4x256x16, .f32⟩
  | .hbm, ⟨36, _⟩ => ⟨S4x256x16, .f32⟩
  | .hbm, ⟨37, _⟩ => ⟨S4x256x16, .f32⟩
  | .hbm, ⟨38, _⟩ => ⟨S4x256x64, .f32⟩
  | .hbm, ⟨39, _⟩ => ⟨S_, .f32⟩
  | .hbm, ⟨40, _⟩ => ⟨S4x256x128, .f32⟩
  | .hbm, ⟨41, _⟩ => ⟨S4x256x5632, .f32⟩
  | .hbm, ⟨42, _⟩ => ⟨S4x256x5632, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== AttnCtx.lean ====
abbrev S4x4x256x256 : Shape := ⟨4, ![4, 4, 256, 256]⟩
abbrev S4x4x256x128 : Shape := ⟨4, ![4, 4, 256, 128]⟩
abbrev S4x256x512 : Shape := ⟨3, ![4, 256, 512]⟩
abbrev S1x1x256x256 : Shape := ⟨4, ![1, 1, 256, 256]⟩
abbrev S1x1x256x128 : Shape := ⟨4, ![1, 1, 256, 128]⟩
abbrev S1x256x128 : Shape := ⟨3, ![1, 256, 128]⟩
abbrev S256x256 : Shape := ⟨2, ![256, 256]⟩
abbrev S256x1 : Shape := ⟨2, ![256, 1]⟩
abbrev S256x128 : Shape := ⟨2, ![256, 128]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S4x4x256x256, .bf16⟩
  | .hbm, ⟨1, _⟩ => ⟨S4x4x256x256, .bf16⟩
  | .hbm, ⟨2, _⟩ => ⟨S4x4x256x128, .bf16⟩
  | .hbm, ⟨3, _⟩ => ⟨S4x256x512, .bf16⟩
  | .local _ .vmem, ⟨0, _⟩ => ⟨S1x1x256x256, .bf16⟩
  | .local _ .vmem, ⟨1, _⟩ => ⟨S1x1x256x256, .bf16⟩
  | .local _ .vmem, ⟨2, _⟩ => ⟨S1x1x256x256, .bf16⟩
  | .local _ .vmem, ⟨3, _⟩ => ⟨S1x1x256x256, .bf16⟩
  | .local _ .vmem, ⟨4, _⟩ => ⟨S1x1x256x128, .bf16⟩
  | .local _ .vmem, ⟨5, _⟩ => ⟨S1x1x256x128, .bf16⟩
  | .local _ .vmem, ⟨6, _⟩ => ⟨S1x256x128, .bf16⟩
  | .local _ .vmem, ⟨7, _⟩ => ⟨S1x256x128, .bf16⟩
  | _, _ => ⟨S4x4x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnCtxReferenceIdeal.lean ====
abbrev S4x4x256x256 : Shape := ⟨4, ![4, 4, 256, 256]⟩
abbrev S4x4x256x128 : Shape := ⟨4, ![4, 4, 256, 128]⟩
abbrev S_ : Shape := ⟨0, ![]⟩
abbrev S4x4x256 : Shape := ⟨3, ![4, 4, 256]⟩
abbrev S4x4x256x1 : Shape := ⟨4, ![4, 4, 256, 1]⟩
abbrev S4x256x4x128 : Shape := ⟨4, ![4, 256, 4, 128]⟩
abbrev S4x256x512 : Shape := ⟨3, ![4, 256, 512]⟩

abbrev nBuf : Space → Nat
  | .hbm => 29
  | .vmem => 0
  | .smem => 0
  | _ => 0

abbrev bufTy : (tb : Table) → Fin (tcTables nBuf tb) → BufTy
  | .hbm, ⟨0, _⟩ => ⟨S4x4x256x256, .bf16⟩
  | .hbm, ⟨1, _⟩ => ⟨S4x4x256x256, .bf16⟩
  | .hbm, ⟨2, _⟩ => ⟨S4x4x256x128, .bf16⟩
  | .hbm, ⟨3, _⟩ => ⟨S4x4x256x256, .f32⟩
  | .hbm, ⟨4, _⟩ => ⟨S4x4x256x256, .f32⟩
  | .hbm, ⟨5, _⟩ => ⟨S4x4x256x256, .f32⟩
  | .hbm, ⟨6, _⟩ => ⟨S_, .f32⟩
  | .hbm, ⟨7, _⟩ => ⟨S_, .f32⟩
  | .hbm, ⟨8, _⟩ => ⟨S4x4x256x256, .f32⟩
  | .hbm, ⟨9, _⟩ => ⟨S4x4x256x256, .f32⟩
  | .hbm, ⟨10, _⟩ => ⟨S_, .f32⟩
  | .hbm, ⟨11, _⟩ => ⟨S4x4x256, .f32⟩
  | .hbm, ⟨12, _⟩ => ⟨S_, .f32⟩
  | .hbm, ⟨13, _⟩ => ⟨S4x4x256, .f32⟩
  | .hbm, ⟨14, _⟩ => ⟨S4x4x256, .f32⟩
  | .hbm, ⟨15, _⟩ => ⟨S4x4x256x1, .f32⟩
  | .hbm, ⟨16, _⟩ => ⟨S4x4x256x256, .f32⟩
  | .hbm, ⟨17, _⟩ => ⟨S4x4x256x256, .f32⟩
  | .hbm, ⟨18, _⟩ => ⟨S4x4x256x256, .f32⟩
  | .hbm, ⟨19, _⟩ => ⟨S_, .f32⟩
  | .hbm, ⟨20, _⟩ => ⟨S4x4x256, .f32⟩
  | .hbm, ⟨21, _⟩ => ⟨S4x4x256x1, .f32⟩
  | .hbm, ⟨22, _⟩ => ⟨S4x4x256x256, .f32⟩
  | .hbm, ⟨23, _⟩ => ⟨S4x4x256x256, .f32⟩
  | .hbm, ⟨24, _⟩ => ⟨S4x4x256x128, .f32⟩
  | .hbm, ⟨25, _⟩ => ⟨S4x4x256x128, .f32⟩
  | .hbm, ⟨26, _⟩ => ⟨S4x256x4x128, .f32⟩
  | .hbm, ⟨27, _⟩ => ⟨S4x256x512, .f32⟩
  | .hbm, ⟨28, _⟩ => ⟨S4x256x512, .bf16⟩
  | _, _ => ⟨S4x4x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== S5Out.lean ====
abbrev S4x4096x512 : Shape := ⟨3, ![4, 4096, 512]⟩
abbrev S4x4096x5632 : Shape := ⟨3, ![4, 4096, 5632]⟩
abbrev S512 : Shape := ⟨1, ![512]⟩
abbrev S512x512 : Shape := ⟨2, ![512, 512]⟩
abbrev S1x512 : Shape := ⟨2, ![1, 512]⟩
abbrev S1x1024x512 : Shape := ⟨3, ![1, 1024, 512]⟩
abbrev S1024x512 : Shape := ⟨2, ![1024, 512]⟩

abbrev nBuf : Space → Nat
  | .hbm => 9
  | .vmem => 9
  | .smem => 0
  | _ => 0

abbrev bufTy : (tb : Table) → Fin (tcTables nBuf tb) → BufTy
  | .hbm, ⟨0, _⟩ => ⟨S4x4096x512, .bf16⟩
  | .hbm, ⟨1, _⟩ => ⟨S4x4096x5632, .bf16⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S512x512, .bf16⟩
  | .hbm, ⟨7, _⟩ => ⟨S1x512, .f32⟩
  | .hbm, ⟨8, _⟩ => ⟨S4x4096x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S1x1024x512, .bf16⟩
  | .local _ .vmem, ⟨8, _⟩ => ⟨S1x1024x512, .bf16⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== S5OutIdeal.lean ====
abbrev S4x4096x512 : Shape := ⟨3, ![4, 4096, 512]⟩
abbrev S4x4096x5632 : Shape := ⟨3, ![4, 4096, 5632]⟩
abbrev S512 : Shape := ⟨1, ![512]⟩
abbrev S512x512 : Shape := ⟨2, ![512, 512]⟩
abbrev S1x512 : Shape := ⟨2, ![1, 512]⟩
abbrev S1x1024x512 : Shape := ⟨3, ![1, 1024, 512]⟩
abbrev S1024x512 : Shape := ⟨2, ![1024, 512]⟩

abbrev nBuf : Space → Nat
  | .hbm => 9
  | .vmem => 9
  | .smem => 0
  | _ => 0

abbrev bufTy : (tb : Table) → Fin (tcTables nBuf tb) → BufTy
  | .hbm, ⟨0, _⟩ => ⟨S4x4096x512, .bf16⟩
  | .hbm, ⟨1, _⟩ => ⟨S4x4096x5632, .bf16⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S512x512, .bf16⟩
  | .hbm, ⟨7, _⟩ => ⟨S1x512, .f32⟩
  | .hbm, ⟨8, _⟩ => ⟨S4x4096x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S1x1024x512, .bf16⟩
  | .local _ .vmem, ⟨8, _⟩ => ⟨S1x1024x512, .bf16⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== S5OutReferenceIdeal.lean ====
abbrev S4x4096x512 : Shape := ⟨3, ![4, 4096, 512]⟩
abbrev S4x4096x5632 : Shape := ⟨3, ![4, 4096, 5632]⟩
abbrev S512 : Shape := ⟨1, ![512]⟩
abbrev S512x512 : Shape := ⟨2, ![512, 512]⟩
abbrev S1x1x512 : Shape := ⟨3, ![1, 1, 512]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x5632, .bf16⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S4x4096x512, .f32⟩
  | .hbm, ⟨6, _⟩ => ⟨S4x4096x512, .bf16⟩
  | .hbm, ⟨7, _⟩ => ⟨S4x4096x512, .f32⟩
  | .hbm, ⟨8, _⟩ => ⟨S1x1x512, .f32⟩
  | .hbm, ⟨9, _⟩ => ⟨S4x4096x512, .f32⟩
  | .hbm, ⟨10, _⟩ => ⟨S4x4096x512, .f32⟩
  | .hbm, ⟨11, _⟩ => ⟨S4x4096x512, .f32⟩
  | .hbm, ⟨12, _⟩ => ⟨S4x4096x512, .f32⟩
  | .hbm, ⟨13, _⟩ => ⟨S4x4096x512, .f32⟩
  | .hbm, ⟨14, _⟩ => ⟨S_, .f32⟩
  | .hbm, ⟨15, _⟩ => ⟨S4x4096x512, .f32⟩
  | .hbm, ⟨16, _⟩ => ⟨S4x4096x512, .f32⟩
  | .hbm, ⟨17, _⟩ => ⟨S4x4096x512, .f32⟩
  | .hbm, ⟨18, _⟩ => ⟨S_, .f32⟩
  | .hbm, ⟨19, _⟩ => ⟨S4x4096x512, .f32⟩
  | .hbm, ⟨20, _⟩ => ⟨S4x4096x512, .f32⟩
  | .hbm, ⟨21, _⟩ => ⟨S4x4096x512, .f32⟩
  | .hbm, ⟨22, _⟩ => ⟨S_, .f32⟩
  | .hbm, ⟨23, _⟩ => ⟨S4x4096x512, .f32⟩
  | .hbm, ⟨24, _⟩ => ⟨S4x4096x512, .f32⟩
  | .hbm, ⟨25, _⟩ => ⟨S_, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S4x4096x512, .f32⟩
  | .hbm, ⟨30, _⟩ => ⟨S1x1x512, .f32⟩
  | .hbm, ⟨31, _⟩ => ⟨S4x4096x512, .f32⟩
  | .hbm, ⟨32, _⟩ => ⟨S4x4096x512, .f32⟩
  | .hbm, ⟨33, _⟩ => ⟨S4x4096x512, .f32⟩
  | .hbm, ⟨34, _⟩ => ⟨S4x4096x512, .f32⟩
  | .hbm, ⟨35, _⟩ => ⟨S_, .f32⟩
  | .hbm, ⟨36, _⟩ => ⟨S4x4096x512, .f32⟩
  | .hbm, ⟨37, _⟩ => ⟨S4x4096x512, .f32⟩
  | .hbm, ⟨38, _⟩ => ⟨S_, .f32⟩
  | .hbm, ⟨39, _⟩ => ⟨S4x4096x512, .f32⟩
  | .hbm, ⟨40, _⟩ => ⟨S4x4096x512, .f32⟩
  | .hbm, ⟨41, _⟩ => ⟨S4x4096x512, .f32⟩
  | .hbm, ⟨42, _⟩ => ⟨S4x4096x512, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== S5OutCtx.lean ====
abbrev S4x256x512 : Shape := ⟨3, ![4, 256, 512]⟩
abbrev S4x256x5632 : Shape := ⟨3, ![4, 256, 5632]⟩
abbrev S512 : Shape := ⟨1, ![512]⟩
abbrev S512x512 : Shape := ⟨2, ![512, 512]⟩
abbrev S1x512 : Shape := ⟨2, ![1, 512]⟩
abbrev S1x256x512 : Shape := ⟨3, ![1, 256, 512]⟩
abbrev S256x512 : Shape := ⟨2, ![256, 512]⟩

abbrev nBuf : Space → Nat
  | .hbm => 9
  | .vmem => 9
  | .smem => 0
  | _ => 0

abbrev bufTy : (tb : Table) → Fin (tcTables nBuf tb) → BufTy
  | .hbm, ⟨0, _⟩ => ⟨S4x256x512, .bf16⟩
  | .hbm, ⟨1, _⟩ => ⟨S4x256x5632, .bf16⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S512x512, .bf16⟩
  | .hbm, ⟨7, _⟩ => ⟨S1x512, .f32⟩
  | .hbm, ⟨8, _⟩ => ⟨S4x256x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S1x256x512, .bf16⟩
  | .local _ .vmem, ⟨8, _⟩ => ⟨S1x256x512, .bf16⟩
  | _, _ => ⟨S4x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== S5OutCtxReferenceIdeal.lean ====
abbrev S4x256x512 : Shape := ⟨3, ![4, 256, 512]⟩
abbrev S4x256x5632 : Shape := ⟨3, ![4, 256, 5632]⟩
abbrev S512 : Shape := ⟨1, ![512]⟩
abbrev S512x512 : Shape := ⟨2, ![512, 512]⟩
abbrev S1x1x512 : Shape := ⟨3, ![1, 1, 512]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4x256x512, .bf16⟩
  | .hbm, ⟨1, _⟩ => ⟨S4x256x5632, .bf16⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S4x256x512, .f32⟩
  | .hbm, ⟨6, _⟩ => ⟨S4x256x512, .bf16⟩
  | .hbm, ⟨7, _⟩ => ⟨S4x256x512, .f32⟩
  | .hbm, ⟨8, _⟩ => ⟨S1x1x512, .f32⟩
  | .hbm, ⟨9, _⟩ => ⟨S4x256x512, .f32⟩
  | .hbm, ⟨10, _⟩ => ⟨S4x256x512, .f32⟩
  | .hbm, ⟨11, _⟩ => ⟨S4x256x512, .f32⟩
  | .hbm, ⟨12, _⟩ => ⟨S4x256x512, .f32⟩
  | .hbm, ⟨13, _⟩ => ⟨S4x256x512, .f32⟩
  | .hbm, ⟨14, _⟩ => ⟨S_, .f32⟩
  | .hbm, ⟨15, _⟩ => ⟨S4x256x512, .f32⟩
  | .hbm, ⟨16, _⟩ => ⟨S4x256x512, .f32⟩
  | .hbm, ⟨17, _⟩ => ⟨S4x256x512, .f32⟩
  | .hbm, ⟨18, _⟩ => ⟨S_, .f32⟩
  | .hbm, ⟨19, _⟩ => ⟨S4x256x512, .f32⟩
  | .hbm, ⟨20, _⟩ => ⟨S4x256x512, .f32⟩
  | .hbm, ⟨21, _⟩ => ⟨S4x256x512, .f32⟩
  | .hbm, ⟨22, _⟩ => ⟨S_, .f32⟩
  | .hbm, ⟨23, _⟩ => ⟨S4x256x512, .f32⟩
  | .hbm, ⟨24, _⟩ => ⟨S4x256x512, .f32⟩
  | .hbm, ⟨25, _⟩ => ⟨S_, .f32⟩
  | .hbm, ⟨26, _⟩ => ⟨S4x256x512, .f32⟩
  | .hbm, ⟨27, _⟩ => ⟨S4x256x512, .f32⟩
  | .hbm, ⟨28, _⟩ => ⟨S4x256x512, .f32⟩
  | .hbm, ⟨29, _⟩ => ⟨S4x256x512, .f32⟩
  | .hbm, ⟨30, _⟩ => ⟨S1x1x512, .f32⟩
  | .hbm, ⟨31, _⟩ => ⟨S4x256x512, .f32⟩
  | .hbm, ⟨32, _⟩ => ⟨S4x256x512, .f32⟩
  | .hbm, ⟨33, _⟩ => ⟨S4x256x512, .f32⟩
  | .hbm, ⟨34, _⟩ => ⟨S4x256x512, .f32⟩
  | .hbm, ⟨35, _⟩ => ⟨S_, .f32⟩
  | .hbm, ⟨36, _⟩ => ⟨S4x256x512, .f32⟩
  | .hbm, ⟨37, _⟩ => ⟨S4x256x512, .f32⟩
  | .hbm, ⟨38, _⟩ => ⟨S_, .f32⟩
  | .hbm, ⟨39, _⟩ => ⟨S4x256x512, .f32⟩
  | .hbm, ⟨40, _⟩ => ⟨S4x256x512, .f32⟩
  | .hbm, ⟨41, _⟩ => ⟨S4x256x512, .f32⟩
  | .hbm, ⟨42, _⟩ => ⟨S4x256x512, .bf16⟩
  | _, _ => ⟨S4x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== HgOut.lean ====
abbrev S4x4096x512 : Shape := ⟨3, ![4, 4096, 512]⟩
abbrev S4x4096x5632 : Shape := ⟨3, ![4, 4096, 5632]⟩
abbrev S128 : Shape := ⟨1, ![128]⟩
abbrev S1x128 : Shape := ⟨2, ![1, 128]⟩
abbrev S1x1024x512 : Shape := ⟨3, ![1, 1024, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S1x1024x128 : Shape := ⟨3, ![1, 1024, 128]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x5632, .bf16⟩
  | .hbm, ⟨3, _⟩ => ⟨S128, .f32⟩
  | .hbm, ⟨4, _⟩ => ⟨S1x128, .f32⟩
  | .hbm, ⟨5, _⟩ => ⟨S4x4096x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x128, .f32⟩
  | .local _ .vmem, ⟨7, _⟩ => ⟨S1x1024x512, .bf16⟩
  | .local _ .vmem, ⟨8, _⟩ => ⟨S1x1024x512, .bf16⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== HgOutIdeal.lean ====
abbrev S4x4096x512 : Shape := ⟨3, ![4, 4096, 512]⟩
abbrev S4x4096x5632 : Shape := ⟨3, ![4, 4096, 5632]⟩
abbrev S128 : Shape := ⟨1, ![128]⟩
abbrev S1x128 : Shape := ⟨2, ![1, 128]⟩
abbrev S1x1024x512 : Shape := ⟨3, ![1, 1024, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S1x1024x128 : Shape := ⟨3, ![1, 1024, 128]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x5632, .bf16⟩
  | .hbm, ⟨3, _⟩ => ⟨S128, .f32⟩
  | .hbm, ⟨4, _⟩ => ⟨S1x128, .f32⟩
  | .hbm, ⟨5, _⟩ => ⟨S4x4096x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x128, .f32⟩
  | .local _ .vmem, ⟨7, _⟩ => ⟨S1x1024x512, .bf16⟩
  | .local _ .vmem, ⟨8, _⟩ => ⟨S1x1024x512, .bf16⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== HgOutReferenceIdeal.lean ====
abbrev S4x4096x512 : Shape := ⟨3, ![4, 4096, 512]⟩
abbrev S4x4096x5632 : Shape := ⟨3, ![4, 4096, 5632]⟩
abbrev S128 : Shape := ⟨1, ![128]⟩
abbrev S4x4096x4x128 : Shape := ⟨4, ![4, 4096, 4, 128]⟩
abbrev S_ : Shape := ⟨0, ![]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x5632, .bf16⟩
  | .hbm, ⟨3, _⟩ => ⟨S128, .f32⟩
  | .hbm, ⟨4, _⟩ => ⟨S4x4096x512, .f32⟩
  | .hbm, ⟨5, _⟩ => ⟨S4x4096x4x128, .f32⟩
  | .hbm, ⟨6, _⟩ => ⟨S4x4096x512, .f32⟩
  | .hbm, ⟨7, _⟩ => ⟨S4x4096x4x128, .f32⟩
  | .hbm, ⟨8, _⟩ => ⟨S4x4096x4x128, .f32⟩
  | .hbm, ⟨9, _⟩ => ⟨S4x4096x4x128, .f32⟩
  | .hbm, ⟨10, _⟩ => ⟨S_, .f32⟩
  | .hbm, ⟨11, _⟩ => ⟨S4x4096x4, .f32⟩
  | .hbm, ⟨12, _⟩ => ⟨S4x4096x4x1, .f32⟩
  | .hbm, ⟨13, _⟩ => ⟨S_, .f32⟩
  | .hbm, ⟨14, _⟩ => ⟨S4x4096x4x1, .f32⟩
  | .hbm, ⟨15, _⟩ => ⟨S4x4096x4x1, .f32⟩
  | .hbm, ⟨16, _⟩ => ⟨S_, .f32⟩
  | .hbm, ⟨17, _⟩ => ⟨S4x4096x4x1, .f32⟩
  | .hbm, ⟨18, _⟩ => ⟨S4x4096x4x1, .f32⟩
  | .hbm, ⟨19, _⟩ => ⟨S4x4096x4x1, .f32⟩
  | .hbm, ⟨20, _⟩ => ⟨S4x4096x4x128, .f32⟩
  | .hbm, ⟨21, _⟩ => ⟨S4x4096x4x128, .f32⟩
  | .hbm, ⟨22, _⟩ => ⟨S1x1x1x128, .f32⟩
  | .hbm, ⟨23, _⟩ => ⟨S4x4096x4x128, .f32⟩
  | .hbm, ⟨24, _⟩ => ⟨S4x4096x4x128, .f32⟩
  | .hbm, ⟨25, _⟩ => ⟨S4x4096x512, .bf16⟩
  | .hbm, ⟨26, _⟩ => ⟨S4x4096x512, .f32⟩
  | .hbm, ⟨27, _⟩ => ⟨S4x4096x4x128, .f32⟩
  | .hbm, ⟨28, _⟩ => ⟨S4x4096x4x128, .f32⟩
  | .hbm, ⟨29, _⟩ => ⟨S4x4096x4x128, .f32⟩
  | .hbm, ⟨30, _⟩ => ⟨S_, .f32⟩
  | .hbm, ⟨31, _⟩ => ⟨S4x4096x4x128, .f32⟩
  | .hbm, ⟨32, _⟩ => ⟨S4x4096x4x128, .f32⟩
  | .hbm, ⟨33, _⟩ => ⟨S_, .f32⟩
  | .hbm, ⟨34, _⟩ => ⟨S4x4096x4x128, .f32⟩
  | .hbm, ⟨35, _⟩ => ⟨S4x4096x4x128, .f32⟩
  | .hbm, ⟨36, _⟩ => ⟨S4x4096x4x128, .f32⟩
  | .hbm, ⟨37, _⟩ => ⟨S4x4096x4x128, .f32⟩
  | .hbm, ⟨38, _⟩ => ⟨S4x4096x512, .f32⟩
  | .hbm, ⟨39, _⟩ => ⟨S4x4096x512, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== HgOutCtx.lean ====
abbrev S4x256x512 : Shape := ⟨3, ![4, 256, 512]⟩
abbrev S4x256x5632 : Shape := ⟨3, ![4, 256, 5632]⟩
abbrev S128 : Shape := ⟨1, ![128]⟩
abbrev S1x128 : Shape := ⟨2, ![1, 128]⟩
abbrev S1x256x512 : Shape := ⟨3, ![1, 256, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 6
  | .vmem => 9
  | .smem => 0
  | _ => 0

abbrev bufTy : (tb : Table) → Fin (tcTables nBuf tb) → BufTy
  | .hbm, ⟨0, _⟩ => ⟨S4x256x512, .bf16⟩
  | .hbm, ⟨1, _⟩ => ⟨S4x256x512, .bf16⟩
  | .hbm, ⟨2, _⟩ => ⟨S4x256x5632, .bf16⟩
  | .hbm, ⟨3, _⟩ => ⟨S128, .f32⟩
  | .hbm, ⟨4, _⟩ => ⟨S1x128, .f32⟩
  | .hbm, ⟨5, _⟩ => ⟨S4x256x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x128, .f32⟩
  | .local _ .vmem, ⟨7, _⟩ => ⟨S1x256x512, .bf16⟩
  | .local _ .vmem, ⟨8, _⟩ => ⟨S1x256x512, .bf16⟩
  | _, _ => ⟨S4x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== HgOutCtxReferenceIdeal.lean ====
abbrev S4x256x512 : Shape := ⟨3, ![4, 256, 512]⟩
abbrev S4x256x5632 : Shape := ⟨3, ![4, 256, 5632]⟩
abbrev S128 : Shape := ⟨1, ![128]⟩
abbrev S4x256x4x128 : Shape := ⟨4, ![4, 256, 4, 128]⟩
abbrev S_ : Shape := ⟨0, ![]⟩
abbrev S4x256x4 : Shape := ⟨3, ![4, 256, 4]⟩
abbrev S4x256x4x1 : Shape := ⟨4, ![4, 256, 4, 1]⟩
abbrev S1x1x1x128 : Shape := ⟨4, ![1, 1, 1, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x256x512, .bf16⟩
  | .hbm, ⟨1, _⟩ => ⟨S4x256x512, .bf16⟩
  | .hbm, ⟨2, _⟩ => ⟨S4x256x5632, .bf16⟩
  | .hbm, ⟨3, _⟩ => ⟨S128, .f32⟩
  | .hbm, ⟨4, _⟩ => ⟨S4x256x512, .f32⟩
  | .hbm, ⟨5, _⟩ => ⟨S4x256x4x128, .f32⟩
  | .hbm, ⟨6, _⟩ => ⟨S4x256x512, .f32⟩
  | .hbm, ⟨7, _⟩ => ⟨S4x256x4x128, .f32⟩
  | .hbm, ⟨8, _⟩ => ⟨S4x256x4x128, .f32⟩
  | .hbm, ⟨9, _⟩ => ⟨S4x256x4x128, .f32⟩
  | .hbm, ⟨10, _⟩ => ⟨S_, .f32⟩
  | .hbm, ⟨11, _⟩ => ⟨S4x256x4, .f32⟩
  | .hbm, ⟨12, _⟩ => ⟨S4x256x4x1, .f32⟩
  | .hbm, ⟨13, _⟩ => ⟨S_, .f32⟩
  | .hbm, ⟨14, _⟩ => ⟨S4x256x4x1, .f32⟩
  | .hbm, ⟨15, _⟩ => ⟨S4x256x4x1, .f32⟩
  | .hbm, ⟨16, _⟩ => ⟨S_, .f32⟩
  | .hbm, ⟨17, _⟩ => ⟨S4x256x4x1, .f32⟩
  | .hbm, ⟨18, _⟩ => ⟨S4x256x4x1, .f32⟩
  | .hbm, ⟨19, _⟩ => ⟨S4x256x4x1, .f32⟩
  | .hbm, ⟨20, _⟩ => ⟨S4x256x4x128, .f32⟩
  | .hbm, ⟨21, _⟩ => ⟨S4x256x4x128, .f32⟩
  | .hbm, ⟨22, _⟩ => ⟨S1x1x1x128, .f32⟩
  | .hbm, ⟨23, _⟩ => ⟨S4x256x4x128, .f32⟩
  | .hbm, ⟨24, _⟩ => ⟨S4x256x4x128, .f32⟩
  | .hbm, ⟨25, _⟩ => ⟨S4x256x512, .bf16⟩
  | .hbm, ⟨26, _⟩ => ⟨S4x256x512, .f32⟩
  | .hbm, ⟨27, _⟩ => ⟨S4x256x4x128, .f32⟩
  | .hbm, ⟨28, _⟩ => ⟨S4x256x4x128, .f32⟩
  | .hbm, ⟨29, _⟩ => ⟨S4x256x4x128, .f32⟩
  | .hbm, ⟨30, _⟩ => ⟨S_, .f32⟩
  | .hbm, ⟨31, _⟩ => ⟨S4x256x4x128, .f32⟩
  | .hbm, ⟨32, _⟩ => ⟨S4x256x4x128, .f32⟩
  | .hbm, ⟨33, _⟩ => ⟨S_, .f32⟩
  | .hbm, ⟨34, _⟩ => ⟨S4x256x4x128, .f32⟩
  | .hbm, ⟨35, _⟩ => ⟨S4x256x4x128, .f32⟩
  | .hbm, ⟨36, _⟩ => ⟨S4x256x4x128, .f32⟩
  | .hbm, ⟨37, _⟩ => ⟨S4x256x4x128, .f32⟩
  | .hbm, ⟨38, _⟩ => ⟨S4x256x512, .f32⟩
  | .hbm, ⟨39, _⟩ => ⟨S4x256x512, .bf16⟩
  | _, _ => ⟨S4x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Proof.Softmax.lean ====
/- The mathematics of the attention call over the extended reals: a softmax computed in two segments with a running
   maximum and base-two exponentials is the softmax of the logits times log 2. -/
module

public import Idealize.ShloMosaic.PureOps.Ideal
public import Idealize.ShloMosaic.Lib.IdealHost

@[expose] public section

noncomputable section

open Idealize.ShloMosaic

namespace Cert.Softmax

variable {ι κ : Type} [Fintype ι] [Fintype κ]

/-- A non-negative real factor distributes over a sum of extended reals. -/
theorem mul_sum_real {r : ℝ} (h : 0 ≤ r) (f : ι → EReal) : (r : EReal) * ∑ k, f k = ∑ k, (r : EReal) * f k := by
  classical
  induction (Finset.univ : Finset ι) using Finset.induction_on with
  | empty => simp
  | insert a s ha ih =>
    rw [Finset.sum_insert ha, Finset.sum_insert ha,
      EReal.left_distrib_of_nonneg_of_ne_top (EReal.coe_nonneg.2 h) (EReal.coe_ne_top r), ih]

/-- A sum of reals is a real. -/
theorem coe_sum (f : ι → ℝ) : ∑ k, (f k : EReal) = ((∑ k, f k : ℝ) : EReal) := by
  classical
  induction (Finset.univ : Finset ι) using Finset.induction_on with
  | empty => simp
  | insert a s ha ih => rw [Finset.sum_insert ha, Finset.sum_insert ha, ih, EReal.coe_add]

/-- The maximum of finitely many reals, at least one, is a real. -/
theorem fold_max_real [Nonempty ι] (f : ι → EReal) (hf : ∀ k, ∃ r : ℝ, f k = r) :
    ∃ r : ℝ, Finset.univ.fold max (⊥ : EReal) f = r := by
  have h1 : Finset.univ.fold max (⊥ : EReal) f ≠ ⊤ := by
    refine ne_of_lt ((Finset.fold_max_lt _).2 ⟨bot_lt_top, fun k _ => ?_⟩)
    obtain ⟨r, e⟩ := hf k
    rw [e]; exact EReal.coe_lt_top r
  have h2 : Finset.univ.fold max (⊥ : EReal) f ≠ ⊥ := by
    refine ne_of_gt ((Finset.lt_fold_max _).2 (Or.inr ?_))
    obtain ⟨k⟩ := ‹Nonempty ι›
    obtain ⟨r, e⟩ := hf k
    exact ⟨k, Finset.mem_univ k, by rw [e]; exact EReal.bot_lt_coe r⟩
  exact ⟨_, (EReal.coe_toReal h1 h2).symm⟩

/-- The maximum of a row, from `-∞`. -/
@[irreducible] def TOP {n : ℕ} (f : Fin n → EReal) : EReal := Finset.univ.fold max ⊥ f

theorem top_eq {n : ℕ} (f : Fin n → EReal) : Finset.univ.fold max ⊥ f = TOP f := by unfold TOP; rfl

theorem top_real {n : ℕ} [NeZero n] (f : Fin n → EReal) (hf : ∀ k, ∃ r : ℝ, f k = r) : ∃ r : ℝ, TOP f = r := by
  unfold TOP
  exact fold_max_real f hf

theorem neg_inf : Ideal.ofBits FTy.f32 0xFF800000#32 = ⊥ := by simp [Ideal.ofBits, Ideal.ieee]

theorem exp2_coe (r : ℝ) : Ideal.exp2 (r : EReal) = ((2 : ℝ) ^ r : ℝ) := rfl

theorem exp_coe (r : ℝ) : Ideal.exp (r : EReal) = (Real.exp r : ℝ) := rfl

theorem div_real (x : EReal) {r : ℝ} (h : r ≠ 0) : Ideal.div x r = x * ((r⁻¹ : ℝ) : EReal) := by
  unfold Ideal.div
  rw [if_neg (by exact_mod_cast h), EReal.coe_inv]

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h]
  show (if (2 : ℝ) ≤ 0 then (⊥ : EReal) else (Real.log 2 : ℝ)) = _
  rw [if_neg (by norm_num)]

/-- What the two segments accumulate: the second maximum `m₂` rescales what the first left. -/
theorem segments (a : ι → ℝ) (b : κ → ℝ) (u : ι → EReal) (v : κ → EReal) (m₁ m₂ : ℝ) :
    Ideal.exp2 ((m₁ : EReal) - m₂) * (∑ k, Ideal.exp2 ((a k : EReal) - m₁) * u k) + ∑ k, Ideal.exp2 ((b k : EReal) - m₂) * v k
      = ∑ k, (((2 : ℝ) ^ (a k - m₂) : ℝ) : EReal) * u k + ∑ k, (((2 : ℝ) ^ (b k - m₂) : ℝ) : EReal) * v k := by
  simp only [← EReal.coe_sub, exp2_coe]
  rw [mul_sum_real (Real.rpow_nonneg (by norm_num) _)]
  refine congrArg (· + _) (Finset.sum_congr rfl fun k _ => ?_)
  rw [← mul_assoc, ← EReal.coe_mul, ← Real.rpow_add (by norm_num)]
  congr 3; ring_nf

/-- The two-segment softmax is the softmax: any two real shifts `m₁`, `m₂` of the kernel, any real shift `M` of the reference. -/
theorem softmax_eq [Nonempty ι] (a : ι → ℝ) (b : κ → ℝ) (u : ι → EReal) (v : κ → EReal) (m₁ m₂ M : ℝ) :
    Ideal.div
        (Ideal.exp2 ((m₁ : EReal) - m₂) * (∑ k, Ideal.exp2 ((a k : EReal) - m₁) * u k) + ∑ k, Ideal.exp2 ((b k : EReal) - m₂) * v k)
        (Ideal.exp2 ((m₁ : EReal) - m₂) * (∑ k, Ideal.exp2 ((a k : EReal) - m₁)) + ∑ k, Ideal.exp2 ((b k : EReal) - m₂))
      = ∑ k, Ideal.div (Ideal.exp ((a k : EReal) * (Real.log 2 : ℝ) - M))
            (∑ k, Ideal.exp ((a k : EReal) * (Real.log 2 : ℝ) - M) + ∑ k, Ideal.exp ((b k : EReal) * (Real.log 2 : ℝ) - M)) * u k
        + ∑ k, Ideal.div (Ideal.exp ((b k : EReal) * (Real.log 2 : ℝ) - M))
            (∑ k, Ideal.exp ((a k : EReal) * (Real.log 2 : ℝ) - M) + ∑ k, Ideal.exp ((b k : EReal) * (Real.log 2 : ℝ) - M)) * v k := by
  have hd := segments a b (fun _ => 1) (fun _ => 1) m₁ m₂
  simp only [mul_one] at hd
  rw [segments, hd]
  obtain ⟨E, hE⟩ : ∃ E : ℝ, E = Real.exp (m₂ * Real.log 2 - M) := ⟨_, rfl⟩
  have he : ∀ x : ℝ, Real.exp (x * Real.log 2 - M) = (2 : ℝ) ^ (x - m₂) * E := by
    intro x
    rw [hE]
    rw [Real.rpow_def_of_pos (by norm_num), ← Real.exp_add]; congr 1; ring
  simp only [← EReal.coe_mul, ← EReal.coe_sub, exp_coe, he, coe_sum, ← EReal.coe_add, ← Finset.sum_mul, ← add_mul]
  set D : ℝ := ∑ k, (2 : ℝ) ^ (a k - m₂) + ∑ k, (2 : ℝ) ^ (b k - m₂) with hD
  have hE0 : E ≠ 0 := hE ▸ (Real.exp_pos _).ne'
  have hD0 : 0 < D := by
    refine add_pos_of_pos_of_nonneg (Finset.sum_pos (fun k _ => Real.rpow_pos_of_pos (by norm_num) _) Finset.univ_nonempty)
      (Finset.sum_nonneg fun k _ => (Real.rpow_pos_of_pos (by norm_num) _).le)
  rw [div_real _ hD0.ne', mul_comm, EReal.left_distrib_of_nonneg_of_ne_top (EReal.coe_nonneg.2 (inv_nonneg.2 hD0.le)) (EReal.coe_ne_top _),
    mul_sum_real (inv_nonneg.2 hD0.le), mul_sum_real (inv_nonneg.2 hD0.le)]
  refine congrArg₂ (· + ·) (Finset.sum_congr rfl fun k _ => ?_) (Finset.sum_congr rfl fun k _ => ?_) <;>
  · rw [div_real _ (mul_ne_zero hD0.ne' hE0), ← mul_assoc, ← EReal.coe_mul, ← EReal.coe_mul]
    congr 2
    field_simp

end Cert.Softmax

end
-- ==== Proof.AttnTile.lean ====
/- The attention kernel, element by element: a row of a tile is a softmax in two segments. -/
module

public import proofs.«01_k».proof.Proof.Gen.KernelIdeal.Frame
public import Idealize.ShloMosaic.Lib.Pipeline.ValueKit
public import Idealize.ShloMosaic.Lib.Pipeline.ReadBack
public import proofs.«01_k».proof.Proof.Softmax

@[expose] public section

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.Softmax

/-- What the kernel computes of a row: logits `s` and values `u` of the latent keys, `s'` and `v` of the context keys. -/
def OUT (s u : Fin 4096 → EReal) (s' v : Fin 256 → EReal) : EReal :=
  Ideal.div
    (Ideal.exp2 (TOP s - max (TOP s) (TOP s')) * (∑ k, Ideal.exp2 (s k - TOP s) * u k) + ∑ k, Ideal.exp2 (s' k - max (TOP s) (TOP s')) * v k)
    (Ideal.exp2 (TOP s - max (TOP s) (TOP s')) * (∑ k, Ideal.exp2 (s k - TOP s)) + ∑ k, Ideal.exp2 (s' k - max (TOP s) (TOP s')))

/-- The row maxima of a tile of logits. -/
theorem rowmax (v : FVec Ideal S512x4096 .f32) (h : S512x4096.Reduces [1] S512) (hφ hacc) :
    multiReduction .maximumf [1] S512 v 0xFF800000#32 h hφ hacc = fun i => TOP fun k : Fin 4096 => v (ix2 (i 0) k) := by
  funext j
  rw [← top_eq, ← neg_inf]
  simp only [pointwise]

theorem rowmax' (v : FVec Ideal S512x256 .f32) (h : S512x256.Reduces [1] S512) (hφ hacc) :
    multiReduction .maximumf [1] S512 v 0xFF800000#32 h hφ hacc = fun i => TOP fun k : Fin 256 => v (ix2 (i 0) k) := by
  funext j
  rw [← top_eq, ← neg_inf]
  simp only [pointwise]

section pieces

variable (q : FVec Ideal S1x1x512x256 .bf16) (k₁ : FVec Ideal S1x1x4096x256 .bf16) (v₁ : FVec Ideal S1x1x4096x128 .bf16)
  (k₂ : FVec Ideal S1x1x256x256 .bf16) (v₂ : FVec Ideal S1x1x256x128 .bf16)

theorem pay4_at (j) : k0_pay4 (F := Ideal) q k₁ j = ∑ d : Fin 256, q (ix4 0 0 (j 0) d) * k₁ (ix4 0 0 (j 1) d) := by
  pointwise [k0_pay2, k0_pay4]

theorem pay5_at (j) : k0_pay5 (F := Ideal) q k₁ j = TOP fun k : Fin 4096 => k0_pay4 (F := Ideal) q k₁ (ix2 (j 0) k) := by
  unfold k0_pay5
  dsimp only
  rw [show multiReduction .maximumf [1] S512 (k0_pay4 (F := Ideal) q k₁) 0xFF800000#32 reduces_S512x4096_S512 (.inl rfl) rfl = _ from
    rowmax _ _ _ _]
  pointwise [k0_pay3]
  rw [neg_inf]
  exact max_eq_right bot_le

theorem pay7_at (j) : k0_pay7 (F := Ideal) q k₁ j = Ideal.exp2 (k0_pay4 (F := Ideal) q k₁ j - k0_pay5 (F := Ideal) q k₁ (ix2 (j 0) 0)) := by
  pointwise [k0_pay7]
  rfl

theorem pay8_at (j) : k0_pay8 (F := Ideal) q k₁ j = ∑ k : Fin 4096, k0_pay7 (F := Ideal) q k₁ (ix2 (j 0) k) := by
  pointwise [k0_pay8]
  rw [mul_zero, zero_add]

theorem pay9_at (j) : k0_pay9 (F := Ideal) q k₁ v₁ j = ∑ k : Fin 4096, k0_pay7 (F := Ideal) q k₁ (ix2 (j 0) k) * v₁ (ix4 0 0 k (j 1)) := by
  pointwise [k0_pay9]
  rw [mul_zero, zero_add]

theorem pay10_at (j) : k0_pay10 (F := Ideal) q k₂ j = ∑ d : Fin 256, q (ix4 0 0 (j 0) d) * k₂ (ix4 0 0 (j 1) d) := by
  pointwise [k0_pay2, k0_pay10]

theorem pay11_at (j) : k0_pay11 (F := Ideal) q k₂ j = TOP fun k : Fin 256 => k0_pay10 (F := Ideal) q k₂ (ix2 (j 0) k) := by
  unfold k0_pay11
  dsimp only
  rw [show multiReduction .maximumf [1] S512 (k0_pay10 (F := Ideal) q k₂) 0xFF800000#32 reduces_S512x256_S512 (.inl rfl) rfl = _ from
    rowmax' _ _ _ _]
  pointwise []

theorem pay12_at (m₁ den acc s m₂) (j) : k0_pay12 (F := Ideal) m₁ den acc s m₂ v₂ j
    = Ideal.div
        (Ideal.exp2 (m₁ (ix2 (j 1) 0) - max (m₁ (ix2 (j 1) 0)) (m₂ (ix2 (j 1) 0))) * acc (ix2 (j 1) (j 2))
          + ∑ k : Fin 256, Ideal.exp2 (s (ix2 (j 1) k) - max (m₁ (ix2 (j 1) 0)) (m₂ (ix2 (j 1) 0))) * v₂ (ix4 0 0 k (j 2)))
        (Ideal.exp2 (m₁ (ix2 (j 1) 0) - max (m₁ (ix2 (j 1) 0)) (m₂ (ix2 (j 1) 0))) * den (ix2 (j 1) 0)
          + ∑ k : Fin 256, Ideal.exp2 (s (ix2 (j 1) k) - max (m₁ (ix2 (j 1) 0)) (m₂ (ix2 (j 1) 0)))) := by
  pointwise [k0_pay12]
  rfl

/-- The rows the first half of a point stores. -/
theorem tile0_at (j) :
    k0_pay12 (F := Ideal) (k0_pay5 q k₁) (k0_pay8 q k₁) (k0_pay9 q k₁ v₁) (k0_pay10 q k₂) (k0_pay11 q k₂) v₂ j
      = OUT (fun k => ∑ d : Fin 256, q (ix4 0 0 (j 1) d) * k₁ (ix4 0 0 k d)) (fun k => v₁ (ix4 0 0 k (j 2)))
          (fun k => ∑ d : Fin 256, q (ix4 0 0 (j 1) d) * k₂ (ix4 0 0 k d)) (fun k => v₂ (ix4 0 0 k (j 2))) := by
  rw [pay12_at]
  simp only [pay5_at, pay7_at, pay8_at, pay9_at, pay10_at, pay11_at, pay4_at]
  rfl

/-- The second half computes the same from its rows. -/
theorem pay1_at (j) : k0_pay1 (F := Ideal) (k0_pay21 (k0_pay13 q) (k0_pay15 (F := Ideal)) (k0_pay16 (F := Ideal)) (k0_pay17 q k₁) (k0_pay18 q k₁)
      (k0_pay19 q k₁) (k0_pay20 q k₁) v₁ k₂ v₂) j
    = k0_pay12 (F := Ideal) (k0_pay5 q k₁) (k0_pay8 q k₁) (k0_pay9 q k₁ v₁) (k0_pay10 q k₂) (k0_pay11 q k₂) v₂ j := rfl

end pieces

end Cert.KernelIdeal.Tile

end
-- ==== Proof.AttnRef.lean ====
/- The reference of the attention call, element by element. -/
module

public import proofs.«01_k».proof.Proof.Gen.ReferenceIdeal.Run
public import Idealize.ShloMosaic.Lib.Pipeline.ValueKit
public import Idealize.ShloMosaic.Lib.Pipeline.ReadBack
public import proofs.«01_k».proof.Proof.Softmax

@[expose] public section

set_option maxRecDepth 16384

noncomputable section

open Idealize.ShloMosaic Idealize.ShloMosaic.TcCoe Idealize.SL.Sem
open Idealize.ShloMosaic.Pipeline (Dat)

namespace Cert.ReferenceIdeal.Tile

open Cert.ReferenceIdeal Cert.ReferenceIdeal.Gen Cert.Softmax

/-- The logits, times log 2, over the latent and the context keys. -/
def LOGITS (A0 : FVec Ideal S4x4x4096x256 .bf16) (A1 : FVec Ideal S4x4x4096x256 .bf16) (A3 : FVec Ideal S4x4x256x256 .bf16) : FVec Ideal S4x4x4096x4352 .f32 :=
  mulf (Host.dotGeneral dot_S4x4x4096x256_S4x4x4352x256_S4x4x4096x4352_3_3_2_2_01_01 none (extf .f32 A0 bitsLt_bf16_f32) (extf .f32 (concatenate S4x4x4352x256 2 [⟨S4x4x4096x256, A1⟩, ⟨S4x4x256x256, A3⟩] concatenates_S4x4x4096x256_S4x4x256x256_S4x4x4352x256_d2) bitsLt_bf16_f32)) (broadcastInDim S4x4x4096x4352 ![] bcast_S_S4x4x4096x4352 (Host.log (constant (F := Ideal) S_ .f32 0x40000000#32)))

/-- The softmax of an array of logits. -/
def PROBS (L : FVec Ideal S4x4x4096x4352 .f32) : FVec Ideal S4x4x4096x4352 .f32 :=
  Host.divf (Host.exp (subf L (broadcastInDim S4x4x4096x4352 ![0, 1, 2, 3] bcast_S4x4x4096x1_S4x4x4096x4352_0_1_2_3 (broadcastInDim S4x4x4096x1 ![0, 1, 2] bcast_S4x4x4096_S4x4x4096x1_0_1_2 (maximumf (broadcastInDim S4x4x4096 ![] bcast_S_S4x4x4096 (constant (F := Ideal) S_ .f32 0xFF800000#32)) (Host.reduce FloatOps.maximumf L (constant (F := Ideal) S_ .f32 0xFF800000#32) reducesTo_S4x4x4096x4352_S4x4x4096_d3 h_S_)))))) (broadcastInDim S4x4x4096x4352 ![0, 1, 2, 3] bcast_S4x4x4096x1_S4x4x4096x4352_0_1_2_3 (broadcastInDim S4x4x4096x1 ![0, 1, 2] bcast_S4x4x4096_S4x4x4096x1_0_1_2 (Host.reduceAdd (Host.exp (subf L (broadcastInDim S4x4x4096x4352 ![0, 1, 2, 3] bcast_S4x4x4096x1_S4x4x4096x4352_0_1_2_3 (broadcastInDim S4x4x4096x1 ![0, 1, 2] bcast_S4x4x4096_S4x4x4096x1_0_1_2 (maximumf (broadcastInDim S4x4x4096 ![] bcast_S_S4x4x4096 (constant (F := Ideal) S_ .f32 0xFF800000#32)) (Host.reduce FloatOps.maximumf L (constant (F := Ideal) S_ .f32 0xFF800000#32) reducesTo_S4x4x4096x4352_S4x4x4096_d3 h_S_)))))) (constant (F := Ideal) S_ .f32 0x00000000#32) reducesTo_S4x4x4096x4352_S4x4x4096_d3 h_S_)))

/-- The weighted values, head beside head. -/
def HEADS (P : FVec Ideal S4x4x4096x4352 .f32) (A2 : FVec Ideal S4x4x4096x128 .bf16) (A4 : FVec Ideal S4x4x256x128 .bf16) : FVec Ideal S4x4096x512 .bf16 :=
  truncf .bf16 (shapeCast S4x4096x512 (transpose S4x4096x4x128 [0, 2, 1, 3] (Host.dotGeneral dot_S4x4x4096x4352_S4x4x4352x128_S4x4x4096x128_3_2_2_3_01_01 none P (extf .f32 (concatenate S4x4x4352x128 2 [⟨S4x4x4096x128, A2⟩, ⟨S4x4x256x128, A4⟩] concatenates_S4x4x4096x128_S4x4x256x128_S4x4x4352x128_d2) bitsLt_bf16_f32)) transposes_S4x4x4096x128_S4x4096x4x128_0_2_1_3) shapeCasts_S4x4096x4x128_S4x4096x512) bitsLt_bf16_f32

/-- The result of the reference, over its arguments. -/
abbrev REF (A0 : FVec Ideal S4x4x4096x256 .bf16) (A1 : FVec Ideal S4x4x4096x256 .bf16) (A2 : FVec Ideal S4x4x4096x128 .bf16) (A3 : FVec Ideal S4x4x256x256 .bf16) (A4 : FVec Ideal S4x4x256x128 .bf16) : FVec Ideal S4x4096x512 .bf16 :=
  HEADS (PROBS (LOGITS A0 A1 A3)) A2 A4

/-- A sum over the concatenated keys, segment by segment. -/
theorem sum_two (f : Fin 4352 → EReal) : ∑ x, f x = ∑ k : Fin 4096, f ⟨k, by omega⟩ + ∑ k : Fin 256, f ⟨4096 + k, by omega⟩ :=
  Fin.sum_univ_add (a := 4096) (b := 256) f

theorem logit_lat (A0 A1 A3) (b h : Fin 4) (n k : Fin 4096) : LOGITS A0 A1 A3 (ix4 b h n ⟨k, by omega⟩)
    = (∑ d : Fin 256, A0 (ix4 b h n d) * A1 (ix4 b h k d)) * Ideal.log (Ideal.ofBits .f32 0x40000000#32) := by
  pointwise [LOGITS]

theorem logit_ctx (A0 A1 A3) (b h : Fin 4) (n : Fin 4096) (k : Fin 256) : LOGITS A0 A1 A3 (ix4 b h n ⟨4096 + k, by omega⟩)
    = (∑ d : Fin 256, A0 (ix4 b h n d) * A3 (ix4 b h k d)) * Ideal.log (Ideal.ofBits .f32 0x40000000#32) := by
  pointwise [LOGITS]

/-- The row maxima. -/
theorem rowmax (L : FVec Ideal S4x4x4096x4352 .f32) (h : S4x4x4096x4352.ReducesTo [3] S4x4x4096) (hu) :
    Host.reduce FloatOps.maximumf L (constant (F := Ideal) S_ .f32 0xFF800000#32) h hu
      = fun i => TOP fun k : Fin 4352 => L (ix4 (i 0) (i 1) (i 2) k) := by
  funext j
  rw [← top_eq, ← neg_inf]
  simp only [pointwise]

theorem prob_at (L) (b h : Fin 4) (n : Fin 4096) (x : Fin 4352) : PROBS L (ix4 b h n x)
    = Ideal.div (Ideal.exp (L (ix4 b h n x) - TOP fun y : Fin 4352 => L (ix4 b h n y)))
        (∑ z : Fin 4352, Ideal.exp (L (ix4 b h n z) - TOP fun y : Fin 4352 => L (ix4 b h n y))) := by
  unfold PROBS
  rw [rowmax]
  pointwise []
  simp only [neg_inf, max_bot_left]

theorem heads_at (P A2 A4) (j) : HEADS P A2 A4 j
    = ∑ k : Fin 4096, P (ix4 (j 0) ⟨(j 2).val / 128, by have := (j 2).isLt; simp at this; omega⟩ (j 1) ⟨k, by omega⟩)
          * A2 (ix4 (j 0) ⟨(j 2).val / 128, by have := (j 2).isLt; simp at this; omega⟩ k ⟨(j 2).val % 128, by omega⟩)
      + ∑ k : Fin 256, P (ix4 (j 0) ⟨(j 2).val / 128, by have := (j 2).isLt; simp at this; omega⟩ (j 1) ⟨4096 + k, by omega⟩)
          * A4 (ix4 (j 0) ⟨(j 2).val / 128, by have := (j 2).isLt; simp at this; omega⟩ k ⟨(j 2).val % 128, by omega⟩) := by
  pointwise [HEADS]

end Cert.ReferenceIdeal.Tile

end
-- ==== Proof.AttnValue.lean ====
/- The attention call: what the kernel leaves in its result is what the reference computes, for real queries and keys. -/
module

public import proofs.«01_k».proof.Proof.Gen.KernelIdeal.Frame
public import Idealize.ShloMosaic.Lib.Pipeline.ValueKit
public import Idealize.ShloMosaic.Lib.Pipeline.ReadBack
public import proofs.«01_k».proof.Proof.AttnTile
public import proofs.«01_k».proof.Proof.AttnRef

@[expose] public section

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.ReferenceIdeal.Tile Cert.Softmax

/-- Every element is a real number. -/
def REAL {ι : Type} (X : ι → EReal) : Prop := ∀ i, ∃ r : ℝ, X i = r

/-- A product of two rows of reals is a real. -/
theorem dot_real {n : ℕ} (f g : Fin n → EReal) (hf : ∀ k, ∃ r : ℝ, f k = r) (hg : ∀ k, ∃ r : ℝ, g k = r) :
    ∃ r : ℝ, ∑ k, f k * g k = r := by
  choose a ha using hf
  choose b hb using hg
  refine ⟨∑ k, a k * b k, ?_⟩
  rw [← coe_sum]
  exact Finset.sum_congr rfl fun k _ => by rw [ha, hb, EReal.coe_mul]

/-- The kernel's row is the softmax of the logits over both segments, against the values. -/
theorem row_eq (s u : Fin 4096 → EReal) (s' v : Fin 256 → EReal) (hs : ∀ k, ∃ r : ℝ, s k = r) (hs' : ∀ k, ∃ r : ℝ, s' k = r)
    (L : Fin 4352 → EReal) (h : ∀ k : Fin 4096, L ⟨k, by omega⟩ = s k * (Real.log 2 : ℝ))
    (h' : ∀ k : Fin 256, L ⟨4096 + k, by omega⟩ = s' k * (Real.log 2 : ℝ)) :
    ∑ k : Fin 4096, Ideal.div (Ideal.exp (L ⟨k, by omega⟩ - TOP L)) (∑ z, Ideal.exp (L z - TOP L)) * u k
      + ∑ k : Fin 256, Ideal.div (Ideal.exp (L ⟨4096 + k, by omega⟩ - TOP L)) (∑ z, Ideal.exp (L z - TOP L)) * v k
    = OUT s u s' v := by
  obtain ⟨m₁, e₁⟩ := top_real s hs
  obtain ⟨n₂, e₂⟩ := top_real s' hs'
  choose a ha using hs
  choose b hb using hs'
  obtain ⟨M, eM⟩ : ∃ M : ℝ, TOP L = M := by
    refine top_real L fun k => ?_
    by_cases hk : k.val < 4096
    · exact ⟨a ⟨k, hk⟩ * Real.log 2, by rw [EReal.coe_mul, ← ha]; exact h ⟨k, hk⟩⟩
    · have e : k = ⟨4096 + (⟨k.val - 4096, by omega⟩ : Fin 256), by simp only; omega⟩ := Fin.ext (by simp only; omega)
      exact ⟨b ⟨k.val - 4096, by omega⟩ * Real.log 2, by rw [EReal.coe_mul, ← hb, ← h', ← e]⟩
  obtain ⟨m₂, e₃⟩ : ∃ m₂ : ℝ, max (TOP s) (TOP s') = m₂ := ⟨max m₁ n₂, by rw [e₁, e₂]; exact (EReal.coe_strictMono.monotone.map_max).symm⟩
  unfold OUT
  rw [e₃, e₁, eM, sum_two]
  simp only [h, h', ha, hb]
  exact (softmax_eq a b u v m₁ m₂ M).symm

/-- The reference's result, element by element, in the kernel's form. -/
theorem ref_at (A0 A1 A2 A3 A4) (hq : REAL A0) (hk : REAL A1) (hc : REAL A3) (j) (hd : Fin 4) (d : Fin 128) (ehd : hd.val = (j 2).val / 128)
    (ed : d.val = (j 2).val % 128) :
    REF A0 A1 A2 A3 A4 j
      = OUT (fun k => ∑ e : Fin 256, A0 (ix4 (j 0) hd (j 1) e) * A1 (ix4 (j 0) hd k e)) (fun k => A2 (ix4 (j 0) hd k d))
          (fun k => ∑ e : Fin 256, A0 (ix4 (j 0) hd (j 1) e) * A3 (ix4 (j 0) hd k e)) (fun k => A4 (ix4 (j 0) hd k d)) := by
  have e₁ : ∀ h, (⟨(j 2).val / 128, h⟩ : Fin 4) = hd := fun _ => Fin.ext ehd.symm
  have e₂ : ∀ h, (⟨(j 2).val % 128, h⟩ : Fin 128) = d := fun _ => Fin.ext ed.symm
  have h₁ : ∀ k : Fin 4096, LOGITS A0 A1 A3 (ix4 (j 0) hd (j 1) ⟨k, by omega⟩)
      = (∑ e : Fin 256, A0 (ix4 (j 0) hd (j 1) e) * A1 (ix4 (j 0) hd k e)) * (Real.log 2 : ℝ) := fun k => by
    rw [← log_two]; exact logit_lat A0 A1 A3 _ _ _ k
  have h₂ : ∀ k : Fin 256, LOGITS A0 A1 A3 (ix4 (j 0) hd (j 1) ⟨4096 + k, by omega⟩)
      = (∑ e : Fin 256, A0 (ix4 (j 0) hd (j 1) e) * A3 (ix4 (j 0) hd k e)) * (Real.log 2 : ℝ) := fun k => by
    rw [← log_two]; exact logit_ctx A0 A1 A3 _ _ _ k
  have r₁ : ∀ k : Fin 4096, ∃ r : ℝ, ∑ e : Fin 256, A0 (ix4 (j 0) hd (j 1) e) * A1 (ix4 (j 0) hd k e) = r := fun k =>
    dot_real (fun e => A0 (ix4 (j 0) hd (j 1) e)) (fun e => A1 (ix4 (j 0) hd k e)) (fun e => hq _) (fun e => hk _)
  have r₂ : ∀ k : Fin 256, ∃ r : ℝ, ∑ e : Fin 256, A0 (ix4 (j 0) hd (j 1) e) * A3 (ix4 (j 0) hd k e) = r := fun k =>
    dot_real (fun e => A0 (ix4 (j 0) hd (j 1) e)) (fun e => A3 (ix4 (j 0) hd k e)) (fun e => hq _) (fun e => hc _)
  have key := row_eq (fun k => ∑ e : Fin 256, A0 (ix4 (j 0) hd (j 1) e) * A1 (ix4 (j 0) hd k e)) (fun k => A2 (ix4 (j 0) hd k d))
    (fun k => ∑ e : Fin 256, A0 (ix4 (j 0) hd (j 1) e) * A3 (ix4 (j 0) hd k e)) (fun k => A4 (ix4 (j 0) hd k d)) r₁ r₂
    (fun x => LOGITS A0 A1 A3 (ix4 (j 0) hd (j 1) x)) h₁ h₂
  rw [← key, REF, heads_at]
  clear key h₁ h₂ r₁ r₂
  generalize LOGITS A0 A1 A3 = L
  simp only [e₁, e₂]
  refine congrArg₂ (· + ·) (Finset.sum_congr rfl fun k _ => ?_) (Finset.sum_congr rfl fun k _ => ?_)
  · rw [prob_at L (j 0) hd (j 1)]
  · rw [prob_at L (j 0) hd (j 1)]

variable (m : (ℓ : Loc nD τ sig) → Buf (Elt Ideal) ℓ)

theorem idx : ∀ t : Fin cfg0.N, win0_0.index t = ![t.val / 16, t.val / 4 % 4, t.val % 4, 0] ∧ win0_1.index t = ![t.val / 16, t.val / 4 % 4, 0, 0]
    ∧ win0_2.index t = ![t.val / 16, t.val / 4 % 4, 0, 0] ∧ win0_3.index t = ![t.val / 16, t.val / 4 % 4, 0, 0]
    ∧ win0_4.index t = ![t.val / 16, t.val / 4 % 4, 0, 0] ∧ win0_5.index t = ![t.val / 16, t.val % 4, t.val / 4 % 4] :=
  (by decide +kernel : ∀ t : Fin grid0.N, _)

theorem out_congr {s s₂ u u₂ : Fin 4096 → EReal} {s' s'₂ v v₂ : Fin 256 → EReal} (h₁ : ∀ k, s k = s₂ k) (h₂ : ∀ k, u k = u₂ k)
    (h₃ : ∀ k, s' k = s'₂ k) (h₄ : ∀ k, v k = v₂ k) : OUT s u s' v = OUT s₂ u₂ s'₂ v₂ := by
  rw [funext h₁, funext h₂, funext h₃, funext h₄]

/-- The result array after the run is the reference's. -/
theorem final (c : Dev nD) (hq : @REAL S4x4x4096x256.Idx (m ((c : Thread nD τ).loc main_arg0)))
    (hk : @REAL S4x4x4096x256.Idx (m ((c : Thread nD τ).loc main_arg1)))
    (hc : @REAL S4x4x256x256.Idx (m ((c : Thread nD τ).loc main_arg3))) :
    (dats m 0 c).arrAt 5 (cfgs 0).N
      = REF (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  blk_simp
  have ht : t.val < 64 := t.isLt
  have hy : (y 2).val < 128 := (y 2).isLt
  rw [after0_5, ref_at _ _ _ _ _ hq hk hc _ ⟨t.val / 4 % 4, by omega⟩ (y 2) (by blk_simp [idx t]; simp only; omega)
    (by blk_simp [idx t]; omega)]
  unfold out0_5
  canon_tiles x h
  · refine (pay1_at _ _ _ _ _ x).trans ((tile0_at _ _ _ _ _ x).trans (out_congr (fun k => ?_) (fun k => ?_) (fun k => ?_) (fun k => ?_))) <;>
      blk_point [iblk, V, idx t]
  · refine (tile0_at _ _ _ _ _ x).trans (out_congr (fun k => ?_) (fun k => ?_) (fun k => ?_) (fun k => ?_)) <;>
      blk_point [iblk, V, idx t]

end Cert.KernelIdeal.Tile

end
-- ==== Proof.MlpUpValue.lean ====
/- The up projection of the feed-forward block: the kernel normalises a row tile once, keeps it while it walks the column
   tiles, and stores the squared positive part of each product. -/
module

public import proofs.«01_k».proof.Proof.Gen.MlpUpIdeal.Frame
public import proofs.«01_k».proof.Proof.Gen.MlpUpReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlpUpIdeal.Tile

open Cert.MlpUpIdeal Cert.MlpUpIdeal.Gen

variable (m : (ℓ : Loc nD τ sig) → Buf (Elt Ideal) ℓ)

theorem idx : ∀ t : Fin cfg0.N, win0_0.index t = ![t.val / 16, t.val / 4 % 4, 0] ∧ win0_1.index t = ![t.val / 16, 0, 0]
    ∧ win0_2.index t = ![t.val / 16, 0, 0] ∧ win0_3.index t = ![0, 0] ∧ win0_4.index t = ![0, t.val % 4]
    ∧ win0_5.index t = ![t.val / 16, t.val / 4 % 4, t.val % 4] :=
  (by decide +kernel : ∀ t : Fin grid0.N, _)

/-- The reference's product: the normalised, scaled and shifted row against the weights. -/
abbrev PROD (X : FVec Ideal S4x4096x2048 .f32) (SH SC : FVec Ideal S4x1x2048 .f32) (G : FVec Ideal S2048 .f32) (W : FVec Ideal S2048x8192 .f32) :
    FVec Ideal S4x4096x8192 .f32 :=
  Host.dotGeneral Cert.MlpUpReferenceIdeal.dot_S4x4096x2048_S2048x8192_S4x4096x8192_2_0_01_1_n_n none (addf (mulf (mulf (mulf X (broadcastInDim Cert.MlpUpReferenceIdeal.S4x4096x2048 ![0, 1, 2] Cert.MlpUpReferenceIdeal.Gen.bcast_S4x4096x1_S4x4096x2048_0_1_2 (Host.rsqrt (addf (Host.divf (broadcastInDim Cert.MlpUpReferenceIdeal.S4x4096x1 ![0, 1] Cert.MlpUpReferenceIdeal.Gen.bcast_S4x4096_S4x4096x1_0_1 (Host.reduceAdd (mulf X X) (constant Cert.MlpUpReferenceIdeal.S_ .f32 0x00000000#32) Cert.MlpUpReferenceIdeal.Gen.reducesTo_S4x4096x2048_S4x4096_d2 Cert.MlpUpReferenceIdeal.Gen.h_S_)) (broadcastInDim Cert.MlpUpReferenceIdeal.S4x4096x1 ![] Cert.MlpUpReferenceIdeal.Gen.bcast_S_S4x4096x1 (constant Cert.MlpUpReferenceIdeal.S_ .f32 0x45000000#32))) (broadcastInDim Cert.MlpUpReferenceIdeal.S4x4096x1 ![] Cert.MlpUpReferenceIdeal.Gen.bcast_S_S4x4096x1 (constant Cert.MlpUpReferenceIdeal.S_ .f32 0x358637BD#32)))))) (broadcastInDim Cert.MlpUpReferenceIdeal.S4x4096x2048 ![0, 1, 2] Cert.MlpUpReferenceIdeal.Gen.bcast_S1x1x2048_S4x4096x2048_0_1_2 (broadcastInDim Cert.MlpUpReferenceIdeal.S1x1x2048 ![2] Cert.MlpUpReferenceIdeal.Gen.bcast_S2048_S1x1x2048_2 G))) (broadcastInDim Cert.MlpUpReferenceIdeal.S4x4096x2048 ![0, 1, 2] Cert.MlpUpReferenceIdeal.Gen.bcast_S4x1x2048_S4x4096x2048_0_1_2 (addf (broadcastInDim Cert.MlpUpReferenceIdeal.S4x1x2048 ![] Cert.MlpUpReferenceIdeal.Gen.bcast_S_S4x1x2048 (constant Cert.MlpUpReferenceIdeal.S_ .f32 0x3F800000#32)) SC))) (broadcastInDim Cert.MlpUpReferenceIdeal.S4x4096x2048 ![0, 1, 2] Cert.MlpUpReferenceIdeal.Gen.bcast_S4x1x2048_S4x4096x2048_0_1_2 SH)) W

/-- The reference's result over the five arguments. -/
abbrev REF (X : FVec Ideal S4x4096x2048 .f32) (SH SC : FVec Ideal S4x1x2048 .f32) (G : FVec Ideal S2048 .f32) (W : FVec Ideal S2048x8192 .f32) :
    FVec Ideal S4x4096x8192 .bf16 :=
  truncf .bf16 (mulf (maximumf (PROD X SH SC G W) (broadcastInDim Cert.MlpUpReferenceIdeal.S4x4096x8192 ![] Cert.MlpUpReferenceIdeal.Gen.bcast_S_S4x4096x8192 (constant Cert.MlpUpReferenceIdeal.S_ .f32 0x00000000#32))) (maximumf (PROD X SH SC G W) (broadcastInDim Cert.MlpUpReferenceIdeal.S4x4096x8192 ![] Cert.MlpUpReferenceIdeal.Gen.bcast_S_S4x4096x8192 (constant Cert.MlpUpReferenceIdeal.S_ .f32 0x00000000#32)))) Cert.MlpUpReferenceIdeal.Gen.bitsLt_bf16_f32

/-- The normalised row, element by element. -/
theorem hid_at (x : FVec Ideal S1x1024x2048 .f32) (g : FVec Ideal S1x2048 .f32) (sc sh : FVec Ideal S1x1x2048 .f32) (j) :
    k0_pay1 (F := Ideal) x g sc sh j
      = x (ix3 0 (j 0) (j 1)) * Ideal.rsqrt (Ideal.div (∑ k : Fin 2048, x (ix3 0 (j 0) k) * x (ix3 0 (j 0) k)) (Ideal.ofBits FTy.f32 0x45000000#32)
          + Ideal.ofBits FTy.f32 0x358637BD#32) * g (ix2 0 (j 1)) * (1 + sc (ix3 0 0 (j 1))) + sh (ix3 0 0 (j 1)) := by
  pointwise [k0_pay1]

/-- The stored tile, element by element. -/
theorem out_at (h : FVec Ideal S1024x2048 .bf16) (w : FVec Ideal S2048x2048 .bf16) (j) :
    k0_pay2 (F := Ideal) h w j = max (∑ k : Fin 2048, h (ix2 (j 1) k) * w (ix2 k (j 2))) 0
      * max (∑ k : Fin 2048, h (ix2 (j 1) k) * w (ix2 k (j 2))) 0 := by
  pointwise [k0_pay2]

/-- The blocks of the first four windows do not move from one column tile to the next. -/
theorem same (c : Dev nD) (n : ℕ) (hn : n + 1 < cfg0.N) (h : ¬(n + 1) % 4 = 0) :
    iblk m c 0 ⟨n, Nat.lt_of_succ_lt hn⟩ = iblk m c 0 ⟨n + 1, hn⟩ ∧ iblk m c 1 ⟨n, Nat.lt_of_succ_lt hn⟩ = iblk m c 1 ⟨n + 1, hn⟩
    ∧ iblk m c 2 ⟨n, Nat.lt_of_succ_lt hn⟩ = iblk m c 2 ⟨n + 1, hn⟩ ∧ iblk m c 3 ⟨n, Nat.lt_of_succ_lt hn⟩ = iblk m c 3 ⟨n + 1, hn⟩ := by
  have e := idx ⟨n, Nat.lt_of_succ_lt hn⟩
  have e' := idx ⟨n + 1, hn⟩
  refine ⟨?_, ?_, ?_, ?_⟩ <;> blk_ext! [iblk, V, e, e']

/-- The normalised row tile, which the first of four points computes and the others keep. -/
theorem kept (c : Dev nD) : ∀ (n : ℕ) (hn : n < cfg0.N), (outsAt0 m c n hn).2
    = k0_pay1 (iblk m c 0 ⟨n, hn⟩) (iblk m c 3 ⟨n, hn⟩) (iblk m c 2 ⟨n, hn⟩) (iblk m c 1 ⟨n, hn⟩) := by
  intro n
  induction n with
  | zero => intro hn; rw [outsAt0_A m c ⟨0, hn⟩ rfl]; frame_out
  | succ n ih =>
    intro hn
    by_cases h : (n + 1) % 4 = 0
    · rw [outsAt0_A m c ⟨n + 1, hn⟩ h]; frame_out
    · rw [outsAt0_B m c ⟨n + 1, hn⟩ h]
      unfold sout0_B_0
      obtain ⟨e0, e1, e2, e3⟩ := same m c n hn h
      rw [← e0, ← e1, ← e2, ← e3]
      exact ih (Nat.lt_of_succ_lt hn)

/-- What a point stores: the squared positive part of the kept tile's product with its column tile. -/
theorem stored (c : Dev nD) (t : Fin cfg0.N) : (outsAt0 m c t.val t.isLt).1
    = k0_pay2 (outsAt0 m c t.val t.isLt).2 (iblk m c 4 t) := by
  by_cases h : t.val % 4 = 0
  · rw [outsAt0_A m c t h]; frame_out
  · rw [outsAt0_B m c t h]; frame_out; rw [read_unread_whole]; rfl

/-- The result array after the run is the reference's. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5, stored m c t, kept m c t.val t.isLt]
  refine (out_at _ _ y).trans ?_
  simp only [hid_at]
  pointwise [REF, PROD]
  blk_point [iblk, V, idx t]

end Cert.MlpUpIdeal.Tile

end
-- ==== Proof.MlpDownValue.lean ====
/- The down projection of the feed-forward block: what the kernel's four partial products of one output tile add up to,
   and that this is the residual plus the gated whole product. -/
module

public import proofs.«01_k».proof.Proof.Gen.MlpDownIdeal.Frame
public import proofs.«01_k».proof.Proof.Gen.MlpDownReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlpDownIdeal.Tile

open Cert.MlpDownIdeal Cert.MlpDownIdeal.Gen

variable (m : (ℓ : Loc nD τ sig) → Buf (Elt Ideal) ℓ)

/-- The reference's result over the four arguments: residual plus gate times the product. -/
abbrev REF (A : FVec Ideal Cert.MlpDownReferenceIdeal.S4x4096x8192 .bf16) (W : FVec Ideal Cert.MlpDownReferenceIdeal.S8192x2048 .f32)
    (R : FVec Ideal Cert.MlpDownReferenceIdeal.S4x4096x2048 .f32) (G : FVec Ideal Cert.MlpDownReferenceIdeal.S4x1x2048 .f32) :
    FVec Ideal Cert.MlpDownReferenceIdeal.S4x4096x2048 .f32 :=
  addf R (mulf (broadcastInDim Cert.MlpDownReferenceIdeal.S4x4096x2048 ![0, 1, 2] Cert.MlpDownReferenceIdeal.Gen.bcast_S4x1x2048_S4x4096x2048_0_1_2 G)
    (Host.dotGeneral Cert.MlpDownReferenceIdeal.dot_S4x4096x8192_S8192x2048_S4x4096x2048_2_0_01_1_n_n none
      (extf .f32 A Cert.MlpDownReferenceIdeal.Gen.bitsLt_bf16_f32) W))

/-- The zero fill of the accumulator. -/
theorem zero_at (j) : k0_pay1 (F := Ideal) j = 0 := by pointwise [k0_pay1]

/-- One step adds a slab of 2048 products to the accumulator. -/
theorem step_at (acc : FVec Ideal S1024x1024 .f32) (x : FVec Ideal S1x1024x2048 .bf16) (w : FVec Ideal S2048x1024 .bf16) (j) :
    k0_pay2 acc x w j = acc j + ∑ k : Fin 2048, x (ix3 0 (j 0) k) * w (ix2 k (j 1)) := by
  pointwise [k0_pay2]

/-- The last step's store: residual plus gate times the accumulator. -/
theorem out_at (r : FVec Ideal S1x1024x1024 .f32) (g : FVec Ideal S1x1x1024 .f32) (acc : FVec Ideal S1024x1024 .f32) (j) :
    k0_pay3 r g acc j = r (ix3 0 (j 1) (j 2)) + g (ix3 0 0 (j 2)) * acc (ix2 (j 1) (j 2)) := by
  pointwise [k0_pay3]
  blk_point []

theorem ref_at (A W R G j) : REF A W R G j
    = R (ix3 (j 0) (j 1) (j 2)) + G (ix3 (j 0) 0 (j 2)) * ∑ k : Fin 8192, A (ix3 (j 0) (j 1) k) * W (ix2 k (j 2)) := by
  pointwise [REF]

/-- The index maps: point `t` is batch `t / 32`, row tile `t / 8 % 4`, column tile `t / 4 % 2`, slab `t % 4`. -/
theorem idx : ∀ t : Fin cfg0.N, win0_0.index t = ![t.val / 32, t.val / 8 % 4, t.val % 4] ∧ win0_1.index t = ![t.val % 4, t.val / 4 % 2]
    ∧ win0_2.index t = ![t.val / 32, t.val / 8 % 4, t.val / 4 % 2] ∧ win0_3.index t = ![t.val / 32, 0, t.val / 4 % 2]
    ∧ win0_4.index t = ![t.val / 32, t.val / 8 % 4, t.val / 4 % 2] :=
  (by decide +kernel : ∀ t : Fin grid0.N, _)

/-- What the accumulator holds at the last of the four steps: the whole product over the contraction of length 8192. -/
theorem acc_at (c : Dev nD) (t : Fin cfg0.N) (h : t.val % 4 = 3) (y : S1x1024x1024.Idx) (i : S4x4096x2048.Idx)
    (h0 : (i 0).val = t.val / 32) (h1 : (i 1).val = t.val / 8 % 4 * 1024 + (y 1).val) (h2 : (i 2).val = t.val / 4 % 2 * 1024 + (y 2).val) :
    (outsAt0 m c t.val t.isLt).2 (ix2 (y 1) (y 2))
      = ∑ k : Fin 8192, (show FVec Ideal S4x4096x8192 .bf16 from m ((c : Thread nD τ).loc main_arg0)) (ix3 (i 0) (i 1) k)
          * (show FVec Ideal S8192x2048 .f32 from m ((c : Thread nD τ).loc main_arg1)) (ix2 k (i 2)) := by
  rw [Pipeline.eq_sum_fin_of_reset_step_apply_of_flush (fun n h => (outsAt0 m c n h).2) 4 (fun _ => 0) _
    (fun t h j => by rw [outsAt0_A m c t h (by omega)]; frame_out; rw [step_at, zero_at])
    (fun t h j => by
      by_cases h1 : t.val % 4 = 3
      · rw [outsAt0_C m c t h h1]; frame_out; rw [step_at, read_unread_whole]
      · rw [outsAt0_B m c t h h1]; frame_out; rw [step_at, read_unread_whole])
    t h _, zero_add]
  refine Fin.sum_mul_add_congr fun s k hl => ?_
  have hi := idx ⟨_, Pipeline.run_point_lt_of_flush t h s⟩
  blk_point [iblk, V, idx ⟨_, Pipeline.run_point_lt_of_flush t h s⟩]

/-- What the last step stores, in terms of the accumulator it leaves. -/
theorem last (c : Dev nD) (t : Fin cfg0.N) (h : t.val % 4 = 3) :
    (outsAt0 m c t.val t.isLt).1 = k0_pay3 (iblk m c 2 t) (iblk m c 3 t) (outsAt0 m c t.val t.isLt).2 := by
  rw [outsAt0_C m c t (by omega) h]; frame_out

/-- The result array after the run is the reference's. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h3 : t.val % 4 = 3 := (flush0_4 t).mp hf
  blk_simp
  rw [after0_4, last m c t h3, ref_at]
  refine (out_at _ _ _ y).trans ?_
  rw [acc_at m c t h3 y (((cfg0.win 4).blk t).view.emb y) (by blk_simp [idx t]; try omega) (by blk_simp [idx t]; try omega) (by blk_simp [idx t]; try omega)]
  blk_point [iblk, V, idx t]

end Cert.MlpDownIdeal.Tile

end
-- ==== Proof.MixValue.lean ====
/- The output projection of the four head groups: four products of one tile added up, and the reference, which contracts
   the concatenated groups at once. -/
module

public import proofs.«01_k».proof.Proof.Gen.MixIdeal.Frame
public import proofs.«01_k».proof.Proof.Gen.MixReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixReferenceIdeal.Tile

open Cert.MixReferenceIdeal Cert.MixReferenceIdeal.Gen

/-- The result of the reference, over its arguments. -/
def REF (A0 : FVec Ideal S4x4096x512 .bf16) (A1 : FVec Ideal S4x4096x512 .bf16) (A2 : FVec Ideal S4x4096x512 .bf16) (A3 : FVec Ideal S2x4096x1024 .bf16) (A4 : FVec Ideal S2048x2048 .f32) (A5 : FVec Ideal S4x4096x2048 .f32) (A6 : FVec Ideal S4x1x2048 .f32) :=
  addf A5 (mulf (broadcastInDim S4x4096x2048 ![0, 1, 2] bcast_S4x1x2048_S4x4096x2048_0_1_2 A6) (Host.dotGeneral dot_S4x4096x2048_S2048x2048_S4x4096x2048_2_0_01_1_n_n none (extf .f32 ((concatenate S4x4096x2048 2 [⟨S4x4096x512, (A0 : (⟨S4x4096x512, .bf16⟩ : BufTy).Contents (Elt Ideal))⟩, ⟨S4x4096x512, (A1 : (⟨S4x4096x512, .bf16⟩ : BufTy).Contents (Elt Ideal))⟩, ⟨S4x4096x512, (A2 : (⟨S4x4096x512, .bf16⟩ : BufTy).Contents (Elt Ideal))⟩, ⟨S4x4096x512, ((shapeCast _ (transpose S2x2x4096x512 [2, 0, 1, 3] (shapeCast _ A3 shapeCasts_S2x4096x1024_S2x4096x2x512) transposes_S2x4096x2x512_S2x2x4096x512_2_0_1_3) shapeCasts_S2x2x4096x512_S4x4096x512) : (⟨S4x4096x512, .bf16⟩ : BufTy).Contents (Elt Ideal))⟩] concatenates_S4x4096x512_S4x4096x512_S4x4096x512_S4x4096x512_S4x4096x2048_d2 : (⟨S4x4096x2048, .bf16⟩ : BufTy).Contents (Elt Ideal))) bitsLt_bf16_f32) A4))

end Cert.MixReferenceIdeal.Tile

namespace Cert.MixIdeal.Tile

open Cert.MixIdeal Cert.MixIdeal.Gen Cert.MixReferenceIdeal.Tile

variable (m : (ℓ : Loc nD τ sig) → Buf (Elt Ideal) ℓ)

/-- The index maps: point `t` is batch `t / 8`, row tile `t / 2 % 4`, column tile `t % 2`; the fourth group's array has
    batch `b` at row `b % 2` and column half `b / 2`. -/
theorem idx : ∀ t : Fin cfg0.N, win0_0.index t = ![t.val / 8, t.val / 2 % 4, 0] ∧ win0_1.index t = ![t.val / 8, t.val / 2 % 4, 0]
    ∧ win0_2.index t = ![t.val / 8, t.val / 2 % 4, 0] ∧ win0_3.index t = ![t.val / 8 % 2, t.val / 2 % 4, t.val / 8 / 2]
    ∧ win0_4.index t = ![0, t.val % 2] ∧ win0_5.index t = ![t.val / 8, t.val / 2 % 4, t.val % 2]
    ∧ win0_6.index t = ![t.val / 8, 0, t.val % 2] ∧ win0_7.index t = ![t.val / 8, t.val / 2 % 4, t.val % 2] :=
  (by decide +kernel : ∀ t : Fin grid0.N, _)

/-- The tile a point stores, element by element. -/
theorem tile_at (x0 : FVec Ideal S1x1024x512 .bf16) (w0 : FVec Ideal S512x1024 .bf16) (x1 : FVec Ideal S1x1024x512 .bf16) (w1 : FVec Ideal S512x1024 .bf16)
    (x2 : FVec Ideal S1x1024x512 .bf16) (w2 : FVec Ideal S512x1024 .bf16) (x3 : FVec Ideal S1x1024x512 .bf16) (w3 : FVec Ideal S512x1024 .bf16)
    (r : FVec Ideal S1x1024x1024 .f32) (g : FVec Ideal S1x1x1024 .f32) (j) :
    k0_pay1 (F := Ideal) (k0_pay2 x0 w0 x1 w1 x2 w2 x3 w3) (k0_pay3 r) (k0_pay4 g) j
      = r (ix3 0 (j 1) (j 2)) + g (ix3 0 0 (j 2)) * (∑ k : Fin 512, x0 (ix3 0 (j 1) k) * w0 (ix2 k (j 2))
        + (∑ k : Fin 512, x1 (ix3 0 (j 1) k) * w1 (ix2 k (j 2)) + (∑ k : Fin 512, x2 (ix3 0 (j 1) k) * w2 (ix2 k (j 2))
        + ∑ k : Fin 512, x3 (ix3 0 (j 1) k) * w3 (ix2 k (j 2))))) := by
  pointwise [k0_pay1, k0_pay2, k0_pay3, k0_pay4]
  simp only [add_assoc]
  blk_point []

/-- A sum over the concatenated axis, group by group. -/
theorem sum_four (f : Fin 2048 → EReal) : ∑ x, f x = ∑ k : Fin 512, f ⟨k, by omega⟩ + (∑ k : Fin 512, f ⟨512 + k, by omega⟩
    + (∑ k : Fin 512, f ⟨1024 + k, by omega⟩ + ∑ k : Fin 512, f ⟨1536 + k, by omega⟩)) := by
  rw [Fin.sum_univ_add (a := 512) (b := 1536) f, Fin.sum_univ_add (a := 512) (b := 1024), Fin.sum_univ_add (a := 512) (b := 512)]
  refine congrArg₂ (· + ·) rfl (congrArg₂ (· + ·) rfl (congrArg₂ (· + ·) ?_ ?_)) <;>
    exact Finset.sum_congr rfl fun k _ => congrArg f (Fin.ext (by simp only [Fin.natAdd, Fin.castAdd, Fin.castLE]; omega))

/-- The reference's result, element by element. -/
theorem ref_at (A0 A1 A2 A3 A4 A5 A6 j) : REF A0 A1 A2 A3 A4 A5 A6 j
    = A5 (ix3 (j 0) (j 1) (j 2)) + A6 (ix3 (j 0) 0 (j 2)) * (∑ k : Fin 512, A0 (ix3 (j 0) (j 1) k) * A4 (ix2 ⟨k, by omega⟩ (j 2))
      + (∑ k : Fin 512, A1 (ix3 (j 0) (j 1) k) * A4 (ix2 ⟨512 + k, by omega⟩ (j 2))
      + (∑ k : Fin 512, A2 (ix3 (j 0) (j 1) k) * A4 (ix2 ⟨1024 + k, by omega⟩ (j 2))
      + ∑ k : Fin 512, A3 (ix3 ⟨(j 0).val % 2, by omega⟩ (j 1) ⟨(j 0).val / 2 * 512 + k, by have := (j 0).isLt; simp at this; omega⟩) * A4 (ix2 ⟨1536 + k, by omega⟩ (j 2))))) := by
  pointwise [REF]
  rw [sum_four]
  dsimp only
  refine congrArg₂ (· + ·) (by blk_point []) (congrArg₂ (· * ·) rfl (congrArg₂ (· + ·) (Finset.sum_congr rfl fun k _ => ?_)
    (congrArg₂ (· + ·) (Finset.sum_congr rfl fun k _ => ?_) (congrArg₂ (· + ·) (Finset.sum_congr rfl fun k _ => ?_) (Finset.sum_congr rfl fun k _ => ?_)))))
  · rw [dif_pos (by omega)]
  · rw [dif_neg (by omega), dif_pos (by omega)]; blk_point []
  · rw [dif_neg (by omega), dif_neg (by omega), dif_pos (by omega)]; blk_point []
  · rw [dif_neg (by omega), dif_neg (by omega), dif_neg (by omega)]; blk_point []

/-- The result array after the run is the reference's. -/
theorem final (c : Dev nD) : (dats m 0 c).arrAt 7 (cfgs 0).N
    = REF (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7, ref_at]
  frame_out
  refine (tile_at _ _ _ _ _ _ _ _ _ _ y).trans ?_
  blk_point [iblk, V, idx t]

end Cert.MixIdeal.Tile

end
-- ==== Proof.InProjRef.lean ====
/- The reference of the input projection, element by element: the normalised rows, their product with the weights, and the
   columns of the product in the order the kernel stores them; and that ordering the columns of the weights first comes to
   the same, over real numbers. -/
module

public import proofs.«01_k».proof.Proof.Gen.InProjIdeal.Frame
public import proofs.«01_k».proof.Proof.Gen.InProjReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.InProjReferenceIdeal.Tile

open Cert.InProjReferenceIdeal Cert.InProjReferenceIdeal.Gen

/-- The normalised, scaled and shifted rows. -/
def HID (X : FVec Ideal S4x4096x2048 .f32) (SH SC : FVec Ideal S4x1x2048 .f32) (G : FVec Ideal S2048 .f32) : FVec Ideal S4x4096x2048 .f32 :=
  (addf (mulf (mulf (mulf X (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf X X) (constant (F := Ideal) S_ .f32 0x00000000#32) reducesTo_S4x4096x2048_S4x4096_d2 h_S_)) (broadcastInDim S4x4096x1 ![] bcast_S_S4x4096x1 (constant (F := Ideal) S_ .f32 0x45000000#32))) (broadcastInDim S4x4096x1 ![] bcast_S_S4x4096x1 (constant (F := Ideal) S_ .f32 0x358637BD#32)))))) (broadcastInDim S4x4096x2048 ![0, 1, 2] bcast_S1x1x2048_S4x4096x2048_0_1_2 (broadcastInDim S1x1x2048 ![2] bcast_S2048_S1x1x2048_2 G))) (broadcastInDim S4x4096x2048 ![0, 1, 2] bcast_S4x1x2048_S4x4096x2048_0_1_2 (addf (broadcastInDim S4x1x2048 ![] bcast_S_S4x1x2048 (constant (F := Ideal) S_ .f32 0x3F800000#32)) SC))) (broadcastInDim S4x4096x2048 ![0, 1, 2] bcast_S4x1x2048_S4x4096x2048_0_1_2 SH))

/-- The rows against the weights. -/
def PROJ (H : FVec Ideal S4x4096x2048 .f32) (W : FVec Ideal S2048x5440 .f32) : FVec Ideal S4x4096x5440 .f32 :=
  (Host.dotGeneral dot_S4x4096x2048_S2048x5440_S4x4096x5440_2_0_01_1_n_n none H W)

/-- The columns in the stored order: the widest part first, then the two narrow ones, the half-turned copy of the second, and zeros. -/
def LAY (P : FVec Ideal S4x4096x5440 .f32) : FVec Ideal S4x4096x5632 .bf16 :=
  truncf .bf16 ((concatenate S4x4096x5632 2 [⟨S4x4096x5120, ((extractStridedSlice S4x4096x5120 ![0, 0, 320] P slices_S4x4096x5440_S4x4096x5120_0_0_320) : (⟨S4x4096x5120, .f32⟩ : BufTy).Contents (Elt Ideal))⟩, ⟨S4x4096x256, ((extractStridedSlice S4x4096x256 ![0, 0, 0] P slices_S4x4096x5440_S4x4096x256_0_0_0) : (⟨S4x4096x256, .f32⟩ : BufTy).Contents (Elt Ideal))⟩, ⟨S4x4096x64, ((extractStridedSlice S4x4096x64 ![0, 0, 256] P slices_S4x4096x5440_S4x4096x64_0_0_256) : (⟨S4x4096x64, .f32⟩ : BufTy).Contents (Elt Ideal))⟩, ⟨S4x4096x64, (((concatenate S4x4096x64 2 [⟨S4x4096x16, ((Host.negf (extractStridedSlice S4x4096x16 ![0, 0, 16] (extractStridedSlice S4x4096x64 ![0, 0, 256] P slices_S4x4096x5440_S4x4096x64_0_0_256) slices_S4x4096x64_S4x4096x16_0_0_16)) : (⟨S4x4096x16, .f32⟩ : BufTy).Contents (Elt Ideal))⟩, ⟨S4x4096x16, ((extractStridedSlice S4x4096x16 ![0, 0, 0] (extractStridedSlice S4x4096x64 ![0, 0, 256] P slices_S4x4096x5440_S4x4096x64_0_0_256) slices_S4x4096x64_S4x4096x16_0_0_0) : (⟨S4x4096x16, .f32⟩ : BufTy).Contents (Elt Ideal))⟩, ⟨S4x4096x16, ((Host.negf (extractStridedSlice S4x4096x16 ![0, 0, 48] (extractStridedSlice S4x4096x64 ![0, 0, 256] P slices_S4x4096x5440_S4x4096x64_0_0_256) slices_S4x4096x64_S4x4096x16_0_0_48)) : (⟨S4x4096x16, .f32⟩ : BufTy).Contents (Elt Ideal))⟩, ⟨S4x4096x16, ((extractStridedSlice S4x4096x16 ![0, 0, 32] (extractStridedSlice S4x4096x64 ![0, 0, 256] P slices_S4x4096x5440_S4x4096x64_0_0_256) slices_S4x4096x64_S4x4096x16_0_0_32) : (⟨S4x4096x16, .f32⟩ : BufTy).Contents (Elt Ideal))⟩] concatenates_S4x4096x16_S4x4096x16_S4x4096x16_S4x4096x16_S4x4096x64_d2 : (⟨S4x4096x64, .f32⟩ : BufTy).Contents (Elt Ideal))) : (⟨S4x4096x64, .f32⟩ : BufTy).Contents (Elt Ideal))⟩, ⟨S4x4096x128, ((broadcastInDim S4x4096x128 ![] bcast_S_S4x4096x128 (constant (F := Ideal) S_ .f32 0x00000000#32)) : (⟨S4x4096x128, .f32⟩ : BufTy).Contents (Elt Ideal))⟩] concatenates_S4x4096x5120_S4x4096x256_S4x4096x64_S4x4096x64_S4x4096x128_S4x4096x5632_d2 : (⟨S4x4096x5632, .f32⟩ : BufTy).Contents (Elt Ideal))) bitsLt_bf16_f32

/-- The reference's result over the five arguments. -/
abbrev REF (X : FVec Ideal S4x4096x2048 .f32) (SH SC : FVec Ideal S4x1x2048 .f32) (G : FVec Ideal S2048 .f32) (W : FVec Ideal S2048x5440 .f32) :
    FVec Ideal S4x4096x5632 .bf16 := LAY (PROJ (HID X SH SC G) W)

/-- One entry of the stored order: which of the 5440 columns stands at place `j`, and with which sign. -/
def PICK (f : Fin 5440 → EReal) (j : Fin 5632) : EReal :=
  if h : j.val < 5120 then f ⟨320 + j.val, by omega⟩
  else if h : j.val < 5376 then f ⟨j.val - 5120, by omega⟩
  else if h : j.val < 5440 then f ⟨256 + (j.val - 5376), by omega⟩
  else if h : j.val < 5456 then - f ⟨272 + (j.val - 5440), by omega⟩
  else if h : j.val < 5472 then f ⟨256 + (j.val - 5456), by omega⟩
  else if h : j.val < 5488 then - f ⟨304 + (j.val - 5472), by omega⟩
  else if h : j.val < 5504 then f ⟨288 + (j.val - 5488), by omega⟩
  else 0

theorem hid_at (X SH SC G) (b : Fin 4) (n : Fin 4096) (k : Fin 2048) : HID X SH SC G (ix3 b n k)
    = X (ix3 b n k) * Ideal.rsqrt (Ideal.div (∑ k : Fin 2048, X (ix3 b n k) * X (ix3 b n k)) (Ideal.ofBits FTy.f32 0x45000000#32)
          + Ideal.ofBits FTy.f32 0x358637BD#32) * G (ix1 k) * (1 + SC (ix3 b 0 k)) + SH (ix3 b 0 k) := by
  pointwise [HID]

theorem proj_at (H W) (b : Fin 4) (n : Fin 4096) (x : Fin 5440) : PROJ H W (ix3 b n x) = ∑ k : Fin 2048, H (ix3 b n k) * W (ix2 k x) := by
  pointwise [PROJ]

set_option maxHeartbeats 2000000 in
theorem lay_at (P) (b : Fin 4) (n : Fin 4096) (j : Fin 5632) : LAY P (ix3 b n j) = PICK (fun x => P (ix3 b n x)) j := by
  pointwise [LAY]
  unfold PICK
  split_ifs
  all_goals first
    | rfl
    | (exfalso; omega)
    | (exfalso; simp_all; done)
    | skip
  all_goals
    dsimp only
    repeat first
      | rw [dif_pos (by omega)]
      | rw [dif_neg (by omega)]
  all_goals first
    | exact congrArg (fun x => P (ix3 b n x)) (Fin.ext (by simp only []; omega))
    | exact congrArg (fun x => - P (ix3 b n x)) (Fin.ext (by simp only []; omega))

end Cert.InProjReferenceIdeal.Tile

end
-- ==== Proof.InProjReals.lean ====
/- Real numbers under the extended ones: sums, products and the reciprocal root of a mean square stay real. -/
module

public import proofs.«01_k».proof.Proof.Softmax
public import Idealize.ShloMosaic.Lib.Pipeline.ValueKit

@[expose] public section

noncomputable section

open Idealize.ShloMosaic Cert.Softmax

namespace Cert.InProjReals

theorem word_2048 : Ideal.ofBits FTy.f32 0x45000000#32 = ((2048 : ℝ) : EReal) := by
  simp [Ideal.ofBits, Ideal.ieee, -EReal.coe_mul]; norm_num

theorem word_eps : ∃ e : ℝ, 0 < e ∧ Ideal.ofBits FTy.f32 0x358637BD#32 = (e : EReal) := by
  refine ⟨8796093 * 2 ^ (-43 : ℤ), by positivity, ?_⟩
  simp [Ideal.ofBits, Ideal.ieee, -EReal.coe_mul]

theorem real_sum {n : ℕ} (f : Fin n → EReal) (hf : ∀ k, ∃ r : ℝ, f k = r) : ∃ r : ℝ, ∑ k, f k = r := by
  choose g hg using hf
  exact ⟨∑ k, g k, by rw [← coe_sum]; exact Finset.sum_congr rfl fun k _ => hg k⟩

theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

/-- The reciprocal root of a row's mean square plus the small constant is a real number. -/
theorem real_scale {n : ℕ} (f : Fin n → EReal) (hf : ∀ k, ∃ r : ℝ, f k = r) :
    ∃ r : ℝ, Ideal.rsqrt (Ideal.div (∑ k, f k * f k) (Ideal.ofBits FTy.f32 0x45000000#32) + Ideal.ofBits FTy.f32 0x358637BD#32) = r := by
  choose g hg using hf
  obtain ⟨e, he, h⟩ := word_eps
  have hs : ∑ k, f k * f k = ((∑ k, g k * g k : ℝ) : EReal) := by
    rw [← coe_sum]; exact Finset.sum_congr rfl fun k _ => by rw [hg, EReal.coe_mul]
  have hp : 0 < (∑ k, g k * g k) * (2048 : ℝ)⁻¹ + e := by
    have : 0 ≤ ∑ k, g k * g k := Finset.sum_nonneg fun k _ => mul_self_nonneg _
    positivity
  rw [h, hs, word_2048]
  unfold Ideal.div
  rw [if_neg (by norm_num), ← EReal.coe_inv, ← EReal.coe_mul, ← EReal.coe_add]
  refine ⟨(Real.sqrt ((∑ k, g k * g k) * (2048 : ℝ)⁻¹ + e))⁻¹, ?_⟩
  show (if (∑ k, g k * g k) * (2048 : ℝ)⁻¹ + e < 0 then (⊥ : EReal) else if (∑ k, g k * g k) * (2048 : ℝ)⁻¹ + e = 0 then ⊤ else _) = _
  rw [if_neg (not_lt.mpr hp.le), if_neg hp.ne']

/-- A sum of products with the second factors negated, over real numbers. -/
theorem sum_neg {n : ℕ} (f g : Fin n → EReal) (hf : ∀ k, ∃ r : ℝ, f k = r) (hg : ∀ k, ∃ r : ℝ, g k = r) :
    ∑ k, f k * - g k = - ∑ k, f k * g k := by
  choose a ha using hf
  choose b hb using hg
  simp only [ha, hb, ← EReal.coe_neg, ← EReal.coe_mul, coe_sum]
  congr 1
  simp

end Cert.InProjReals

end
-- ==== Proof.InProjValue.lean ====
/- The input projection: the kernel multiplies the normalised rows by weights whose columns were put into the stored order
   beforehand, one of them negated and the last ones zero; over real numbers that is ordering the columns of the product. -/
module

public import proofs.«01_k».proof.Proof.InProjRef
public import proofs.«01_k».proof.Proof.InProjReals

@[expose] public section

set_option maxRecDepth 16384

noncomputable section

open Idealize.ShloMosaic Idealize.ShloMosaic.TcCoe Idealize.SL.Sem
open Idealize.ShloMosaic.Pipeline (Dat)

namespace Cert.InProjIdeal.Tile

open Cert.InProjIdeal Cert.InProjIdeal.Gen
open Cert.InProjReferenceIdeal.Tile (HID PROJ LAY REF PICK)
open Cert.InProjReals

variable (m : (ℓ : Loc nD τ sig) → Buf (Elt Ideal) ℓ)

/-- The weights with their columns in the stored order. -/
def COLS (W : FVec Ideal S2048x5440 .f32) : FVec Ideal S2048x5632 .f32 :=
  (concatenate S2048x5632 1 [⟨S2048x5120, ((extractStridedSlice S2048x5120 ![0, 320] W slices_S2048x5440_S2048x5120_0_320) : (⟨S2048x5120, .f32⟩ : BufTy).Contents (Elt Ideal))⟩, ⟨S2048x256, ((extractStridedSlice S2048x256 ![0, 0] W slices_S2048x5440_S2048x256_0_0) : (⟨S2048x256, .f32⟩ : BufTy).Contents (Elt Ideal))⟩, ⟨S2048x64, ((extractStridedSlice S2048x64 ![0, 256] W slices_S2048x5440_S2048x64_0_256) : (⟨S2048x64, .f32⟩ : BufTy).Contents (Elt Ideal))⟩, ⟨S2048x64, ((concatenate S2048x64 1 [⟨S2048x16, ((Host.negf (extractStridedSlice S2048x16 ![0, 16] (extractStridedSlice S2048x64 ![0, 256] W slices_S2048x5440_S2048x64_0_256) slices_S2048x64_S2048x16_0_16)) : (⟨S2048x16, .f32⟩ : BufTy).Contents (Elt Ideal))⟩, ⟨S2048x16, ((extractStridedSlice S2048x16 ![0, 0] (extractStridedSlice S2048x64 ![0, 256] W slices_S2048x5440_S2048x64_0_256) slices_S2048x64_S2048x16_0_0) : (⟨S2048x16, .f32⟩ : BufTy).Contents (Elt Ideal))⟩, ⟨S2048x16, ((Host.negf (extractStridedSlice S2048x16 ![0, 48] (extractStridedSlice S2048x64 ![0, 256] W slices_S2048x5440_S2048x64_0_256) slices_S2048x64_S2048x16_0_48)) : (⟨S2048x16, .f32⟩ : BufTy).Contents (Elt Ideal))⟩, ⟨S2048x16, ((extractStridedSlice S2048x16 ![0, 32] (extractStridedSlice S2048x64 ![0, 256] W slices_S2048x5440_S2048x64_0_256) slices_S2048x64_S2048x16_0_32) : (⟨S2048x16, .f32⟩ : BufTy).Contents (Elt Ideal))⟩] concatenates_S2048x16_S2048x16_S2048x16_S2048x16_S2048x64_d1 : (⟨S2048x64, .f32⟩ : BufTy).Contents (Elt Ideal)) : (⟨S2048x64, .f32⟩ : BufTy).Contents (Elt Ideal))⟩, ⟨S2048x128, ((broadcastInDim S2048x128 ![] bcast_S_S2048x128 (constant (F := Ideal) S_ .f32 0x00000000#32)) : (⟨S2048x128, .f32⟩ : BufTy).Contents (Elt Ideal))⟩] concatenates_S2048x5120_S2048x256_S2048x64_S2048x64_S2048x128_S2048x5632_d1 : (⟨S2048x5632, .f32⟩ : BufTy).Contents (Elt Ideal))

set_option maxHeartbeats 2000000 in
theorem cols_at (W) (k : Fin 2048) (j : Fin 5632) : COLS W (ix2 k j) = PICK (fun x => W (ix2 k x)) j := by
  pointwise [COLS]
  unfold PICK
  split_ifs
  all_goals first
    | rfl
    | (exfalso; omega)
    | (exfalso; simp_all; done)
    | skip
  all_goals
    dsimp only
    repeat first
      | rw [dif_pos (by omega)]
      | rw [dif_neg (by omega)]
  all_goals first
    | exact congrArg (fun x => W (ix2 k x)) (Fin.ext (by simp only []; omega))
    | exact congrArg (fun x => - W (ix2 k x)) (Fin.ext (by simp only []; omega))

/-- The array the weight window reads. -/
theorem weights (c : Dev nD) : V m c main_v55
    = (show FVec Ideal S2048x5632 .bf16 from truncf .bf16 (COLS (m ((c : Thread nD τ).loc main_arg4))) bitsLt_bf16_f32) := by
  unfold V; after_results; try rfl

/-- Ordering the columns before the product is ordering them after it, when every entry is real. -/
theorem pick_sum (h : Fin 2048 → EReal) (W : Fin 2048 → Fin 5440 → EReal) (hh : ∀ k, ∃ r : ℝ, h k = r) (hW : ∀ k x, ∃ r : ℝ, W k x = r)
    (j : Fin 5632) : ∑ k, h k * PICK (W k) j = PICK (fun x => ∑ k, h k * W k x) j := by
  unfold PICK
  split_ifs
  all_goals first
    | rfl
    | exact sum_neg _ _ hh fun k => hW k _
    | simp

theorem idx : ∀ t : Fin cfg0.N, win0_0.index t = ![t.val / 16, t.val / 4 % 4, 0] ∧ win0_1.index t = ![t.val / 16, 0, 0]
    ∧ win0_2.index t = ![t.val / 16, 0, 0] ∧ win0_3.index t = ![0, 0] ∧ win0_4.index t = ![0, t.val % 4]
    ∧ win0_5.index t = ![t.val / 16, t.val / 4 % 4, t.val % 4] :=
  (by decide +kernel : ∀ t : Fin grid0.N, _)

/-- The normalised row, element by element. -/
theorem hid_at (x : FVec Ideal S1x1024x2048 .f32) (g : FVec Ideal S1x2048 .f32) (sc sh : FVec Ideal S1x1x2048 .f32) (j) :
    k0_pay1 (F := Ideal) x g sc sh j
      = x (ix3 0 (j 0) (j 1)) * Ideal.rsqrt (Ideal.div (∑ k : Fin 2048, x (ix3 0 (j 0) k) * x (ix3 0 (j 0) k)) (Ideal.ofBits FTy.f32 0x45000000#32)
          + Ideal.ofBits FTy.f32 0x358637BD#32) * g (ix2 0 (j 1)) * (1 + sc (ix3 0 0 (j 1))) + sh (ix3 0 0 (j 1)) := by
  pointwise [k0_pay1]

/-- The stored tile, element by element. -/
theorem out_at (h : FVec Ideal S1024x2048 .bf16) (w : FVec Ideal S2048x1408 .bf16) (j) :
    k0_pay2 (F := Ideal) h w j = ∑ k : Fin 2048, h (ix2 (j 1) k) * w (ix2 k (j 2)) := by
  pointwise [k0_pay2]

/-- The block of the row of factors is the whole row, at every point. -/
theorem block3 (c : Dev nD) (t : Fin cfg0.N) (j : S1x2048.Idx) : iblk m c 3 t j = (show FVec Ideal S1x2048 .f32 from V m c main_v56) j := by
  simp only [iblk]
  generalize V m c main_v56 = C
  blk_point [idx t]

/-- The blocks of the first four windows do not move from one column tile to the next. -/
theorem same (c : Dev nD) (n : ℕ) (hn : n + 1 < cfg0.N) (h : ¬(n + 1) % 4 = 0) :
    iblk m c 0 ⟨n, Nat.lt_of_succ_lt hn⟩ = iblk m c 0 ⟨n + 1, hn⟩ ∧ iblk m c 1 ⟨n, Nat.lt_of_succ_lt hn⟩ = iblk m c 1 ⟨n + 1, hn⟩
    ∧ iblk m c 2 ⟨n, Nat.lt_of_succ_lt hn⟩ = iblk m c 2 ⟨n + 1, hn⟩ ∧ iblk m c 3 ⟨n, Nat.lt_of_succ_lt hn⟩ = iblk m c 3 ⟨n + 1, hn⟩ := by
  have e := idx ⟨n, Nat.lt_of_succ_lt hn⟩
  have e' := idx ⟨n + 1, hn⟩
  refine ⟨?_, ?_, ?_, ?_⟩ <;> simp only [iblk]
  · generalize V m c main_arg0 = C
    blk_ext! [e, e']
  · generalize V m c main_arg1 = C
    blk_ext! [e, e']
  · generalize V m c main_arg2 = C
    blk_ext! [e, e']
  · funext j
    exact (block3 m c _ j).trans (block3 m c _ j).symm

/-- The normalised row tile, which the first of four points computes and the others keep. -/
theorem kept (c : Dev nD) : ∀ (n : ℕ) (hn : n < cfg0.N), (outsAt0 m c n hn).2
    = k0_pay1 (iblk m c 0 ⟨n, hn⟩) (iblk m c 3 ⟨n, hn⟩) (iblk m c 2 ⟨n, hn⟩) (iblk m c 1 ⟨n, hn⟩) := by
  intro n
  induction n with
  | zero => intro hn; rw [outsAt0_A m c ⟨0, hn⟩ rfl]; frame_out
  | succ n ih =>
    intro hn
    by_cases h : (n + 1) % 4 = 0
    · rw [outsAt0_A m c ⟨n + 1, hn⟩ h]; frame_out
    · rw [outsAt0_B m c ⟨n + 1, hn⟩ h]
      unfold sout0_B_0
      obtain ⟨e0, e1, e2, e3⟩ := same m c n hn h
      rw [← e0, ← e1, ← e2, ← e3]
      exact ih (Nat.lt_of_succ_lt hn)

/-- What a point stores: the kept tile's product with its column tile. -/
theorem stored (c : Dev nD) (t : Fin cfg0.N) : (outsAt0 m c t.val t.isLt).1
    = k0_pay2 (outsAt0 m c t.val t.isLt).2 (iblk m c 4 t) := by
  by_cases h : t.val % 4 = 0
  · rw [outsAt0_A m c t h]; frame_out
  · rw [outsAt0_B m c t h]; frame_out; rw [read_unread_whole]; rfl

/-- One entry of a column tile of the weights. -/
theorem block4 (c : Dev nD) (t : Fin cfg0.N) (k : Fin 2048) (x : Fin 1408) :
    iblk m c 4 t (ix2 k x) = COLS (m ((c : Thread nD τ).loc main_arg4)) (ix2 k ⟨t.val % 4 * 1408 + x.val, by omega⟩) := by
  have e : iblk m c 4 t (ix2 k x) = (show FVec Ideal S2048x5632 .bf16 from V m c main_v55) (ix2 k ⟨t.val % 4 * 1408 + x.val, by omega⟩) := by
    simp only [iblk]
    generalize V m c main_v55 = C
    blk_point [idx t]
  rw [e, weights]
  rfl

/-- One entry of the kept tile: the reference's normalised row. -/
theorem row (c : Dev nD) (t : Fin cfg0.N) (n : Fin 1024) (k : Fin 2048) :
    k0_pay1 (F := Ideal) (iblk m c 0 t) (iblk m c 3 t) (iblk m c 2 t) (iblk m c 1 t) (ix2 n k)
      = HID (m ((c : Thread nD τ).loc main_arg0)) (m ((c : Thread nD τ).loc main_arg1)) (m ((c : Thread nD τ).loc main_arg2))
          (m ((c : Thread nD τ).loc main_arg3)) (ix3 ⟨t.val / 16, by have := t.isLt; simp only [show cfg0.N = 64 from rfl] at this; omega⟩
            ⟨t.val / 4 % 4 * 1024 + n.val, by omega⟩ k) := by
  rw [hid_at, Cert.InProjReferenceIdeal.Tile.hid_at]
  blk_point [iblk, V, idx t]

/-- The five arguments are real. -/
def REAL (c : Dev nD) : Prop :=
  (∀ i, ∃ r : ℝ, (show FVec Ideal S4x4096x2048 .f32 from m ((c : Thread nD τ).loc main_arg0)) i = r)
  ∧ (∀ i, ∃ r : ℝ, (show FVec Ideal S4x1x2048 .f32 from m ((c : Thread nD τ).loc main_arg1)) i = r)
  ∧ (∀ i, ∃ r : ℝ, (show FVec Ideal S4x1x2048 .f32 from m ((c : Thread nD τ).loc main_arg2)) i = r)
  ∧ (∀ i, ∃ r : ℝ, (show FVec Ideal S2048 .f32 from m ((c : Thread nD τ).loc main_arg3)) i = r)
  ∧ (∀ i, ∃ r : ℝ, (show FVec Ideal S2048x5440 .f32 from m ((c : Thread nD τ).loc main_arg4)) i = r)

/-- Real arguments give real rows. -/
theorem row_real (c : Dev nD) (h : REAL m c) (b : Fin 4) (n : Fin 4096) (k : Fin 2048) : ∃ r : ℝ,
    HID (m ((c : Thread nD τ).loc main_arg0)) (m ((c : Thread nD τ).loc main_arg1)) (m ((c : Thread nD τ).loc main_arg2))
      (m ((c : Thread nD τ).loc main_arg3)) (ix3 b n k) = r := by
  obtain ⟨h0, h1, h2, h3, -⟩ := h
  rw [Cert.InProjReferenceIdeal.Tile.hid_at]
  exact real_add (real_mul (real_mul (real_mul (h0 _) (real_scale _ fun k => h0 _)) (h3 _)) (real_add ⟨1, rfl⟩ (h2 _))) (h1 _)

/-- One entry of the reference's result. -/
theorem ref_at (c : Dev nD) (i : S4x4096x5632.Idx) (b : Fin 4) (n : Fin 4096) (j : Fin 5632) (h0 : (i 0).val = b.val) (h1 : (i 1).val = n.val)
    (h2 : (i 2).val = j.val) : REF (m ((c : Thread nD τ).loc main_arg0)) (m ((c : Thread nD τ).loc main_arg1)) (m ((c : Thread nD τ).loc main_arg2))
        (m ((c : Thread nD τ).loc main_arg3)) (m ((c : Thread nD τ).loc main_arg4)) i
      = PICK (fun x => ∑ k : Fin 2048, HID (m ((c : Thread nD τ).loc main_arg0)) (m ((c : Thread nD τ).loc main_arg1)) (m ((c : Thread nD τ).loc main_arg2))
        (m ((c : Thread nD τ).loc main_arg3)) (ix3 b n k) * (show FVec Ideal S2048x5440 .f32 from m ((c : Thread nD τ).loc main_arg4)) (ix2 k x)) j := by
  have e : i = ix3 b n j := by
    funext a
    fin_cases a
    · exact Fin.ext h0
    · exact Fin.ext h1
    · exact Fin.ext h2
  rw [e]
  refine (Cert.InProjReferenceIdeal.Tile.lay_at _ _ _ _).trans ?_
  simp only [Cert.InProjReferenceIdeal.Tile.proj_at]

/-- The result array after the run is the reference's. -/
theorem final (c : Dev nD) (h : REAL m c) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5, stored m c t, kept m c t.val t.isLt]
  refine (out_at _ _ y).trans ?_
  have e : ∀ k : Fin 2048, iblk m c 4 t (ix2 k (y 2)) = PICK (fun x => (show FVec Ideal S2048x5440 .f32 from m ((c : Thread nD τ).loc main_arg4)) (ix2 k x))
      ⟨t.val % 4 * 1408 + (y 2).val, by have := (y 2).isLt; change (y 2).val < 1408 at this; omega⟩ := fun k => (block4 m c t k (y 2)).trans (cols_at _ k _)
  refine (Finset.sum_congr rfl fun k _ => congrArg₂ (· * ·) (row m c t (y 1) k) (e k)).trans ?_
  rw [pick_sum _ _ (fun k => row_real m c h _ _ k) (fun k x => h.2.2.2.2 _)]
  exact (ref_at m c _ _ _ _ (by blk_simp [idx t]; try omega) (by blk_simp [idx t]; try omega) (by blk_simp [idx t]; try omega)).symm

end Cert.InProjIdeal.Tile

end
-- ==== Proof.ModValue.lean ====
/- The modulation vectors: the product of the SiLU of the condition rows with a column tile, and the reference. -/
module

public import proofs.«01_k».proof.Proof.Gen.ModIdeal.Frame
public import proofs.«01_k».proof.Proof.Gen.ModReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ModReferenceIdeal.Tile

open Cert.ModReferenceIdeal Cert.ModReferenceIdeal.Gen

/-- The eight condition rows: the latents' four, the context's one, three of zeros. -/
def ROWS (A0 : FVec Ideal S4x2048 .f32) (A1 : FVec Ideal S2048 .f32) : FVec Ideal S8x2048 .f32 :=
  concatenate S8x2048 0 [⟨S4x2048, A0⟩, ⟨S1x2048, broadcastInDim S1x2048 ![1] bcast_S2048_S1x2048_1 A1⟩,
    ⟨S3x2048, broadcastInDim S3x2048 ![] bcast_S_S3x2048 (constant (F := Ideal) S_ .f32 0x00000000#32)⟩] concatenates_S4x2048_S1x2048_S3x2048_S8x2048_d0

/-- The reference's result, from the eight rows: the SiLU of each against the weights, plus the bias. -/
def VECS (C : FVec Ideal S8x2048 .f32) (W : FVec Ideal S2048x12288 .f32) (B : FVec Ideal S12288 .f32) : FVec Ideal S8x12288 .f32 :=
  addf (Host.dotGeneral dot_S8x2048_S2048x12288_S8x12288_1_0_0_1_n_n none (mulf C (Host.divf (broadcastInDim S8x2048 ![] bcast_S_S8x2048 (constant S_ .f32 0x3F800000#32))
    (addf (broadcastInDim S8x2048 ![] bcast_S_S8x2048 (constant S_ .f32 0x3F800000#32)) (Host.exp (Host.negf C))))) W)
    (broadcastInDim S8x12288 ![0, 1] bcast_S1x12288_S8x12288_0_1 (broadcastInDim S1x12288 ![1] bcast_S12288_S1x12288_1 B))

/-- The reference's result over its arguments. -/
abbrev REF (A0 : FVec Ideal S4x2048 .f32) (A1 : FVec Ideal S2048 .f32) (A2 : FVec Ideal S2048x12288 .f32) (A3 : FVec Ideal S12288 .f32) : FVec Ideal S8x12288 .f32 :=
  VECS (ROWS A0 A1) A2 A3

end Cert.ModReferenceIdeal.Tile

namespace Cert.ModIdeal.Tile

open Cert.ModIdeal Cert.ModIdeal.Gen Cert.ModReferenceIdeal.Tile

variable (m : (ℓ : Loc nD τ sig) → Buf (Elt Ideal) ℓ)

theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- What the region finds in the first window's array: the eight rows. -/
theorem rows (c : Dev nD) : V m c main_v2 = ROWS (m ((c : Thread nD τ).loc main_arg0)) (m ((c : Thread nD τ).loc main_arg1)) := by
  unfold V
  after_results
  try rfl

/-- The tile a point stores, element by element. -/
theorem tile_at (x : FVec Ideal S8x2048 .f32) (w : FVec Ideal S2048x1536 .f32) (b : FVec Ideal S1x1536 .f32) (j) :
    k0_pay1 (F := Ideal) x w b j
      = ∑ k : Fin 2048, x (ix2 (j 0) k) * Ideal.logistic (x (ix2 (j 0) k)) * w (ix2 k (j 1)) + b (ix2 0 (j 1)) := by
  pointwise [k0_pay1]

/-- The reference's result, element by element. -/
theorem ref_at (C W B j) : VECS C W B j
      = ∑ k : Fin 2048, C (ix2 (j 0) k) * Ideal.logistic (C (ix2 (j 0) k)) * W (ix2 k (j 1)) + B (ix1 (j 1)) := by
  pointwise [VECS]
  rfl

/-- The first window's block is the whole array. -/
theorem block0 (c : Dev nD) (t : Fin cfg0.N) (i : Fin 8) (k : Fin 2048) : iblk m c 0 t (ix2 i k) = V m c main_v2 (ix2 i k) := by
  simp only [iblk]
  generalize V m c main_v2 = C
  blk_point [idx t]

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  unfold REF
  rw [after0_3, ← rows m c, ref_at]
  frame_out
  refine (tile_at _ _ _ y).trans ?_
  have e : ∀ k : Fin 2048, iblk m c 0 t (ix2 (y 0) k) = V m c main_v2 (ix2 (y 0) k) := fun k => block0 m c t _ k
  refine congrArg₂ (· + ·) (Finset.sum_congr rfl fun k _ => ?_) (by blk_point [iblk, V, idx t])
  rw [e k]
  refine congrArg₂ (· * ·) ?_ (by blk_point [iblk, V, idx t])
  generalize V m c main_v2 = C
  blk_point [idx t]

end Cert.ModIdeal.Tile

end
-- ==== Proof.MlpUpCtxValue.lean ====
/- The up projection of the feed-forward block, on the context: the kernel normalises a row tile once, keeps it while it walks the column
   tiles, and stores the squared positive part of each product. -/
module

public import proofs.«01_k».proof.Proof.Gen.MlpUpCtxIdeal.Frame
public import proofs.«01_k».proof.Proof.Gen.MlpUpCtxReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlpUpCtxIdeal.Tile

open Cert.MlpUpCtxIdeal Cert.MlpUpCtxIdeal.Gen

variable (m : (ℓ : Loc nD τ sig) → Buf (Elt Ideal) ℓ)

theorem idx : ∀ t : Fin cfg0.N, win0_0.index t = ![t.val / 16, 0, 0] ∧ win0_1.index t = ![0, 0, 0]
    ∧ win0_2.index t = ![0, 0, 0] ∧ win0_3.index t = ![0, 0] ∧ win0_4.index t = ![0, t.val % 16]
    ∧ win0_5.index t = ![t.val / 16, 0, t.val % 16] :=
  (by decide +kernel : ∀ t : Fin grid0.N, _)

/-- The reference's product: the normalised, scaled and shifted row against the weights. -/
abbrev PROD (X : FVec Ideal S4x256x2048 .f32) (SH SC : FVec Ideal S1x1x2048 .f32) (G : FVec Ideal S2048 .f32) (W : FVec Ideal S2048x8192 .f32) :
    FVec Ideal S4x256x8192 .f32 :=
  Host.dotGeneral Cert.MlpUpCtxReferenceIdeal.dot_S4x256x2048_S2048x8192_S4x256x8192_2_0_01_1_n_n none (addf (mulf (mulf (mulf X (broadcastInDim Cert.MlpUpCtxReferenceIdeal.S4x256x2048 ![0, 1, 2] Cert.MlpUpCtxReferenceIdeal.Gen.bcast_S4x256x1_S4x256x2048_0_1_2 (Host.rsqrt (addf (Host.divf (broadcastInDim Cert.MlpUpCtxReferenceIdeal.S4x256x1 ![0, 1] Cert.MlpUpCtxReferenceIdeal.Gen.bcast_S4x256_S4x256x1_0_1 (Host.reduceAdd (mulf X X) (constant Cert.MlpUpCtxReferenceIdeal.S_ .f32 0x00000000#32) Cert.MlpUpCtxReferenceIdeal.Gen.reducesTo_S4x256x2048_S4x256_d2 Cert.MlpUpCtxReferenceIdeal.Gen.h_S_)) (broadcastInDim Cert.MlpUpCtxReferenceIdeal.S4x256x1 ![] Cert.MlpUpCtxReferenceIdeal.Gen.bcast_S_S4x256x1 (constant Cert.MlpUpCtxReferenceIdeal.S_ .f32 0x45000000#32))) (broadcastInDim Cert.MlpUpCtxReferenceIdeal.S4x256x1 ![] Cert.MlpUpCtxReferenceIdeal.Gen.bcast_S_S4x256x1 (constant Cert.MlpUpCtxReferenceIdeal.S_ .f32 0x358637BD#32)))))) (broadcastInDim Cert.MlpUpCtxReferenceIdeal.S4x256x2048 ![0, 1, 2] Cert.MlpUpCtxReferenceIdeal.Gen.bcast_S1x1x2048_S4x256x2048_0_1_2 (broadcastInDim Cert.MlpUpCtxReferenceIdeal.S1x1x2048 ![2] Cert.MlpUpCtxReferenceIdeal.Gen.bcast_S2048_S1x1x2048_2 G))) (broadcastInDim Cert.MlpUpCtxReferenceIdeal.S4x256x2048 ![0, 1, 2] Cert.MlpUpCtxReferenceIdeal.Gen.bcast_S1x1x2048_S4x256x2048_0_1_2 (addf (broadcastInDim Cert.MlpUpCtxReferenceIdeal.S1x1x2048 ![] Cert.MlpUpCtxReferenceIdeal.Gen.bcast_S_S1x1x2048 (constant Cert.MlpUpCtxReferenceIdeal.S_ .f32 0x3F800000#32)) SC))) (broadcastInDim Cert.MlpUpCtxReferenceIdeal.S4x256x2048 ![0, 1, 2] Cert.MlpUpCtxReferenceIdeal.Gen.bcast_S1x1x2048_S4x256x2048_0_1_2 SH)) W

/-- The reference's result over the five arguments. -/
abbrev REF (X : FVec Ideal S4x256x2048 .f32) (SH SC : FVec Ideal S1x1x2048 .f32) (G : FVec Ideal S2048 .f32) (W : FVec Ideal S2048x8192 .f32) :
    FVec Ideal S4x256x8192 .bf16 :=
  truncf .bf16 (mulf (maximumf (PROD X SH SC G W) (broadcastInDim Cert.MlpUpCtxReferenceIdeal.S4x256x8192 ![] Cert.MlpUpCtxReferenceIdeal.Gen.bcast_S_S4x256x8192 (constant Cert.MlpUpCtxReferenceIdeal.S_ .f32 0x00000000#32))) (maximumf (PROD X SH SC G W) (broadcastInDim Cert.MlpUpCtxReferenceIdeal.S4x256x8192 ![] Cert.MlpUpCtxReferenceIdeal.Gen.bcast_S_S4x256x8192 (constant Cert.MlpUpCtxReferenceIdeal.S_ .f32 0x00000000#32)))) Cert.MlpUpCtxReferenceIdeal.Gen.bitsLt_bf16_f32

/-- The normalised row, element by element. -/
theorem hid_at (x : FVec Ideal S1x256x2048 .f32) (g : FVec Ideal S1x2048 .f32) (sc sh : FVec Ideal S1x1x2048 .f32) (j) :
    k0_pay1 (F := Ideal) x g sc sh j
      = x (ix3 0 (j 0) (j 1)) * Ideal.rsqrt (Ideal.div (∑ k : Fin 2048, x (ix3 0 (j 0) k) * x (ix3 0 (j 0) k)) (Ideal.ofBits FTy.f32 0x45000000#32)
          + Ideal.ofBits FTy.f32 0x358637BD#32) * g (ix2 0 (j 1)) * (1 + sc (ix3 0 0 (j 1))) + sh (ix3 0 0 (j 1)) := by
  pointwise [k0_pay1]

/-- The stored tile, element by element. -/
theorem out_at (h : FVec Ideal S256x2048 .bf16) (w : FVec Ideal S2048x512 .bf16) (j) :
    k0_pay2 (F := Ideal) h w j = max (∑ k : Fin 2048, h (ix2 (j 1) k) * w (ix2 k (j 2))) 0
      * max (∑ k : Fin 2048, h (ix2 (j 1) k) * w (ix2 k (j 2))) 0 := by
  pointwise [k0_pay2]

/-- The blocks of the first four windows do not move from one column tile to the next. -/
theorem same (c : Dev nD) (n : ℕ) (hn : n + 1 < cfg0.N) (h : ¬(n + 1) % 16 = 0) :
    iblk m c 0 ⟨n, Nat.lt_of_succ_lt hn⟩ = iblk m c 0 ⟨n + 1, hn⟩ ∧ iblk m c 1 ⟨n, Nat.lt_of_succ_lt hn⟩ = iblk m c 1 ⟨n + 1, hn⟩
    ∧ iblk m c 2 ⟨n, Nat.lt_of_succ_lt hn⟩ = iblk m c 2 ⟨n + 1, hn⟩ ∧ iblk m c 3 ⟨n, Nat.lt_of_succ_lt hn⟩ = iblk m c 3 ⟨n + 1, hn⟩ := by
  have e := idx ⟨n, Nat.lt_of_succ_lt hn⟩
  have e' := idx ⟨n + 1, hn⟩
  refine ⟨?_, ?_, ?_, ?_⟩ <;> blk_ext! [iblk, V, e, e']

/-- The normalised row tile, which the first of sixteen points computes and the others keep. -/
theorem kept (c : Dev nD) : ∀ (n : ℕ) (hn : n < cfg0.N), (outsAt0 m c n hn).2
    = k0_pay1 (iblk m c 0 ⟨n, hn⟩) (iblk m c 3 ⟨n, hn⟩) (iblk m c 2 ⟨n, hn⟩) (iblk m c 1 ⟨n, hn⟩) := by
  intro n
  induction n with
  | zero => intro hn; rw [outsAt0_A m c ⟨0, hn⟩ rfl]; frame_out
  | succ n ih =>
    intro hn
    by_cases h : (n + 1) % 16 = 0
    · rw [outsAt0_A m c ⟨n + 1, hn⟩ h]; frame_out
    · rw [outsAt0_B m c ⟨n + 1, hn⟩ h]
      unfold sout0_B_0
      obtain ⟨e0, e1, e2, e3⟩ := same m c n hn h
      rw [← e0, ← e1, ← e2, ← e3]
      exact ih (Nat.lt_of_succ_lt hn)

/-- What a point stores: the squared positive part of the kept tile's product with its column tile. -/
theorem stored (c : Dev nD) (t : Fin cfg0.N) : (outsAt0 m c t.val t.isLt).1
    = k0_pay2 (outsAt0 m c t.val t.isLt).2 (iblk m c 4 t) := by
  by_cases h : t.val % 16 = 0
  · rw [outsAt0_A m c t h]; frame_out
  · rw [outsAt0_B m c t h]; frame_out; rw [read_unread_whole]; rfl

/-- The result array after the run is the reference's. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5, stored m c t, kept m c t.val t.isLt]
  refine (out_at _ _ y).trans ?_
  simp only [hid_at]
  pointwise [REF, PROD]
  blk_point [iblk, V, idx t]

end Cert.MlpUpCtxIdeal.Tile

end
-- ==== Proof.MlpDownCtxValue.lean ====
/- The down projection of the feed-forward block, on the context: what the kernel's four partial products of one output tile add up to,
   and that this is the residual plus the gated whole product. -/
module

public import proofs.«01_k».proof.Proof.Gen.MlpDownCtxIdeal.Frame
public import proofs.«01_k».proof.Proof.Gen.MlpDownCtxReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlpDownCtxIdeal.Tile

open Cert.MlpDownCtxIdeal Cert.MlpDownCtxIdeal.Gen

variable (m : (ℓ : Loc nD τ sig) → Buf (Elt Ideal) ℓ)

/-- The reference's result over the four arguments: residual plus gate times the product. -/
abbrev REF (A : FVec Ideal Cert.MlpDownCtxReferenceIdeal.S4x256x8192 .bf16) (W : FVec Ideal Cert.MlpDownCtxReferenceIdeal.S8192x2048 .f32)
    (R : FVec Ideal Cert.MlpDownCtxReferenceIdeal.S4x256x2048 .f32) (G : FVec Ideal Cert.MlpDownCtxReferenceIdeal.S1x1x2048 .f32) :
    FVec Ideal Cert.MlpDownCtxReferenceIdeal.S4x256x2048 .f32 :=
  addf R (mulf (broadcastInDim Cert.MlpDownCtxReferenceIdeal.S4x256x2048 ![0, 1, 2] Cert.MlpDownCtxReferenceIdeal.Gen.bcast_S1x1x2048_S4x256x2048_0_1_2 G)
    (Host.dotGeneral Cert.MlpDownCtxReferenceIdeal.dot_S4x256x8192_S8192x2048_S4x256x2048_2_0_01_1_n_n none
      (extf .f32 A Cert.MlpDownCtxReferenceIdeal.Gen.bitsLt_bf16_f32) W))

/-- The zero fill of the accumulator. -/
theorem zero_at (j) : k0_pay1 (F := Ideal) j = 0 := by pointwise [k0_pay1]

/-- One step adds a slab of 2048 products to the accumulator. -/
theorem step_at (acc : FVec Ideal S256x1024 .f32) (x : FVec Ideal S1x256x2048 .bf16) (w : FVec Ideal S2048x1024 .bf16) (j) :
    k0_pay2 acc x w j = acc j + ∑ k : Fin 2048, x (ix3 0 (j 0) k) * w (ix2 k (j 1)) := by
  pointwise [k0_pay2]

/-- The last step's store: residual plus gate times the accumulator. -/
theorem out_at (r : FVec Ideal S1x256x1024 .f32) (g : FVec Ideal S1x1x1024 .f32) (acc : FVec Ideal S256x1024 .f32) (j) :
    k0_pay3 r g acc j = r (ix3 0 (j 1) (j 2)) + g (ix3 0 0 (j 2)) * acc (ix2 (j 1) (j 2)) := by
  pointwise [k0_pay3]
  blk_point []

theorem ref_at (A W R G j) : REF A W R G j
    = R (ix3 (j 0) (j 1) (j 2)) + G (ix3 0 0 (j 2)) * ∑ k : Fin 8192, A (ix3 (j 0) (j 1) k) * W (ix2 k (j 2)) := by
  pointwise [REF]

/-- The index maps: point `t` is batch `t / 8`, column tile `t / 4 % 2`, slab `t % 4`. -/
theorem idx : ∀ t : Fin cfg0.N, win0_0.index t = ![t.val / 8, 0, t.val % 4] ∧ win0_1.index t = ![t.val % 4, t.val / 4 % 2]
    ∧ win0_2.index t = ![t.val / 8, 0, t.val / 4 % 2] ∧ win0_3.index t = ![0, 0, t.val / 4 % 2]
    ∧ win0_4.index t = ![t.val / 8, 0, t.val / 4 % 2] :=
  (by decide +kernel : ∀ t : Fin grid0.N, _)

/-- What the accumulator holds at the last of the four steps: the whole product over the contraction of length 8192. -/
theorem acc_at (c : Dev nD) (t : Fin cfg0.N) (h : t.val % 4 = 3) (y : S1x256x1024.Idx) (i : S4x256x2048.Idx)
    (h0 : (i 0).val = t.val / 8) (h1 : (i 1).val = (y 1).val) (h2 : (i 2).val = t.val / 4 % 2 * 1024 + (y 2).val) :
    (outsAt0 m c t.val t.isLt).2 (ix2 (y 1) (y 2))
      = ∑ k : Fin 8192, (show FVec Ideal S4x256x8192 .bf16 from m ((c : Thread nD τ).loc main_arg0)) (ix3 (i 0) (i 1) k)
          * (show FVec Ideal S8192x2048 .f32 from m ((c : Thread nD τ).loc main_arg1)) (ix2 k (i 2)) := by
  rw [Pipeline.eq_sum_fin_of_reset_step_apply_of_flush (fun n h => (outsAt0 m c n h).2) 4 (fun _ => 0) _
    (fun t h j => by rw [outsAt0_A m c t h (by omega)]; frame_out; rw [step_at, zero_at])
    (fun t h j => by
      by_cases h1 : t.val % 4 = 3
      · rw [outsAt0_C m c t h h1]; frame_out; rw [step_at, read_unread_whole]
      · rw [outsAt0_B m c t h h1]; frame_out; rw [step_at, read_unread_whole])
    t h _, zero_add]
  refine Fin.sum_mul_add_congr fun s k hl => ?_
  have hi := idx ⟨_, Pipeline.run_point_lt_of_flush t h s⟩
  blk_point [iblk, V, idx ⟨_, Pipeline.run_point_lt_of_flush t h s⟩]

/-- What the last step stores, in terms of the accumulator it leaves. -/
theorem last (c : Dev nD) (t : Fin cfg0.N) (h : t.val % 4 = 3) :
    (outsAt0 m c t.val t.isLt).1 = k0_pay3 (iblk m c 2 t) (iblk m c 3 t) (outsAt0 m c t.val t.isLt).2 := by
  rw [outsAt0_C m c t (by omega) h]; frame_out

/-- The result array after the run is the reference's. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h3 : t.val % 4 = 3 := (flush0_4 t).mp hf
  blk_simp
  rw [after0_4, last m c t h3, ref_at]
  refine (out_at _ _ _ y).trans ?_
  rw [acc_at m c t h3 y (((cfg0.win 4).blk t).view.emb y) (by blk_simp [idx t]; try omega) (by blk_simp [idx t]; try omega) (by blk_simp [idx t]; try omega)]
  blk_point [iblk, V, idx t]

end Cert.MlpDownCtxIdeal.Tile

end
-- ==== Proof.MixCtxValue.lean ====
/- The output projection of the four head groups, on the context: four products of one tile added up, and the reference, which contracts
   the concatenated groups at once. -/
module

public import proofs.«01_k».proof.Proof.Gen.MixCtxIdeal.Frame
public import proofs.«01_k».proof.Proof.Gen.MixCtxReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixCtxReferenceIdeal.Tile

open Cert.MixCtxReferenceIdeal Cert.MixCtxReferenceIdeal.Gen

/-- The result of the reference, over its arguments. -/
def REF (A0 : FVec Ideal S4x256x512 .bf16) (A1 : FVec Ideal S4x256x512 .bf16) (A2 : FVec Ideal S4x256x512 .bf16) (A3 : FVec Ideal S2x256x1024 .bf16) (A4 : FVec Ideal S2048x2048 .f32) (A5 : FVec Ideal S4x256x2048 .f32) (A6 : FVec Ideal S1x1x2048 .f32) :=
  addf A5 (mulf (broadcastInDim S4x256x2048 ![0, 1, 2] bcast_S1x1x2048_S4x256x2048_0_1_2 A6) (Host.dotGeneral dot_S4x256x2048_S2048x2048_S4x256x2048_2_0_01_1_n_n none (extf .f32 ((concatenate S4x256x2048 2 [⟨S4x256x512, (A0 : (⟨S4x256x512, .bf16⟩ : BufTy).Contents (Elt Ideal))⟩, ⟨S4x256x512, (A1 : (⟨S4x256x512, .bf16⟩ : BufTy).Contents (Elt Ideal))⟩, ⟨S4x256x512, (A2 : (⟨S4x256x512, .bf16⟩ : BufTy).Contents (Elt Ideal))⟩, ⟨S4x256x512, ((shapeCast _ (transpose S2x2x256x512 [2, 0, 1, 3] (shapeCast _ A3 shapeCasts_S2x256x1024_S2x256x2x512) transposes_S2x256x2x512_S2x2x256x512_2_0_1_3) shapeCasts_S2x2x256x512_S4x256x512) : (⟨S4x256x512, .bf16⟩ : BufTy).Contents (Elt Ideal))⟩] concatenates_S4x256x512_S4x256x512_S4x256x512_S4x256x512_S4x256x2048_d2 : (⟨S4x256x2048, .bf16⟩ : BufTy).Contents (Elt Ideal))) bitsLt_bf16_f32) A4))

end Cert.MixCtxReferenceIdeal.Tile

namespace Cert.MixCtxIdeal.Tile

open Cert.MixCtxIdeal Cert.MixCtxIdeal.Gen Cert.MixCtxReferenceIdeal.Tile

variable (m : (ℓ : Loc nD τ sig) → Buf (Elt Ideal) ℓ)

/-- The index maps: point `t` is batch `t / 2`, column tile `t % 2`; the fourth group's array has batch `b` at row `b % 2`
    and column half `b / 2`. -/
theorem idx : ∀ t : Fin cfg0.N, win0_0.index t = ![t.val / 2, 0, 0] ∧ win0_1.index t = ![t.val / 2, 0, 0]
    ∧ win0_2.index t = ![t.val / 2, 0, 0] ∧ win0_3.index t = ![t.val / 2 % 2, 0, t.val / 2 / 2]
    ∧ win0_4.index t = ![0, t.val % 2] ∧ win0_5.index t = ![t.val / 2, 0, t.val % 2]
    ∧ win0_6.index t = ![0, 0, t.val % 2] ∧ win0_7.index t = ![t.val / 2, 0, t.val % 2] :=
  (by decide +kernel : ∀ t : Fin grid0.N, _)

/-- The tile a point stores, element by element. -/
theorem tile_at (x0 : FVec Ideal S1x256x512 .bf16) (w0 : FVec Ideal S512x1024 .bf16) (x1 : FVec Ideal S1x256x512 .bf16) (w1 : FVec Ideal S512x1024 .bf16)
    (x2 : FVec Ideal S1x256x512 .bf16) (w2 : FVec Ideal S512x1024 .bf16) (x3 : FVec Ideal S1x256x512 .bf16) (w3 : FVec Ideal S512x1024 .bf16)
    (r : FVec Ideal S1x256x1024 .f32) (g : FVec Ideal S1x1x1024 .f32) (j) :
    k0_pay1 (F := Ideal) (k0_pay2 x0 w0 x1 w1 x2 w2 x3 w3) (k0_pay3 r) (k0_pay4 g) j
      = r (ix3 0 (j 1) (j 2)) + g (ix3 0 0 (j 2)) * (∑ k : Fin 512, x0 (ix3 0 (j 1) k) * w0 (ix2 k (j 2))
        + (∑ k : Fin 512, x1 (ix3 0 (j 1) k) * w1 (ix2 k (j 2)) + (∑ k : Fin 512, x2 (ix3 0 (j 1) k) * w2 (ix2 k (j 2))
        + ∑ k : Fin 512, x3 (ix3 0 (j 1) k) * w3 (ix2 k (j 2))))) := by
  pointwise [k0_pay1, k0_pay2, k0_pay3, k0_pay4]
  simp only [add_assoc]
  blk_point []

/-- A sum over the concatenated axis, group by group. -/
theorem sum_four (f : Fin 2048 → EReal) : ∑ x, f x = ∑ k : Fin 512, f ⟨k, by omega⟩ + (∑ k : Fin 512, f ⟨512 + k, by omega⟩
    + (∑ k : Fin 512, f ⟨1024 + k, by omega⟩ + ∑ k : Fin 512, f ⟨1536 + k, by omega⟩)) := by
  rw [Fin.sum_univ_add (a := 512) (b := 1536) f, Fin.sum_univ_add (a := 512) (b := 1024), Fin.sum_univ_add (a := 512) (b := 512)]
  refine congrArg₂ (· + ·) rfl (congrArg₂ (· + ·) rfl (congrArg₂ (· + ·) ?_ ?_)) <;>
    exact Finset.sum_congr rfl fun k _ => congrArg f (Fin.ext (by simp only [Fin.natAdd, Fin.castAdd, Fin.castLE]; omega))

/-- The reference's result, element by element. -/
theorem ref_at (A0 A1 A2 A3 A4 A5 A6 j) : REF A0 A1 A2 A3 A4 A5 A6 j
    = A5 (ix3 (j 0) (j 1) (j 2)) + A6 (ix3 0 0 (j 2)) * (∑ k : Fin 512, A0 (ix3 (j 0) (j 1) k) * A4 (ix2 ⟨k, by omega⟩ (j 2))
      + (∑ k : Fin 512, A1 (ix3 (j 0) (j 1) k) * A4 (ix2 ⟨512 + k, by omega⟩ (j 2))
      + (∑ k : Fin 512, A2 (ix3 (j 0) (j 1) k) * A4 (ix2 ⟨1024 + k, by omega⟩ (j 2))
      + ∑ k : Fin 512, A3 (ix3 ⟨(j 0).val % 2, by omega⟩ (j 1) ⟨(j 0).val / 2 * 512 + k, by have := (j 0).isLt; simp at this; omega⟩) * A4 (ix2 ⟨1536 + k, by omega⟩ (j 2))))) := by
  pointwise [REF]
  rw [sum_four]
  dsimp only
  refine congrArg₂ (· + ·) (by blk_point []) (congrArg₂ (· * ·) rfl (congrArg₂ (· + ·) (Finset.sum_congr rfl fun k _ => ?_)
    (congrArg₂ (· + ·) (Finset.sum_congr rfl fun k _ => ?_) (congrArg₂ (· + ·) (Finset.sum_congr rfl fun k _ => ?_) (Finset.sum_congr rfl fun k _ => ?_)))))
  · rw [dif_pos (by omega)]
  · rw [dif_neg (by omega), dif_pos (by omega)]; blk_point []
  · rw [dif_neg (by omega), dif_neg (by omega), dif_pos (by omega)]; blk_point []
  · rw [dif_neg (by omega), dif_neg (by omega), dif_neg (by omega)]; blk_point []

/-- The result array after the run is the reference's. -/
theorem final (c : Dev nD) : (dats m 0 c).arrAt 7 (cfgs 0).N
    = REF (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7, ref_at]
  frame_out
  refine (tile_at _ _ _ _ _ _ _ _ _ _ y).trans ?_
  blk_point [iblk, V, idx t]

end Cert.MixCtxIdeal.Tile

end
-- ==== Proof.InProjCtxRef.lean ====
/- The reference of the input projection on the context, element by element: the normalised rows, their product with the weights, and the
   columns of the product in the order the kernel stores them; and that ordering the columns of the weights first comes to
   the same, over real numbers. -/
module

public import proofs.«01_k».proof.Proof.Gen.InProjCtxIdeal.Frame
public import proofs.«01_k».proof.Proof.Gen.InProjCtxReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.InProjCtxReferenceIdeal.Tile

open Cert.InProjCtxReferenceIdeal Cert.InProjCtxReferenceIdeal.Gen

/-- The normalised, scaled and shifted rows. -/
def HID (X : FVec Ideal S4x256x2048 .f32) (SH SC : FVec Ideal S1x1x2048 .f32) (G : FVec Ideal S2048 .f32) : FVec Ideal S4x256x2048 .f32 :=
  (addf (mulf (mulf (mulf X (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf X X) (constant (F := Ideal) S_ .f32 0x00000000#32) reducesTo_S4x256x2048_S4x256_d2 h_S_)) (broadcastInDim S4x256x1 ![] bcast_S_S4x256x1 (constant (F := Ideal) S_ .f32 0x45000000#32))) (broadcastInDim S4x256x1 ![] bcast_S_S4x256x1 (constant (F := Ideal) S_ .f32 0x358637BD#32)))))) (broadcastInDim S4x256x2048 ![0, 1, 2] bcast_S1x1x2048_S4x256x2048_0_1_2 (broadcastInDim S1x1x2048 ![2] bcast_S2048_S1x1x2048_2 G))) (broadcastInDim S4x256x2048 ![0, 1, 2] bcast_S1x1x2048_S4x256x2048_0_1_2 (addf (broadcastInDim S1x1x2048 ![] bcast_S_S1x1x2048 (constant (F := Ideal) S_ .f32 0x3F800000#32)) SC))) (broadcastInDim S4x256x2048 ![0, 1, 2] bcast_S1x1x2048_S4x256x2048_0_1_2 SH))

/-- The rows against the weights. -/
def PROJ (H : FVec Ideal S4x256x2048 .f32) (W : FVec Ideal S2048x5440 .f32) : FVec Ideal S4x256x5440 .f32 :=
  (Host.dotGeneral dot_S4x256x2048_S2048x5440_S4x256x5440_2_0_01_1_n_n none H W)

/-- The columns in the stored order: the widest part first, then the two narrow ones, the half-turned copy of the second, and zeros. -/
def LAY (P : FVec Ideal S4x256x5440 .f32) : FVec Ideal S4x256x5632 .bf16 :=
  truncf .bf16 ((concatenate S4x256x5632 2 [⟨S4x256x5120, ((extractStridedSlice S4x256x5120 ![0, 0, 320] P slices_S4x256x5440_S4x256x5120_0_0_320) : (⟨S4x256x5120, .f32⟩ : BufTy).Contents (Elt Ideal))⟩, ⟨S4x256x256, ((extractStridedSlice S4x256x256 ![0, 0, 0] P slices_S4x256x5440_S4x256x256_0_0_0) : (⟨S4x256x256, .f32⟩ : BufTy).Contents (Elt Ideal))⟩, ⟨S4x256x64, ((extractStridedSlice S4x256x64 ![0, 0, 256] P slices_S4x256x5440_S4x256x64_0_0_256) : (⟨S4x256x64, .f32⟩ : BufTy).Contents (Elt Ideal))⟩, ⟨S4x256x64, (((concatenate S4x256x64 2 [⟨S4x256x16, ((Host.negf (extractStridedSlice S4x256x16 ![0, 0, 16] (extractStridedSlice S4x256x64 ![0, 0, 256] P slices_S4x256x5440_S4x256x64_0_0_256) slices_S4x256x64_S4x256x16_0_0_16)) : (⟨S4x256x16, .f32⟩ : BufTy).Contents (Elt Ideal))⟩, ⟨S4x256x16, ((extractStridedSlice S4x256x16 ![0, 0, 0] (extractStridedSlice S4x256x64 ![0, 0, 256] P slices_S4x256x5440_S4x256x64_0_0_256) slices_S4x256x64_S4x256x16_0_0_0) : (⟨S4x256x16, .f32⟩ : BufTy).Contents (Elt Ideal))⟩, ⟨S4x256x16, ((Host.negf (extractStridedSlice S4x256x16 ![0, 0, 48] (extractStridedSlice S4x256x64 ![0, 0, 256] P slices_S4x256x5440_S4x256x64_0_0_256) slices_S4x256x64_S4x256x16_0_0_48)) : (⟨S4x256x16, .f32⟩ : BufTy).Contents (Elt Ideal))⟩, ⟨S4x256x16, ((extractStridedSlice S4x256x16 ![0, 0, 32] (extractStridedSlice S4x256x64 ![0, 0, 256] P slices_S4x256x5440_S4x256x64_0_0_256) slices_S4x256x64_S4x256x16_0_0_32) : (⟨S4x256x16, .f32⟩ : BufTy).Contents (Elt Ideal))⟩] concatenates_S4x256x16_S4x256x16_S4x256x16_S4x256x16_S4x256x64_d2 : (⟨S4x256x64, .f32⟩ : BufTy).Contents (Elt Ideal))) : (⟨S4x256x64, .f32⟩ : BufTy).Contents (Elt Ideal))⟩, ⟨S4x256x128, ((broadcastInDim S4x256x128 ![] bcast_S_S4x256x128 (constant (F := Ideal) S_ .f32 0x00000000#32)) : (⟨S4x256x128, .f32⟩ : BufTy).Contents (Elt Ideal))⟩] concatenates_S4x256x5120_S4x256x256_S4x256x64_S4x256x64_S4x256x128_S4x256x5632_d2 : (⟨S4x256x5632, .f32⟩ : BufTy).Contents (Elt Ideal))) bitsLt_bf16_f32

/-- The reference's result over the five arguments. -/
abbrev REF (X : FVec Ideal S4x256x2048 .f32) (SH SC : FVec Ideal S1x1x2048 .f32) (G : FVec Ideal S2048 .f32) (W : FVec Ideal S2048x5440 .f32) :
    FVec Ideal S4x256x5632 .bf16 := LAY (PROJ (HID X SH SC G) W)

/-- One entry of the stored order: which of the 5440 columns stands at place `j`, and with which sign. -/
def PICK (f : Fin 5440 → EReal) (j : Fin 5632) : EReal :=
  if h : j.val < 5120 then f ⟨320 + j.val, by omega⟩
  else if h : j.val < 5376 then f ⟨j.val - 5120, by omega⟩
  else if h : j.val < 5440 then f ⟨256 + (j.val - 5376), by omega⟩
  else if h : j.val < 5456 then - f ⟨272 + (j.val - 5440), by omega⟩
  else if h : j.val < 5472 then f ⟨256 + (j.val - 5456), by omega⟩
  else if h : j.val < 5488 then - f ⟨304 + (j.val - 5472), by omega⟩
  else if h : j.val < 5504 then f ⟨288 + (j.val - 5488), by omega⟩
  else 0

theorem hid_at (X SH SC G) (b : Fin 4) (n : Fin 256) (k : Fin 2048) : HID X SH SC G (ix3 b n k)
    = X (ix3 b n k) * Ideal.rsqrt (Ideal.div (∑ k : Fin 2048, X (ix3 b n k) * X (ix3 b n k)) (Ideal.ofBits FTy.f32 0x45000000#32)
          + Ideal.ofBits FTy.f32 0x358637BD#32) * G (ix1 k) * (1 + SC (ix3 0 0 k)) + SH (ix3 0 0 k) := by
  pointwise [HID]

theorem proj_at (H W) (b : Fin 4) (n : Fin 256) (x : Fin 5440) : PROJ H W (ix3 b n x) = ∑ k : Fin 2048, H (ix3 b n k) * W (ix2 k x) := by
  pointwise [PROJ]

set_option maxHeartbeats 2000000 in
theorem lay_at (P) (b : Fin 4) (n : Fin 256) (j : Fin 5632) : LAY P (ix3 b n j) = PICK (fun x => P (ix3 b n x)) j := by
  pointwise [LAY]
  unfold PICK
  split_ifs
  all_goals first
    | rfl
    | (exfalso; omega)
    | (exfalso; simp_all; done)
    | skip
  all_goals
    dsimp only
    repeat first
      | rw [dif_pos (by omega)]
      | rw [dif_neg (by omega)]
  all_goals first
    | exact congrArg (fun x => P (ix3 b n x)) (Fin.ext (by simp only []; omega))
    | exact congrArg (fun x => - P (ix3 b n x)) (Fin.ext (by simp only []; omega))

end Cert.InProjCtxReferenceIdeal.Tile

end
-- ==== Proof.InProjCtxValue.lean ====
/- The input projection, on the context: the kernel multiplies the normalised rows by weights whose columns were put into the stored order
   beforehand, one of them negated and the last ones zero; over real numbers that is ordering the columns of the product. -/
module

public import proofs.«01_k».proof.Proof.InProjCtxRef
public import proofs.«01_k».proof.Proof.InProjReals

@[expose] public section

set_option maxRecDepth 16384

noncomputable section

open Idealize.ShloMosaic Idealize.ShloMosaic.TcCoe Idealize.SL.Sem
open Idealize.ShloMosaic.Pipeline (Dat)

namespace Cert.InProjCtxIdeal.Tile

open Cert.InProjCtxIdeal Cert.InProjCtxIdeal.Gen
open Cert.InProjCtxReferenceIdeal.Tile (HID PROJ LAY REF PICK)
open Cert.InProjReals

variable (m : (ℓ : Loc nD τ sig) → Buf (Elt Ideal) ℓ)

/-- The weights with their columns in the stored order. -/
def COLS (W : FVec Ideal S2048x5440 .f32) : FVec Ideal S2048x5632 .f32 :=
  (concatenate S2048x5632 1 [⟨S2048x5120, ((extractStridedSlice S2048x5120 ![0, 320] W slices_S2048x5440_S2048x5120_0_320) : (⟨S2048x5120, .f32⟩ : BufTy).Contents (Elt Ideal))⟩, ⟨S2048x256, ((extractStridedSlice S2048x256 ![0, 0] W slices_S2048x5440_S2048x256_0_0) : (⟨S2048x256, .f32⟩ : BufTy).Contents (Elt Ideal))⟩, ⟨S2048x64, ((extractStridedSlice S2048x64 ![0, 256] W slices_S2048x5440_S2048x64_0_256) : (⟨S2048x64, .f32⟩ : BufTy).Contents (Elt Ideal))⟩, ⟨S2048x64, ((concatenate S2048x64 1 [⟨S2048x16, ((Host.negf (extractStridedSlice S2048x16 ![0, 16] (extractStridedSlice S2048x64 ![0, 256] W slices_S2048x5440_S2048x64_0_256) slices_S2048x64_S2048x16_0_16)) : (⟨S2048x16, .f32⟩ : BufTy).Contents (Elt Ideal))⟩, ⟨S2048x16, ((extractStridedSlice S2048x16 ![0, 0] (extractStridedSlice S2048x64 ![0, 256] W slices_S2048x5440_S2048x64_0_256) slices_S2048x64_S2048x16_0_0) : (⟨S2048x16, .f32⟩ : BufTy).Contents (Elt Ideal))⟩, ⟨S2048x16, ((Host.negf (extractStridedSlice S2048x16 ![0, 48] (extractStridedSlice S2048x64 ![0, 256] W slices_S2048x5440_S2048x64_0_256) slices_S2048x64_S2048x16_0_48)) : (⟨S2048x16, .f32⟩ : BufTy).Contents (Elt Ideal))⟩, ⟨S2048x16, ((extractStridedSlice S2048x16 ![0, 32] (extractStridedSlice S2048x64 ![0, 256] W slices_S2048x5440_S2048x64_0_256) slices_S2048x64_S2048x16_0_32) : (⟨S2048x16, .f32⟩ : BufTy).Contents (Elt Ideal))⟩] concatenates_S2048x16_S2048x16_S2048x16_S2048x16_S2048x64_d1 : (⟨S2048x64, .f32⟩ : BufTy).Contents (Elt Ideal)) : (⟨S2048x64, .f32⟩ : BufTy).Contents (Elt Ideal))⟩, ⟨S2048x128, ((broadcastInDim S2048x128 ![] bcast_S_S2048x128 (constant (F := Ideal) S_ .f32 0x00000000#32)) : (⟨S2048x128, .f32⟩ : BufTy).Contents (Elt Ideal))⟩] concatenates_S2048x5120_S2048x256_S2048x64_S2048x64_S2048x128_S2048x5632_d1 : (⟨S2048x5632, .f32⟩ : BufTy).Contents (Elt Ideal))

set_option maxHeartbeats 2000000 in
theorem cols_at (W) (k : Fin 2048) (j : Fin 5632) : COLS W (ix2 k j) = PICK (fun x => W (ix2 k x)) j := by
  pointwise [COLS]
  unfold PICK
  split_ifs
  all_goals first
    | rfl
    | (exfalso; omega)
    | (exfalso; simp_all; done)
    | skip
  all_goals
    dsimp only
    repeat first
      | rw [dif_pos (by omega)]
      | rw [dif_neg (by omega)]
  all_goals first
    | exact congrArg (fun x => W (ix2 k x)) (Fin.ext (by simp only []; omega))
    | exact congrArg (fun x => - W (ix2 k x)) (Fin.ext (by simp only []; omega))

/-- The array the weight window reads. -/
theorem weights (c : Dev nD) : V m c main_v55
    = (show FVec Ideal S2048x5632 .bf16 from truncf .bf16 (COLS (m ((c : Thread nD τ).loc main_arg4))) bitsLt_bf16_f32) := by
  unfold V; after_results; try rfl

/-- Ordering the columns before the product is ordering them after it, when every entry is real. -/
theorem pick_sum (h : Fin 2048 → EReal) (W : Fin 2048 → Fin 5440 → EReal) (hh : ∀ k, ∃ r : ℝ, h k = r) (hW : ∀ k x, ∃ r : ℝ, W k x = r)
    (j : Fin 5632) : ∑ k, h k * PICK (W k) j = PICK (fun x => ∑ k, h k * W k x) j := by
  unfold PICK
  split_ifs
  all_goals first
    | rfl
    | exact sum_neg _ _ hh fun k => hW k _
    | simp

theorem idx : ∀ t : Fin cfg0.N, win0_0.index t = ![t.val / 4, 0, 0] ∧ win0_1.index t = ![0, 0, 0]
    ∧ win0_2.index t = ![0, 0, 0] ∧ win0_3.index t = ![0, 0] ∧ win0_4.index t = ![0, t.val % 4]
    ∧ win0_5.index t = ![t.val / 4, 0, t.val % 4] :=
  (by decide +kernel : ∀ t : Fin grid0.N, _)

/-- The normalised row, element by element. -/
theorem hid_at (x : FVec Ideal S1x256x2048 .f32) (g : FVec Ideal S1x2048 .f32) (sc sh : FVec Ideal S1x1x2048 .f32) (j) :
    k0_pay1 (F := Ideal) x g sc sh j
      = x (ix3 0 (j 0) (j 1)) * Ideal.rsqrt (Ideal.div (∑ k : Fin 2048, x (ix3 0 (j 0) k) * x (ix3 0 (j 0) k)) (Ideal.ofBits FTy.f32 0x45000000#32)
          + Ideal.ofBits FTy.f32 0x358637BD#32) * g (ix2 0 (j 1)) * (1 + sc (ix3 0 0 (j 1))) + sh (ix3 0 0 (j 1)) := by
  pointwise [k0_pay1]

/-- The stored tile, element by element. -/
theorem out_at (h : FVec Ideal S256x2048 .bf16) (w : FVec Ideal S2048x1408 .bf16) (j) :
    k0_pay2 (F := Ideal) h w j = ∑ k : Fin 2048, h (ix2 (j 1) k) * w (ix2 k (j 2)) := by
  pointwise [k0_pay2]

/-- The block of the row of factors is the whole row, at every point. -/
theorem block3 (c : Dev nD) (t : Fin cfg0.N) (j : S1x2048.Idx) : iblk m c 3 t j = (show FVec Ideal S1x2048 .f32 from V m c main_v56) j := by
  simp only [iblk]
  generalize V m c main_v56 = C
  blk_point [idx t]

/-- The blocks of the first four windows do not move from one column tile to the next. -/
theorem same (c : Dev nD) (n : ℕ) (hn : n + 1 < cfg0.N) (h : ¬(n + 1) % 4 = 0) :
    iblk m c 0 ⟨n, Nat.lt_of_succ_lt hn⟩ = iblk m c 0 ⟨n + 1, hn⟩ ∧ iblk m c 1 ⟨n, Nat.lt_of_succ_lt hn⟩ = iblk m c 1 ⟨n + 1, hn⟩
    ∧ iblk m c 2 ⟨n, Nat.lt_of_succ_lt hn⟩ = iblk m c 2 ⟨n + 1, hn⟩ ∧ iblk m c 3 ⟨n, Nat.lt_of_succ_lt hn⟩ = iblk m c 3 ⟨n + 1, hn⟩ := by
  have e := idx ⟨n, Nat.lt_of_succ_lt hn⟩
  have e' := idx ⟨n + 1, hn⟩
  refine ⟨?_, ?_, ?_, ?_⟩ <;> simp only [iblk]
  · generalize V m c main_arg0 = C
    blk_ext! [e, e']
  · generalize V m c main_arg1 = C
    blk_ext! [e, e']
  · generalize V m c main_arg2 = C
    blk_ext! [e, e']
  · funext j
    exact (block3 m c _ j).trans (block3 m c _ j).symm

/-- The normalised row tile, which the first of four points computes and the others keep. -/
theorem kept (c : Dev nD) : ∀ (n : ℕ) (hn : n < cfg0.N), (outsAt0 m c n hn).2
    = k0_pay1 (iblk m c 0 ⟨n, hn⟩) (iblk m c 3 ⟨n, hn⟩) (iblk m c 2 ⟨n, hn⟩) (iblk m c 1 ⟨n, hn⟩) := by
  intro n
  induction n with
  | zero => intro hn; rw [outsAt0_A m c ⟨0, hn⟩ rfl]; frame_out
  | succ n ih =>
    intro hn
    by_cases h : (n + 1) % 4 = 0
    · rw [outsAt0_A m c ⟨n + 1, hn⟩ h]; frame_out
    · rw [outsAt0_B m c ⟨n + 1, hn⟩ h]
      unfold sout0_B_0
      obtain ⟨e0, e1, e2, e3⟩ := same m c n hn h
      rw [← e0, ← e1, ← e2, ← e3]
      exact ih (Nat.lt_of_succ_lt hn)

/-- What a point stores: the kept tile's product with its column tile. -/
theorem stored (c : Dev nD) (t : Fin cfg0.N) : (outsAt0 m c t.val t.isLt).1
    = k0_pay2 (outsAt0 m c t.val t.isLt).2 (iblk m c 4 t) := by
  by_cases h : t.val % 4 = 0
  · rw [outsAt0_A m c t h]; frame_out
  · rw [outsAt0_B m c t h]; frame_out; rw [read_unread_whole]; rfl

/-- One entry of a column tile of the weights. -/
theorem block4 (c : Dev nD) (t : Fin cfg0.N) (k : Fin 2048) (x : Fin 1408) :
    iblk m c 4 t (ix2 k x) = COLS (m ((c : Thread nD τ).loc main_arg4)) (ix2 k ⟨t.val % 4 * 1408 + x.val, by omega⟩) := by
  have e : iblk m c 4 t (ix2 k x) = (show FVec Ideal S2048x5632 .bf16 from V m c main_v55) (ix2 k ⟨t.val % 4 * 1408 + x.val, by omega⟩) := by
    simp only [iblk]
    generalize V m c main_v55 = C
    blk_point [idx t]
  rw [e, weights]
  rfl

/-- One entry of the kept tile: the reference's normalised row. -/
theorem row (c : Dev nD) (t : Fin cfg0.N) (n : Fin 256) (k : Fin 2048) :
    k0_pay1 (F := Ideal) (iblk m c 0 t) (iblk m c 3 t) (iblk m c 2 t) (iblk m c 1 t) (ix2 n k)
      = HID (m ((c : Thread nD τ).loc main_arg0)) (m ((c : Thread nD τ).loc main_arg1)) (m ((c : Thread nD τ).loc main_arg2))
          (m ((c : Thread nD τ).loc main_arg3)) (ix3 ⟨t.val / 4, by have := t.isLt; simp only [show cfg0.N = 16 from rfl] at this; omega⟩
            n k) := by
  rw [hid_at, Cert.InProjCtxReferenceIdeal.Tile.hid_at]
  blk_point [iblk, V, idx t]

/-- The five arguments are real. -/
def REAL (c : Dev nD) : Prop :=
  (∀ i, ∃ r : ℝ, (show FVec Ideal S4x256x2048 .f32 from m ((c : Thread nD τ).loc main_arg0)) i = r)
  ∧ (∀ i, ∃ r : ℝ, (show FVec Ideal S1x1x2048 .f32 from m ((c : Thread nD τ).loc main_arg1)) i = r)
  ∧ (∀ i, ∃ r : ℝ, (show FVec Ideal S1x1x2048 .f32 from m ((c : Thread nD τ).loc main_arg2)) i = r)
  ∧ (∀ i, ∃ r : ℝ, (show FVec Ideal S2048 .f32 from m ((c : Thread nD τ).loc main_arg3)) i = r)
  ∧ (∀ i, ∃ r : ℝ, (show FVec Ideal S2048x5440 .f32 from m ((c : Thread nD τ).loc main_arg4)) i = r)

/-- Real arguments give real rows. -/
theorem row_real (c : Dev nD) (h : REAL m c) (b : Fin 4) (n : Fin 256) (k : Fin 2048) : ∃ r : ℝ,
    HID (m ((c : Thread nD τ).loc main_arg0)) (m ((c : Thread nD τ).loc main_arg1)) (m ((c : Thread nD τ).loc main_arg2))
      (m ((c : Thread nD τ).loc main_arg3)) (ix3 b n k) = r := by
  obtain ⟨h0, h1, h2, h3, -⟩ := h
  rw [Cert.InProjCtxReferenceIdeal.Tile.hid_at]
  exact real_add (real_mul (real_mul (real_mul (h0 _) (real_scale _ fun k => h0 _)) (h3 _)) (real_add ⟨1, rfl⟩ (h2 _))) (h1 _)

/-- One entry of the reference's result. -/
theorem ref_at (c : Dev nD) (i : S4x256x5632.Idx) (b : Fin 4) (n : Fin 256) (j : Fin 5632) (h0 : (i 0).val = b.val) (h1 : (i 1).val = n.val)
    (h2 : (i 2).val = j.val) : REF (m ((c : Thread nD τ).loc main_arg0)) (m ((c : Thread nD τ).loc main_arg1)) (m ((c : Thread nD τ).loc main_arg2))
        (m ((c : Thread nD τ).loc main_arg3)) (m ((c : Thread nD τ).loc main_arg4)) i
      = PICK (fun x => ∑ k : Fin 2048, HID (m ((c : Thread nD τ).loc main_arg0)) (m ((c : Thread nD τ).loc main_arg1)) (m ((c : Thread nD τ).loc main_arg2))
        (m ((c : Thread nD τ).loc main_arg3)) (ix3 b n k) * (show FVec Ideal S2048x5440 .f32 from m ((c : Thread nD τ).loc main_arg4)) (ix2 k x)) j := by
  have e : i = ix3 b n j := by
    funext a
    fin_cases a
    · exact Fin.ext h0
    · exact Fin.ext h1
    · exact Fin.ext h2
  rw [e]
  refine (Cert.InProjCtxReferenceIdeal.Tile.lay_at _ _ _ _).trans ?_
  simp only [Cert.InProjCtxReferenceIdeal.Tile.proj_at]

/-- The result array after the run is the reference's. -/
theorem final (c : Dev nD) (h : REAL m c) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5, stored m c t, kept m c t.val t.isLt]
  refine (out_at _ _ y).trans ?_
  have e : ∀ k : Fin 2048, iblk m c 4 t (ix2 k (y 2)) = PICK (fun x => (show FVec Ideal S2048x5440 .f32 from m ((c : Thread nD τ).loc main_arg4)) (ix2 k x))
      ⟨t.val % 4 * 1408 + (y 2).val, by have := (y 2).isLt; change (y 2).val < 1408 at this; omega⟩ := fun k => (block4 m c t k (y 2)).trans (cols_at _ k _)
  refine (Finset.sum_congr rfl fun k _ => congrArg₂ (· * ·) (row m c t (y 1) k) (e k)).trans ?_
  refine (pick_sum _ _ (fun k => row_real m c h _ _ k) (fun k x => h.2.2.2.2 _) _).trans ?_
  exact (ref_at m c _ _ _ _ (by blk_simp [idx t]; try omega) (by blk_simp [idx t]; try omega) (by blk_simp [idx t]; try omega)).symm

end Cert.InProjCtxIdeal.Tile

end
-- ==== Proof.AttnCtxValue.lean ====
/- The attention on the context: a row of a tile is a softmax in one segment, and so is the reference's. -/
module

public import proofs.«01_k».proof.Proof.Gen.AttnCtxIdeal.Frame
public import proofs.«01_k».proof.Proof.Gen.AttnCtxReferenceIdeal.Run
public import Idealize.ShloMosaic.Lib.Pipeline.ValueKit
public import Idealize.ShloMosaic.Lib.Pipeline.ReadBack
public import proofs.«01_k».proof.Proof.Softmax

@[expose] public section

set_option maxRecDepth 16384

noncomputable section

open Idealize.ShloMosaic Idealize.ShloMosaic.TcCoe Idealize.SL.Sem
open Idealize.ShloMosaic.Pipeline (Dat)

namespace Cert.AttnCtxReferenceIdeal.Tile

open Cert.AttnCtxReferenceIdeal Cert.AttnCtxReferenceIdeal.Gen Cert.Softmax

/-- The logits, times log 2. -/
def LOGITS (A0 : FVec Ideal S4x4x256x256 .bf16) (A1 : FVec Ideal S4x4x256x256 .bf16) : FVec Ideal S4x4x256x256 .f32 :=
  mulf (Host.dotGeneral dot_S4x4x256x256_S4x4x256x256_S4x4x256x256_3_3_2_2_01_01 none (extf .f32 A0 bitsLt_bf16_f32) (extf .f32 A1 bitsLt_bf16_f32)) (broadcastInDim S4x4x256x256 ![] bcast_S_S4x4x256x256 (Host.log (constant (F := Ideal) S_ .f32 0x40000000#32)))

/-- The softmax of an array of logits. -/
def PROBS (L : FVec Ideal S4x4x256x256 .f32) : FVec Ideal S4x4x256x256 .f32 :=
  Host.divf (Host.exp (subf L (broadcastInDim S4x4x256x256 ![0, 1, 2, 3] bcast_S4x4x256x1_S4x4x256x256_0_1_2_3 (broadcastInDim S4x4x256x1 ![0, 1, 2] bcast_S4x4x256_S4x4x256x1_0_1_2 (maximumf (broadcastInDim S4x4x256 ![] bcast_S_S4x4x256 (constant (F := Ideal) S_ .f32 0xFF800000#32)) (Host.reduce FloatOps.maximumf L (constant (F := Ideal) S_ .f32 0xFF800000#32) reducesTo_S4x4x256x256_S4x4x256_d3 h_S_)))))) (broadcastInDim S4x4x256x256 ![0, 1, 2, 3] bcast_S4x4x256x1_S4x4x256x256_0_1_2_3 (broadcastInDim S4x4x256x1 ![0, 1, 2] bcast_S4x4x256_S4x4x256x1_0_1_2 (Host.reduceAdd (Host.exp (subf L (broadcastInDim S4x4x256x256 ![0, 1, 2, 3] bcast_S4x4x256x1_S4x4x256x256_0_1_2_3 (broadcastInDim S4x4x256x1 ![0, 1, 2] bcast_S4x4x256_S4x4x256x1_0_1_2 (maximumf (broadcastInDim S4x4x256 ![] bcast_S_S4x4x256 (constant (F := Ideal) S_ .f32 0xFF800000#32)) (Host.reduce FloatOps.maximumf L (constant (F := Ideal) S_ .f32 0xFF800000#32) reducesTo_S4x4x256x256_S4x4x256_d3 h_S_)))))) (constant (F := Ideal) S_ .f32 0x00000000#32) reducesTo_S4x4x256x256_S4x4x256_d3 h_S_)))

/-- The weighted values, head beside head. -/
def HEADS (P : FVec Ideal S4x4x256x256 .f32) (A2 : FVec Ideal S4x4x256x128 .bf16) : FVec Ideal S4x256x512 .bf16 :=
  truncf .bf16 (shapeCast S4x256x512 (transpose S4x256x4x128 [0, 2, 1, 3] (Host.dotGeneral dot_S4x4x256x256_S4x4x256x128_S4x4x256x128_3_2_2_3_01_01 none P (extf .f32 A2 bitsLt_bf16_f32)) transposes_S4x4x256x128_S4x256x4x128_0_2_1_3) shapeCasts_S4x256x4x128_S4x256x512) bitsLt_bf16_f32

/-- The result of the reference, over its arguments. -/
abbrev REF (A0 : FVec Ideal S4x4x256x256 .bf16) (A1 : FVec Ideal S4x4x256x256 .bf16) (A2 : FVec Ideal S4x4x256x128 .bf16) : FVec Ideal S4x256x512 .bf16 :=
  HEADS (PROBS (LOGITS A0 A1)) A2

theorem logit_at (A0 A1) (b h : Fin 4) (n k : Fin 256) : LOGITS A0 A1 (ix4 b h n k)
    = (∑ d : Fin 256, A0 (ix4 b h n d) * A1 (ix4 b h k d)) * Ideal.log (Ideal.ofBits .f32 0x40000000#32) := by
  pointwise [LOGITS]

/-- The row maxima. -/
theorem rowmax (L : FVec Ideal S4x4x256x256 .f32) (h : S4x4x256x256.ReducesTo [3] S4x4x256) (hu) :
    Host.reduce FloatOps.maximumf L (constant (F := Ideal) S_ .f32 0xFF800000#32) h hu
      = fun i => TOP fun k : Fin 256 => L (ix4 (i 0) (i 1) (i 2) k) := by
  funext j
  rw [← top_eq, ← neg_inf]
  simp only [pointwise]

theorem prob_at (L) (b h : Fin 4) (n : Fin 256) (x : Fin 256) : PROBS L (ix4 b h n x)
    = Ideal.div (Ideal.exp (L (ix4 b h n x) - TOP fun y : Fin 256 => L (ix4 b h n y)))
        (∑ z : Fin 256, Ideal.exp (L (ix4 b h n z) - TOP fun y : Fin 256 => L (ix4 b h n y))) := by
  unfold PROBS
  rw [rowmax]
  pointwise []
  simp only [neg_inf, max_bot_left]

theorem heads_at (P A2) (j) : HEADS P A2 j
    = ∑ k : Fin 256, P (ix4 (j 0) ⟨(j 2).val / 128, by have := (j 2).isLt; simp at this; omega⟩ (j 1) k)
          * A2 (ix4 (j 0) ⟨(j 2).val / 128, by have := (j 2).isLt; simp at this; omega⟩ k ⟨(j 2).val % 128, by omega⟩) := by
  pointwise [HEADS]

end Cert.AttnCtxReferenceIdeal.Tile

namespace Cert.AttnCtxIdeal.Tile

open Cert.AttnCtxIdeal Cert.AttnCtxIdeal.Gen Cert.AttnCtxReferenceIdeal.Tile Cert.Softmax

/-- What the kernel computes of a row with logits `s` and values `u`. -/
def OUT (s u : Fin 256 → EReal) : EReal :=
  Ideal.div (∑ k, Ideal.exp2 (s k - TOP s) * u k) (∑ k, Ideal.exp2 (s k - TOP s))

/-- The tile of logits. -/
def LG (q k : FVec Ideal S1x1x256x256 .bf16) : FVec Ideal S256x256 .f32 :=
  matmul dot_S256x256_S256x256_S256x256_1_1_0_0_n_n none (shapeCast S256x256 q shapeCasts_S1x1x256x256_S256x256)
    (shapeCast S256x256 k shapeCasts_S1x1x256x256_S256x256) (constant (F := Ideal) S256x256 .f32 0x00000000#32)

/-- The row maxima of the tile. -/
def TOPS (L : FVec Ideal S256x256 .f32) : FVec Ideal S256x1 .f32 :=
  maximumf (broadcast S256x1 (Scalar.ofBits (F := Ideal) .f32 0xFF800000#32))
    (shapeCast S256x1 (multiReduction .maximumf [1] S256 L 0xFF800000#32 reduces_S256x256_S256 (.inl rfl) rfl) shapeCasts_S256_S256x1)

/-- The rest of the payload, over the logits and their maxima. -/
def REST (L : FVec Ideal S256x256 .f32) (M : FVec Ideal S256x1 .f32) (v : FVec Ideal S1x1x256x128 .bf16) : FVec Ideal S1x256x128 .bf16 :=
  shapeCast S1x256x128 (truncf .bf16 (divf
    (addf (mulf (broadcastTo S256x128 (exp2 (subf (broadcast S256x1 (Scalar.ofBits (F := Ideal) .f32 0xFF800000#32)) M)) broadcasts_S256x1_S256x128)
        (broadcast S256x128 (Scalar.ofBits (F := Ideal) .f32 0x00000000#32)))
      (matmul dot_S256x256_S256x128_S256x128_1_0_0_1_n_n none
        (truncf .bf16 (exp2 (subf L (broadcastTo S256x256 M broadcasts_S256x1_S256x256))) bitsLt_bf16_f32)
        (shapeCast S256x128 v shapeCasts_S1x1x256x128_S256x128) (constant (F := Ideal) S256x128 .f32 0x00000000#32)))
    (broadcastTo S256x128
      (addf (mulf (exp2 (subf (broadcast S256x1 (Scalar.ofBits (F := Ideal) .f32 0xFF800000#32)) M))
          (broadcast S256x1 (Scalar.ofBits (F := Ideal) .f32 0x00000000#32)))
        (shapeCast S256x1 (multiReduction .add [1] S256 (exp2 (subf L (broadcastTo S256x256 M broadcasts_S256x1_S256x256))) 0x00000000#32
          reduces_S256x256_S256 (.inl rfl) rfl) shapeCasts_S256_S256x1)) broadcasts_S256x1_S256x128)) bitsLt_bf16_f32)
    shapeCasts_S256x128_S1x256x128

theorem pay_eq (q k v) : k0_pay1 (F := Ideal) q k v = REST (LG q k) (TOPS (LG q k)) v := rfl

theorem lg_at (q k j) : LG q k j = ∑ d : Fin 256, q (ix4 0 0 (j 0) d) * k (ix4 0 0 (j 1) d) := by
  pointwise [LG]

theorem rowmax_tile (v : FVec Ideal S256x256 .f32) (h : S256x256.Reduces [1] S256) (hφ hacc) :
    multiReduction .maximumf [1] S256 v 0xFF800000#32 h hφ hacc = fun i => TOP fun k : Fin 256 => v (ix2 (i 0) k) := by
  funext j
  rw [← top_eq, ← neg_inf]
  simp only [pointwise]

theorem tops_at (L j) : TOPS L j = TOP fun k : Fin 256 => L (ix2 (j 0) k) := by
  unfold TOPS
  rw [show multiReduction .maximumf [1] S256 L 0xFF800000#32 reduces_S256x256_S256 (.inl rfl) rfl = _ from rowmax_tile _ _ _ _]
  pointwise []
  rw [neg_inf]
  exact max_eq_right bot_le

theorem rest_at (L M v j) : REST L M v j
    = Ideal.div (∑ k : Fin 256, Ideal.exp2 (L (ix2 (j 1) k) - M (ix2 (j 1) 0)) * v (ix4 0 0 k (j 2)))
        (∑ k : Fin 256, Ideal.exp2 (L (ix2 (j 1) k) - M (ix2 (j 1) 0))) := by
  pointwise [REST]
  simp only [mul_zero, zero_add]
  try rfl

/-- The tile a point stores, element by element. -/
theorem tile_at (q k v j) : k0_pay1 (F := Ideal) q k v j
    = OUT (fun x => ∑ d : Fin 256, q (ix4 0 0 (j 1) d) * k (ix4 0 0 x d)) (fun x => v (ix4 0 0 x (j 2))) := by
  rw [pay_eq, rest_at]
  simp only [tops_at, lg_at]
  rfl

/-- Every element is a real number. -/
def REAL {ι : Type} (X : ι → EReal) : Prop := ∀ i, ∃ r : ℝ, X i = r

/-- A product of two rows of reals is a real. -/
theorem dot_real {n : ℕ} (f g : Fin n → EReal) (hf : ∀ k, ∃ r : ℝ, f k = r) (hg : ∀ k, ∃ r : ℝ, g k = r) :
    ∃ r : ℝ, ∑ k, f k * g k = r := by
  choose a ha using hf
  choose b hb using hg
  refine ⟨∑ k, a k * b k, ?_⟩
  rw [← coe_sum]
  exact Finset.sum_congr rfl fun k _ => by rw [ha, hb, EReal.coe_mul]

/-- The kernel's row is the softmax of the logits, against the values. -/
theorem row_eq (s u : Fin 256 → EReal) (hs : ∀ k, ∃ r : ℝ, s k = r) (L : Fin 256 → EReal) (h : ∀ k, L k = s k * (Real.log 2 : ℝ)) :
    ∑ k, Ideal.div (Ideal.exp (L k - TOP L)) (∑ z, Ideal.exp (L z - TOP L)) * u k = OUT s u := by
  obtain ⟨m, e⟩ := top_real s hs
  choose a ha using hs
  obtain ⟨M, eM⟩ : ∃ M : ℝ, TOP L = M := top_real L fun k => ⟨a k * Real.log 2, by rw [EReal.coe_mul, ← ha]; exact h k⟩
  have one : Ideal.exp2 ((m : EReal) - m) = 1 := by
    rw [← EReal.coe_sub, exp2_coe, sub_self, Real.rpow_zero, EReal.coe_one]
  have key := softmax_eq a (fun k : Fin 0 => k.elim0) u (fun k : Fin 0 => k.elim0) m m M
  simp only [Finset.univ_eq_empty, Finset.sum_empty, add_zero, one, one_mul] at key
  unfold OUT
  rw [e, eM]
  simp only [h, ha]
  exact key.symm

/-- The reference's result, element by element, in the kernel's form. -/
theorem ref_at (A0 A1 A2) (hq : REAL A0) (hk : REAL A1) (j) (hd : Fin 4) (d : Fin 128) (ehd : hd.val = (j 2).val / 128)
    (ed : d.val = (j 2).val % 128) :
    REF A0 A1 A2 j = OUT (fun k => ∑ e : Fin 256, A0 (ix4 (j 0) hd (j 1) e) * A1 (ix4 (j 0) hd k e)) (fun k => A2 (ix4 (j 0) hd k d)) := by
  have e₁ : ∀ h, (⟨(j 2).val / 128, h⟩ : Fin 4) = hd := fun _ => Fin.ext ehd.symm
  have e₂ : ∀ h, (⟨(j 2).val % 128, h⟩ : Fin 128) = d := fun _ => Fin.ext ed.symm
  have key := row_eq (fun k => ∑ e : Fin 256, A0 (ix4 (j 0) hd (j 1) e) * A1 (ix4 (j 0) hd k e)) (fun k => A2 (ix4 (j 0) hd k d))
    (fun k => dot_real (fun e => A0 (ix4 (j 0) hd (j 1) e)) (fun e => A1 (ix4 (j 0) hd k e)) (fun e => hq _) (fun e => hk _))
    (fun x => LOGITS A0 A1 (ix4 (j 0) hd (j 1) x)) (fun k => by rw [← log_two]; exact logit_at A0 A1 _ _ _ k)
  rw [← key, REF, heads_at]
  clear key
  generalize LOGITS A0 A1 = L
  simp only [e₁, e₂]
  exact Finset.sum_congr rfl fun k _ => by rw [prob_at L (j 0) hd (j 1)]

variable (m : (ℓ : Loc nD τ sig) → Buf (Elt Ideal) ℓ)

theorem idx : ∀ t : Fin cfg0.N, win0_0.index t = ![t.val / 4, t.val % 4, 0, 0] ∧ win0_1.index t = ![t.val / 4, t.val % 4, 0, 0]
    ∧ win0_2.index t = ![t.val / 4, t.val % 4, 0, 0] ∧ win0_3.index t = ![t.val / 4, 0, t.val % 4] :=
  (by decide +kernel : ∀ t : Fin grid0.N, _)

theorem out_congr {s s₂ u u₂ : Fin 256 → EReal} (h₁ : ∀ k, s k = s₂ k) (h₂ : ∀ k, u k = u₂ k) : OUT s u = OUT s₂ u₂ := by
  rw [funext h₁, funext h₂]

/-- The result array after the run is the reference's. -/
theorem final (c : Dev nD) (hq : @REAL S4x4x256x256.Idx (m ((c : Thread nD τ).loc main_arg0)))
    (hk : @REAL S4x4x256x256.Idx (m ((c : Thread nD τ).loc main_arg1))) :
    (dats m 0 c).arrAt 3 (cfgs 0).N
      = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have ht : t.val < 16 := t.isLt
  have hy : (y 2).val < 128 := (y 2).isLt
  rw [after0_3, ref_at _ _ _ hq hk _ ⟨t.val % 4, by omega⟩ (y 2) (by blk_simp [idx t]; simp only; omega)
    (by blk_simp [idx t]; omega)]
  frame_out
  refine (tile_at _ _ _ y).trans (out_congr (fun k => ?_) (fun k => ?_)) <;>
    blk_point [iblk, V, idx t]

end Cert.AttnCtxIdeal.Tile

end
-- ==== Proof.S5OutValue.lean ====
/- The readout of the S5 mixer: a GELU of the scan plus its skip, times the sigmoid of a product with it. -/
module

public import proofs.«01_k».proof.Proof.Gen.S5OutIdeal.Frame
public import proofs.«01_k».proof.Proof.Gen.S5OutReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.S5OutReferenceIdeal.Tile

open Cert.S5OutReferenceIdeal Cert.S5OutReferenceIdeal.Gen

/-- GELU by the hyperbolic tangent. -/
def GELU (x : EReal) : EReal :=
  x * (Ideal.ofBits .f32 0x3F000000#32 * (1 + Ideal.tanh (Ideal.ofBits .f32 0x3F4C422A#32 * (x + Ideal.ofBits .f32 0x3D372713#32 * (x * (x * x))))))

/-- One entry of the readout: the row `p`, the column `w` of the weights, its bias, and the entry's place in the row. -/
def OUT (p w : Fin 512 → EReal) (b : EReal) (j : Fin 512) : EReal :=
  GELU (p j) * Ideal.logistic (∑ k, GELU (p k) * w k + b)

/-- The scan's output plus its skip. -/
def PRE (A0 : FVec Ideal S4x4096x512 .bf16) (A1 : FVec Ideal S4x4096x5632 .bf16) (A2 : FVec Ideal S512 .f32) : FVec Ideal S4x4096x512 .f32 :=
  addf (extf .f32 A0 bitsLt_bf16_f32) (mulf (broadcastInDim S4x4096x512 ![0, 1, 2] bcast_S1x1x512_S4x4096x512_0_1_2 (broadcastInDim S1x1x512 ![2] bcast_S512_S1x1x512_2 A2)) (extf .f32 (extractStridedSlice S4x4096x512 ![0, 0, 0] A1 slices_S4x4096x5632_S4x4096x512_0_0_0) bitsLt_bf16_f32))

/-- Its GELU. -/
def ACT (X : FVec Ideal S4x4096x512 .f32) : FVec Ideal S4x4096x512 .f32 :=
  mulf X (mulf (broadcastInDim S4x4096x512 ![] bcast_S_S4x4096x512 (constant (F := Ideal) S_ .f32 0x3F000000#32)) (addf (broadcastInDim S4x4096x512 ![] bcast_S_S4x4096x512 (constant (F := Ideal) S_ .f32 0x3F800000#32)) (Host.tanh (mulf (broadcastInDim S4x4096x512 ![] bcast_S_S4x4096x512 (constant (F := Ideal) S_ .f32 0x3F4C422A#32)) (addf X (mulf (broadcastInDim S4x4096x512 ![] bcast_S_S4x4096x512 (constant (F := Ideal) S_ .f32 0x3D372713#32)) (mulf (mulf X X) X)))))))

/-- The gate and the product. -/
def GLU (Y : FVec Ideal S4x4096x512 .f32) (A3 : FVec Ideal S512x512 .f32) (A4 : FVec Ideal S512 .f32) : FVec Ideal S4x4096x512 .bf16 :=
  truncf .bf16 (mulf Y (Host.divf (broadcastInDim S4x4096x512 ![] bcast_S_S4x4096x512 (constant (F := Ideal) S_ .f32 0x3F800000#32)) (addf (broadcastInDim S4x4096x512 ![] bcast_S_S4x4096x512 (constant (F := Ideal) S_ .f32 0x3F800000#32)) (Host.exp (Host.negf (addf (Host.dotGeneral dot_S4x4096x512_S512x512_S4x4096x512_2_0_01_1_n_n none Y A3) (broadcastInDim S4x4096x512 ![0, 1, 2] bcast_S1x1x512_S4x4096x512_0_1_2 (broadcastInDim S1x1x512 ![2] bcast_S512_S1x1x512_2 A4)))))))) bitsLt_bf16_f32

/-- The reference's result over its arguments. -/
abbrev REF (A0 : FVec Ideal S4x4096x512 .bf16) (A1 : FVec Ideal S4x4096x5632 .bf16) (A2 : FVec Ideal S512 .f32) (A3 : FVec Ideal S512x512 .f32) (A4 : FVec Ideal S512 .f32) : FVec Ideal S4x4096x512 .bf16 :=
  GLU (ACT (PRE A0 A1 A2)) A3 A4

theorem pre_at (A0 A1 A2) (b : Fin 4) (n : Fin 4096) (k : Fin 512) : PRE A0 A1 A2 (ix3 b n k)
    = A0 (ix3 b n k) + A2 (ix1 k) * A1 (ix3 b n ⟨k.val, by omega⟩) := by
  pointwise [PRE]

theorem act_at (X j) : ACT X j = GELU (X j) := by
  unfold GELU
  rw [← mul_assoc (X j) (X j) (X j)]
  pointwise [ACT]

theorem glu_at (Y A3 A4) (b : Fin 4) (n : Fin 4096) (j : Fin 512) : GLU Y A3 A4 (ix3 b n j)
    = Y (ix3 b n j) * Ideal.logistic (∑ k : Fin 512, Y (ix3 b n k) * A3 (ix2 k j) + A4 (ix1 j)) := by
  pointwise [GLU]
  try rfl

/-- The reference's result, element by element. -/
theorem ref_at (A0 A1 A2 A3 A4) (i : S4x4096x512.Idx) (b : Fin 4) (n : Fin 4096) (j : Fin 512) (h0 : (i 0).val = b.val) (h1 : (i 1).val = n.val)
    (h2 : (i 2).val = j.val) : REF A0 A1 A2 A3 A4 i
      = OUT (fun k => A0 (ix3 b n k) + A2 (ix1 k) * A1 (ix3 b n ⟨k.val, by omega⟩)) (fun k => A3 (ix2 k j)) (A4 (ix1 j)) j := by
  have e : i = ix3 b n j := by
    funext a
    fin_cases a
    · exact Fin.ext h0
    · exact Fin.ext h1
    · exact Fin.ext h2
  rw [e, REF, glu_at]
  simp only [act_at, pre_at]
  rfl

end Cert.S5OutReferenceIdeal.Tile

namespace Cert.S5OutIdeal.Tile

open Cert.S5OutIdeal Cert.S5OutIdeal.Gen Cert.S5OutReferenceIdeal.Tile

variable (m : (ℓ : Loc nD τ sig) → Buf (Elt Ideal) ℓ)

theorem idx : ∀ t : Fin cfg0.N, win0_0.index t = ![t.val / 4, t.val % 4, 0] ∧ win0_1.index t = ![t.val / 4, t.val % 4, 0]
    ∧ win0_2.index t = ![0, 0] ∧ win0_3.index t = ![0, 0] ∧ win0_4.index t = ![0, 0] ∧ win0_5.index t = ![t.val / 4, t.val % 4, 0] :=
  (by decide +kernel : ∀ t : Fin grid0.N, _)

/-- The tile a point stores, element by element. -/
theorem tile_at (y : FVec Ideal S1x1024x512 .bf16) (d : FVec Ideal S1x512 .f32) (u : FVec Ideal S1x1024x512 .bf16) (w : FVec Ideal S512x512 .bf16)
    (b : FVec Ideal S1x512 .f32) (j) : k0_pay1 (F := Ideal) y d u w b j
      = OUT (fun k => y (ix3 0 (j 1) k) + d (ix2 0 k) * u (ix3 0 (j 1) k)) (fun k => w (ix2 k (j 2))) (b (ix2 0 (j 2))) (j 2) := by
  have e : (ix3 (0 : Fin 1) (j 1) (j 2) : S1x1024x512.Idx) = j := by
    funext a
    fin_cases a
    · exact Subsingleton.elim (α := Fin 1) _ _
    · rfl
    · rfl
  unfold OUT GELU
  pointwise [k0_pay1]
  rw [e]

theorem out_congr {p p₂ w w₂ : Fin 512 → EReal} {b b₂ : EReal} (h₁ : ∀ k, p k = p₂ k) (h₂ : ∀ k, w k = w₂ k) (h₃ : b = b₂) (j : Fin 512) :
    OUT p w b j = OUT p₂ w₂ b₂ j := by
  rw [funext h₁, funext h₂, h₃]

/-- The result array after the run is the reference's. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  have ht : t.val < 16 := t.isLt
  have h1 : (y 1).val < 1024 := (y 1).isLt
  rw [after0_5, ref_at _ _ _ _ _ _ ⟨t.val / 4, by omega⟩ ⟨t.val % 4 * 1024 + (y 1).val, by omega⟩ (y 2) (by blk_simp [idx t]; try omega)
    (by blk_simp [idx t]; try omega) (by blk_simp [idx t]; try omega)]
  frame_out
  refine (tile_at _ _ _ _ _ y).trans (out_congr (fun k => ?_) (fun k => ?_) ?_ _) <;>
    blk_point [iblk, V, idx t]

end Cert.S5OutIdeal.Tile

end
-- ==== Proof.S5OutCtxValue.lean ====
/- The readout of the S5 mixer: a GELU of the scan plus its skip, times the sigmoid of a product with it. -/
module

public import proofs.«01_k».proof.Proof.Gen.S5OutCtxIdeal.Frame
public import proofs.«01_k».proof.Proof.Gen.S5OutCtxReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.S5OutCtxReferenceIdeal.Tile

open Cert.S5OutCtxReferenceIdeal Cert.S5OutCtxReferenceIdeal.Gen

/-- GELU by the hyperbolic tangent. -/
def GELU (x : EReal) : EReal :=
  x * (Ideal.ofBits .f32 0x3F000000#32 * (1 + Ideal.tanh (Ideal.ofBits .f32 0x3F4C422A#32 * (x + Ideal.ofBits .f32 0x3D372713#32 * (x * (x * x))))))

/-- One entry of the readout: the row `p`, the column `w` of the weights, its bias, and the entry's place in the row. -/
def OUT (p w : Fin 512 → EReal) (b : EReal) (j : Fin 512) : EReal :=
  GELU (p j) * Ideal.logistic (∑ k, GELU (p k) * w k + b)

/-- The scan's output plus its skip. -/
def PRE (A0 : FVec Ideal S4x256x512 .bf16) (A1 : FVec Ideal S4x256x5632 .bf16) (A2 : FVec Ideal S512 .f32) : FVec Ideal S4x256x512 .f32 :=
  addf (extf .f32 A0 bitsLt_bf16_f32) (mulf (broadcastInDim S4x256x512 ![0, 1, 2] bcast_S1x1x512_S4x256x512_0_1_2 (broadcastInDim S1x1x512 ![2] bcast_S512_S1x1x512_2 A2)) (extf .f32 (extractStridedSlice S4x256x512 ![0, 0, 0] A1 slices_S4x256x5632_S4x256x512_0_0_0) bitsLt_bf16_f32))

/-- Its GELU. -/
def ACT (X : FVec Ideal S4x256x512 .f32) : FVec Ideal S4x256x512 .f32 :=
  mulf X (mulf (broadcastInDim S4x256x512 ![] bcast_S_S4x256x512 (constant (F := Ideal) S_ .f32 0x3F000000#32)) (addf (broadcastInDim S4x256x512 ![] bcast_S_S4x256x512 (constant (F := Ideal) S_ .f32 0x3F800000#32)) (Host.tanh (mulf (broadcastInDim S4x256x512 ![] bcast_S_S4x256x512 (constant (F := Ideal) S_ .f32 0x3F4C422A#32)) (addf X (mulf (broadcastInDim S4x256x512 ![] bcast_S_S4x256x512 (constant (F := Ideal) S_ .f32 0x3D372713#32)) (mulf (mulf X X) X)))))))

/-- The gate and the product. -/
def GLU (Y : FVec Ideal S4x256x512 .f32) (A3 : FVec Ideal S512x512 .f32) (A4 : FVec Ideal S512 .f32) : FVec Ideal S4x256x512 .bf16 :=
  truncf .bf16 (mulf Y (Host.divf (broadcastInDim S4x256x512 ![] bcast_S_S4x256x512 (constant (F := Ideal) S_ .f32 0x3F800000#32)) (addf (broadcastInDim S4x256x512 ![] bcast_S_S4x256x512 (constant (F := Ideal) S_ .f32 0x3F800000#32)) (Host.exp (Host.negf (addf (Host.dotGeneral dot_S4x256x512_S512x512_S4x256x512_2_0_01_1_n_n none Y A3) (broadcastInDim S4x256x512 ![0, 1, 2] bcast_S1x1x512_S4x256x512_0_1_2 (broadcastInDim S1x1x512 ![2] bcast_S512_S1x1x512_2 A4)))))))) bitsLt_bf16_f32

/-- The reference's result over its arguments. -/
abbrev REF (A0 : FVec Ideal S4x256x512 .bf16) (A1 : FVec Ideal S4x256x5632 .bf16) (A2 : FVec Ideal S512 .f32) (A3 : FVec Ideal S512x512 .f32) (A4 : FVec Ideal S512 .f32) : FVec Ideal S4x256x512 .bf16 :=
  GLU (ACT (PRE A0 A1 A2)) A3 A4

theorem pre_at (A0 A1 A2) (b : Fin 4) (n : Fin 256) (k : Fin 512) : PRE A0 A1 A2 (ix3 b n k)
    = A0 (ix3 b n k) + A2 (ix1 k) * A1 (ix3 b n ⟨k.val, by omega⟩) := by
  pointwise [PRE]

theorem act_at (X j) : ACT X j = GELU (X j) := by
  unfold GELU
  rw [← mul_assoc (X j) (X j) (X j)]
  pointwise [ACT]

theorem glu_at (Y A3 A4) (b : Fin 4) (n : Fin 256) (j : Fin 512) : GLU Y A3 A4 (ix3 b n j)
    = Y (ix3 b n j) * Ideal.logistic (∑ k : Fin 512, Y (ix3 b n k) * A3 (ix2 k j) + A4 (ix1 j)) := by
  pointwise [GLU]
  try rfl

/-- The reference's result, element by element. -/
theorem ref_at (A0 A1 A2 A3 A4) (i : S4x256x512.Idx) (b : Fin 4) (n : Fin 256) (j : Fin 512) (h0 : (i 0).val = b.val) (h1 : (i 1).val = n.val)
    (h2 : (i 2).val = j.val) : REF A0 A1 A2 A3 A4 i
      = OUT (fun k => A0 (ix3 b n k) + A2 (ix1 k) * A1 (ix3 b n ⟨k.val, by omega⟩)) (fun k => A3 (ix2 k j)) (A4 (ix1 j)) j := by
  have e : i = ix3 b n j := by
    funext a
    fin_cases a
    · exact Fin.ext h0
    · exact Fin.ext h1
    · exact Fin.ext h2
  rw [e, REF, glu_at]
  simp only [act_at, pre_at]
  rfl

end Cert.S5OutCtxReferenceIdeal.Tile

namespace Cert.S5OutCtxIdeal.Tile

open Cert.S5OutCtxIdeal Cert.S5OutCtxIdeal.Gen Cert.S5OutCtxReferenceIdeal.Tile

variable (m : (ℓ : Loc nD τ sig) → Buf (Elt Ideal) ℓ)

theorem idx : ∀ t : Fin cfg0.N, win0_0.index t = ![t.val, 0, 0] ∧ win0_1.index t = ![t.val, 0, 0]
    ∧ win0_2.index t = ![0, 0] ∧ win0_3.index t = ![0, 0] ∧ win0_4.index t = ![0, 0] ∧ win0_5.index t = ![t.val, 0, 0] :=
  (by decide +kernel : ∀ t : Fin grid0.N, _)

/-- The tile a point stores, element by element. -/
theorem tile_at (y : FVec Ideal S1x256x512 .bf16) (d : FVec Ideal S1x512 .f32) (u : FVec Ideal S1x256x512 .bf16) (w : FVec Ideal S512x512 .bf16)
    (b : FVec Ideal S1x512 .f32) (j) : k0_pay1 (F := Ideal) y d u w b j
      = OUT (fun k => y (ix3 0 (j 1) k) + d (ix2 0 k) * u (ix3 0 (j 1) k)) (fun k => w (ix2 k (j 2))) (b (ix2 0 (j 2))) (j 2) := by
  have e : (ix3 (0 : Fin 1) (j 1) (j 2) : S1x256x512.Idx) = j := by
    funext a
    fin_cases a
    · exact Subsingleton.elim (α := Fin 1) _ _
    · rfl
    · rfl
  unfold OUT GELU
  pointwise [k0_pay1]
  rw [e]

theorem out_congr {p p₂ w w₂ : Fin 512 → EReal} {b b₂ : EReal} (h₁ : ∀ k, p k = p₂ k) (h₂ : ∀ k, w k = w₂ k) (h₃ : b = b₂) (j : Fin 512) :
    OUT p w b j = OUT p₂ w₂ b₂ j := by
  rw [funext h₁, funext h₂, h₃]

/-- The result array after the run is the reference's. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  have ht : t.val < 4 := t.isLt
  have h1 : (y 1).val < 256 := (y 1).isLt
  rw [after0_5, ref_at _ _ _ _ _ _ ⟨t.val, by omega⟩ ⟨(y 1).val, by omega⟩ (y 2) (by blk_simp [idx t]; try omega)
    (by blk_simp [idx t]; try omega) (by blk_simp [idx t]; try omega)]
  frame_out
  refine (tile_at _ _ _ _ _ y).trans (out_congr (fun k => ?_) (fun k => ?_) ?_ _) <;>
    blk_point [iblk, V, idx t]

end Cert.S5OutCtxIdeal.Tile

end
-- ==== Proof.HgOutValue.lean ====
/- The readout of the HGRN2 mixer: the two directions' sum, normalised head by head, times the SiLU of a gate. -/
module

public import proofs.«01_k».proof.Proof.Gen.HgOutIdeal.Frame
public import proofs.«01_k».proof.Proof.Gen.HgOutReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.HgOutReferenceIdeal.Tile

open Cert.HgOutReferenceIdeal Cert.HgOutReferenceIdeal.Gen

/-- One entry of the readout of a head: its row `o`, the row `g` of its gate, the weights `w` of the norm. -/
def OUT (o g w : Fin 128 → EReal) (d : Fin 128) : EReal :=
  o d * Ideal.rsqrt (Ideal.div (∑ k, o k * o k) (Ideal.ofBits .f32 0x43000000#32) + Ideal.ofBits .f32 0x358637BD#32) * w d * (g d * Ideal.logistic (g d))

/-- The sum of the two directions, split into heads. -/
def SUM (A0 A1 : FVec Ideal S4x4096x512 .bf16) : FVec Ideal S4x4096x4x128 .f32 :=
  addf (shapeCast _ (extf .f32 A0 bitsLt_bf16_f32) shapeCasts_S4x4096x512_S4x4096x4x128) (shapeCast _ (extf .f32 A1 bitsLt_bf16_f32) shapeCasts_S4x4096x512_S4x4096x4x128)

/-- The gate's columns of the projection, split into heads. -/
def GATE (A2 : FVec Ideal S4x4096x5632 .bf16) : FVec Ideal S4x4096x4x128 .f32 :=
  shapeCast _ (extf .f32 (extractStridedSlice S4x4096x512 ![0, 0, 3072] A2 slices_S4x4096x5632_S4x4096x512_0_0_3072) bitsLt_bf16_f32) shapeCasts_S4x4096x512_S4x4096x4x128

/-- The gated norm of the heads. -/
def NORM (S G : FVec Ideal S4x4096x4x128 .f32) (A3 : FVec Ideal S128 .f32) : FVec Ideal S4x4096x4x128 .f32 :=
  mulf (mulf (mulf S (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf S S) (constant (F := Ideal) S_ .f32 0x00000000#32) reducesTo_S4x4096x4x128_S4x4096x4_d3 h_S_)) (broadcastInDim S4x4096x4x1 ![] bcast_S_S4x4096x4x1 (constant (F := Ideal) S_ .f32 0x43000000#32))) (broadcastInDim S4x4096x4x1 ![] bcast_S_S4x4096x4x1 (constant (F := Ideal) S_ .f32 0x358637BD#32)))))) (broadcastInDim S4x4096x4x128 ![0, 1, 2, 3] bcast_S1x1x1x128_S4x4096x4x128_0_1_2_3 (broadcastInDim S1x1x1x128 ![3] bcast_S128_S1x1x1x128_3 A3))) (mulf G (Host.divf (broadcastInDim S4x4096x4x128 ![] bcast_S_S4x4096x4x128 (constant (F := Ideal) S_ .f32 0x3F800000#32)) (addf (broadcastInDim S4x4096x4x128 ![] bcast_S_S4x4096x4x128 (constant (F := Ideal) S_ .f32 0x3F800000#32)) (Host.exp (Host.negf G)))))

/-- The heads beside each other again. -/
def FLAT (Y : FVec Ideal S4x4096x4x128 .f32) : FVec Ideal S4x4096x512 .bf16 :=
  truncf .bf16 (shapeCast _ Y shapeCasts_S4x4096x4x128_S4x4096x512) bitsLt_bf16_f32

/-- The reference's result over its arguments. -/
abbrev REF (A0 A1 : FVec Ideal S4x4096x512 .bf16) (A2 : FVec Ideal S4x4096x5632 .bf16) (A3 : FVec Ideal S128 .f32) : FVec Ideal S4x4096x512 .bf16 :=
  FLAT (NORM (SUM A0 A1) (GATE A2) A3)

theorem sum_at (A0 A1) (b : Fin 4) (n : Fin 4096) (h : Fin 4) (d : Fin 128) : SUM A0 A1 (ix4 b n h d)
    = A0 (ix3 b n ⟨h.val * 128 + d.val, by omega⟩) + A1 (ix3 b n ⟨h.val * 128 + d.val, by omega⟩) := by
  pointwise [SUM]

theorem gate_at (A2) (b : Fin 4) (n : Fin 4096) (h : Fin 4) (d : Fin 128) : GATE A2 (ix4 b n h d)
    = A2 (ix3 b n ⟨3072 + (h.val * 128 + d.val), by omega⟩) := by
  pointwise [GATE]

theorem norm_at (S G A3) (b : Fin 4) (n : Fin 4096) (h : Fin 4) (d : Fin 128) : NORM S G A3 (ix4 b n h d)
    = OUT (fun k => S (ix4 b n h k)) (fun k => G (ix4 b n h k)) (fun k => A3 (ix1 k)) d := by
  unfold OUT
  pointwise [NORM]
  try rfl

theorem flat_at (Y) (b : Fin 4) (n : Fin 4096) (j : Fin 512) : FLAT Y (ix3 b n j)
    = Y (ix4 b n ⟨j.val / 128, by omega⟩ ⟨j.val % 128, by omega⟩) := by
  pointwise [FLAT]

/-- The reference's result, element by element. -/
theorem ref_at (A0 A1 A2 A3) (i : S4x4096x512.Idx) (b : Fin 4) (n : Fin 4096) (h : Fin 4) (d : Fin 128) (h0 : (i 0).val = b.val) (h1 : (i 1).val = n.val)
    (h2 : (i 2).val = h.val * 128 + d.val) : REF A0 A1 A2 A3 i
      = OUT (fun k => A0 (ix3 b n ⟨h.val * 128 + k.val, by omega⟩) + A1 (ix3 b n ⟨h.val * 128 + k.val, by omega⟩))
          (fun k => A2 (ix3 b n ⟨3072 + (h.val * 128 + k.val), by omega⟩)) (fun k => A3 (ix1 k)) d := by
  have e : i = ix3 b n ⟨h.val * 128 + d.val, by omega⟩ := by
    funext a
    fin_cases a
    · exact Fin.ext h0
    · exact Fin.ext h1
    · exact Fin.ext h2
  have e₁ : ∀ p, (⟨(h.val * 128 + d.val) / 128, p⟩ : Fin 4) = h := fun _ => Fin.ext (by simp only; omega)
  have e₂ : ∀ p, (⟨(h.val * 128 + d.val) % 128, p⟩ : Fin 128) = d := fun _ => Fin.ext (by simp only; omega)
  rw [e, REF, flat_at]
  simp only [e₁, e₂]
  rw [norm_at]
  simp only [sum_at, gate_at]

end Cert.HgOutReferenceIdeal.Tile

namespace Cert.HgOutIdeal.Tile

open Cert.HgOutIdeal Cert.HgOutIdeal.Gen Cert.HgOutReferenceIdeal.Tile

variable (m : (ℓ : Loc nD τ sig) → Buf (Elt Ideal) ℓ)

theorem idx : ∀ t : Fin cfg0.N, win0_0.index t = ![t.val / 4, t.val % 4, 0] ∧ win0_1.index t = ![t.val / 4, t.val % 4, 0] ∧ win0_2.index t = ![t.val / 4, t.val % 4, 6]
    ∧ win0_3.index t = ![0, 0] ∧ win0_4.index t = ![t.val / 4, t.val % 4, 0] :=
  (by decide +kernel : ∀ t : Fin grid0.N, _)

/-- The readout of the head whose columns start at `s`, over a point's blocks. -/
def TILE (x₀ x₁ x₂ : FVec Ideal S1x1024x512 .bf16) (x₃ : FVec Ideal S1x128 .f32) (s : ℕ) (hs : s ≤ 384) (j : S1x1024x128.Idx) : EReal :=
  OUT (fun k => x₀ (ix3 0 (j 1) ⟨s + k.val, by omega⟩) + x₁ (ix3 0 (j 1) ⟨s + k.val, by omega⟩)) (fun k => x₂ (ix3 0 (j 1) ⟨s + k.val, by omega⟩))
    (fun k => x₃ (ix2 0 k)) (j 2)

theorem tile0_at (x₀ x₁ x₂ x₃ j) : k0_pay4 (F := Ideal) x₀ x₁ x₂ x₃ j = TILE x₀ x₁ x₂ x₃ 0 (by omega) j := by
  unfold TILE OUT
  pointwise [k0_pay4, k0_pay2, k0_pay3]
  try rfl

theorem tile1_at (x₀ x₁ x₂ x₃ j) : k0_pay8 (F := Ideal) (k0_pay3 x₂) (k0_pay5 x₀ x₁) (k0_pay6 x₀ x₁) (k0_pay7 (F := Ideal)) x₃ j = TILE x₀ x₁ x₂ x₃ 128 (by omega) j := by
  unfold TILE OUT
  pointwise [k0_pay8, k0_pay2, k0_pay3, k0_pay5, k0_pay6, k0_pay7]
  try rfl

theorem tile2_at (x₀ x₁ x₂ x₃ j) : k0_pay9 (F := Ideal) (k0_pay2 x₀ x₁) (k0_pay3 x₂) x₃ j = TILE x₀ x₁ x₂ x₃ 256 (by omega) j := by
  unfold TILE OUT
  pointwise [k0_pay9, k0_pay2, k0_pay3]
  try rfl

theorem tile3_at (x₀ x₁ x₂ x₃ j) : k0_pay1 (F := Ideal) (k0_pay3 x₂) (k0_pay10 (k0_pay2 x₀ x₁)) (k0_pay11 (k0_pay2 x₀ x₁)) (k0_pay12 (F := Ideal)) x₃ j
    = TILE x₀ x₁ x₂ x₃ 384 (by omega) j := by
  unfold TILE OUT
  pointwise [k0_pay1, k0_pay2, k0_pay3, k0_pay10, k0_pay11, k0_pay12]
  try rfl

/-- The row of norm weights every point reads. -/
theorem weights (c : Dev nD) (t : Fin cfg0.N) (k : Fin 128) :
    View.ld (iblk m c 3 t) r0_1 (ix2 0 k) = (show FVec Ideal S128 .f32 from m ((c : Thread nD τ).loc main_arg3)) (ix1 k) := by
  have e : iblk m c 3 t (ix2 0 k) = (show FVec Ideal S1x128 .f32 from V m c main_v0) (ix2 0 k) := by
    simp only [iblk]
    generalize V m c main_v0 = C
    blk_point [idx t]
  have e' : V m c main_v0 = shapeCast S1x128 (show FVec Ideal S128 .f32 from m ((c : Thread nD τ).loc main_arg3)) shapeCasts_S128_S1x128 := by
    unfold V
    after_results
    try rfl
  refine (show View.ld (iblk m c 3 t) r0_1 (ix2 0 k) = iblk m c 3 t (ix2 0 k) from
    congrFun (View.ld_unit_lit inb_S1x128_S1x128_0_0 _ fun a => by fin_cases a <;> rfl) _).trans ?_
  rw [e, e']
  pointwise []

theorem out_congr {o o₂ g g₂ w w₂ : Fin 128 → EReal} (h₁ : ∀ k, o k = o₂ k) (h₂ : ∀ k, g k = g₂ k) (h₃ : ∀ k, w k = w₂ k) (d : Fin 128) :
    OUT o g w d = OUT o₂ g₂ w₂ d := by
  rw [funext h₁, funext h₂, funext h₃]

set_option maxHeartbeats 2000000 in
/-- The result array after the run is the reference's. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  have ht : t.val < 16 := t.isLt
  rw [after0_4]
  unfold out0_4
  canon_tiles x h
  · have h1 : (x 1).val < 1024 := (x 1).isLt
    refine (tile3_at _ _ _ _ x).trans (Eq.trans ?_ (ref_at _ _ _ _ _ ⟨t.val / 4, by omega⟩ ⟨t.val % 4 * 1024 + (x 1).val, by omega⟩ 3 (x 2) (by blk_simp [idx t]; (try simp only); try omega)
      (by blk_simp [idx t]; (try simp only); try omega) (by blk_simp [idx t]; (try simp only); try omega)).symm)
    refine out_congr (fun k => ?_) (fun k => ?_) (fun k => weights m c t k) _ <;> blk_point [iblk, V, idx t]
  · have h1 : (x 1).val < 1024 := (x 1).isLt
    refine (tile2_at _ _ _ _ x).trans (Eq.trans ?_ (ref_at _ _ _ _ _ ⟨t.val / 4, by omega⟩ ⟨t.val % 4 * 1024 + (x 1).val, by omega⟩ 2 (x 2) (by blk_simp [idx t]; (try simp only); try omega)
      (by blk_simp [idx t]; (try simp only); try omega) (by blk_simp [idx t]; (try simp only); try omega)).symm)
    refine out_congr (fun k => ?_) (fun k => ?_) (fun k => weights m c t k) _ <;> blk_point [iblk, V, idx t]
  · have h1 : (x 1).val < 1024 := (x 1).isLt
    refine (tile1_at _ _ _ _ x).trans (Eq.trans ?_ (ref_at _ _ _ _ _ ⟨t.val / 4, by omega⟩ ⟨t.val % 4 * 1024 + (x 1).val, by omega⟩ 1 (x 2) (by blk_simp [idx t]; (try simp only); try omega)
      (by blk_simp [idx t]; (try simp only); try omega) (by blk_simp [idx t]; (try simp only); try omega)).symm)
    refine out_congr (fun k => ?_) (fun k => ?_) (fun k => weights m c t k) _ <;> blk_point [iblk, V, idx t]
  · have h1 : (x 1).val < 1024 := (x 1).isLt
    refine (tile0_at _ _ _ _ x).trans (Eq.trans ?_ (ref_at _ _ _ _ _ ⟨t.val / 4, by omega⟩ ⟨t.val % 4 * 1024 + (x 1).val, by omega⟩ 0 (x 2) (by blk_simp [idx t]; (try simp only); try omega)
      (by blk_simp [idx t]; (try simp only); try omega) (by blk_simp [idx t]; (try simp only); try omega)).symm)
    refine out_congr (fun k => ?_) (fun k => ?_) (fun k => weights m c t k) _ <;> blk_point [iblk, V, idx t]

end Cert.HgOutIdeal.Tile

end
-- ==== Proof.HgOutCtxValue.lean ====
/- The readout of the HGRN2 mixer: the two directions' sum, normalised head by head, times the SiLU of a gate. -/
module

public import proofs.«01_k».proof.Proof.Gen.HgOutCtxIdeal.Frame
public import proofs.«01_k».proof.Proof.Gen.HgOutCtxReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.HgOutCtxReferenceIdeal.Tile

open Cert.HgOutCtxReferenceIdeal Cert.HgOutCtxReferenceIdeal.Gen

/-- One entry of the readout of a head: its row `o`, the row `g` of its gate, the weights `w` of the norm. -/
def OUT (o g w : Fin 128 → EReal) (d : Fin 128) : EReal :=
  o d * Ideal.rsqrt (Ideal.div (∑ k, o k * o k) (Ideal.ofBits .f32 0x43000000#32) + Ideal.ofBits .f32 0x358637BD#32) * w d * (g d * Ideal.logistic (g d))

/-- The sum of the two directions, split into heads. -/
def SUM (A0 A1 : FVec Ideal S4x256x512 .bf16) : FVec Ideal S4x256x4x128 .f32 :=
  addf (shapeCast _ (extf .f32 A0 bitsLt_bf16_f32) shapeCasts_S4x256x512_S4x256x4x128) (shapeCast _ (extf .f32 A1 bitsLt_bf16_f32) shapeCasts_S4x256x512_S4x256x4x128)

/-- The gate's columns of the projection, split into heads. -/
def GATE (A2 : FVec Ideal S4x256x5632 .bf16) : FVec Ideal S4x256x4x128 .f32 :=
  shapeCast _ (extf .f32 (extractStridedSlice S4x256x512 ![0, 0, 3072] A2 slices_S4x256x5632_S4x256x512_0_0_3072) bitsLt_bf16_f32) shapeCasts_S4x256x512_S4x256x4x128

/-- The gated norm of the heads. -/
def NORM (S G : FVec Ideal S4x256x4x128 .f32) (A3 : FVec Ideal S128 .f32) : FVec Ideal S4x256x4x128 .f32 :=
  mulf (mulf (mulf S (broadcastInDim S4x256x4x128 ![0, 1, 2, 3] bcast_S4x256x4x1_S4x256x4x128_0_1_2_3 (Host.rsqrt (addf (Host.divf (broadcastInDim S4x256x4x1 ![0, 1, 2] bcast_S4x256x4_S4x256x4x1_0_1_2 (Host.reduceAdd (mulf S S) (constant (F := Ideal) S_ .f32 0x00000000#32) reducesTo_S4x256x4x128_S4x256x4_d3 h_S_)) (broadcastInDim S4x256x4x1 ![] bcast_S_S4x256x4x1 (constant (F := Ideal) S_ .f32 0x43000000#32))) (broadcastInDim S4x256x4x1 ![] bcast_S_S4x256x4x1 (constant (F := Ideal) S_ .f32 0x358637BD#32)))))) (broadcastInDim S4x256x4x128 ![0, 1, 2, 3] bcast_S1x1x1x128_S4x256x4x128_0_1_2_3 (broadcastInDim S1x1x1x128 ![3] bcast_S128_S1x1x1x128_3 A3))) (mulf G (Host.divf (broadcastInDim S4x256x4x128 ![] bcast_S_S4x256x4x128 (constant (F := Ideal) S_ .f32 0x3F800000#32)) (addf (broadcastInDim S4x256x4x128 ![] bcast_S_S4x256x4x128 (constant (F := Ideal) S_ .f32 0x3F800000#32)) (Host.exp (Host.negf G)))))

/-- The heads beside each other again. -/
def FLAT (Y : FVec Ideal S4x256x4x128 .f32) : FVec Ideal S4x256x512 .bf16 :=
  truncf .bf16 (shapeCast _ Y shapeCasts_S4x256x4x128_S4x256x512) bitsLt_bf16_f32

/-- The reference's result over its arguments. -/
abbrev REF (A0 A1 : FVec Ideal S4x256x512 .bf16) (A2 : FVec Ideal S4x256x5632 .bf16) (A3 : FVec Ideal S128 .f32) : FVec Ideal S4x256x512 .bf16 :=
  FLAT (NORM (SUM A0 A1) (GATE A2) A3)

theorem sum_at (A0 A1) (b : Fin 4) (n : Fin 256) (h : Fin 4) (d : Fin 128) : SUM A0 A1 (ix4 b n h d)
    = A0 (ix3 b n ⟨h.val * 128 + d.val, by omega⟩) + A1 (ix3 b n ⟨h.val * 128 + d.val, by omega⟩) := by
  pointwise [SUM]

theorem gate_at (A2) (b : Fin 4) (n : Fin 256) (h : Fin 4) (d : Fin 128) : GATE A2 (ix4 b n h d)
    = A2 (ix3 b n ⟨3072 + (h.val * 128 + d.val), by omega⟩) := by
  pointwise [GATE]

theorem norm_at (S G A3) (b : Fin 4) (n : Fin 256) (h : Fin 4) (d : Fin 128) : NORM S G A3 (ix4 b n h d)
    = OUT (fun k => S (ix4 b n h k)) (fun k => G (ix4 b n h k)) (fun k => A3 (ix1 k)) d := by
  unfold OUT
  pointwise [NORM]
  try rfl

theorem flat_at (Y) (b : Fin 4) (n : Fin 256) (j : Fin 512) : FLAT Y (ix3 b n j)
    = Y (ix4 b n ⟨j.val / 128, by omega⟩ ⟨j.val % 128, by omega⟩) := by
  pointwise [FLAT]

/-- The reference's result, element by element. -/
theorem ref_at (A0 A1 A2 A3) (i : S4x256x512.Idx) (b : Fin 4) (n : Fin 256) (h : Fin 4) (d : Fin 128) (h0 : (i 0).val = b.val) (h1 : (i 1).val = n.val)
    (h2 : (i 2).val = h.val * 128 + d.val) : REF A0 A1 A2 A3 i
      = OUT (fun k => A0 (ix3 b n ⟨h.val * 128 + k.val, by omega⟩) + A1 (ix3 b n ⟨h.val * 128 + k.val, by omega⟩))
          (fun k => A2 (ix3 b n ⟨3072 + (h.val * 128 + k.val), by omega⟩)) (fun k => A3 (ix1 k)) d := by
  have e : i = ix3 b n ⟨h.val * 128 + d.val, by omega⟩ := by
    funext a
    fin_cases a
    · exact Fin.ext h0
    · exact Fin.ext h1
    · exact Fin.ext h2
  have e₁ : ∀ p, (⟨(h.val * 128 + d.val) / 128, p⟩ : Fin 4) = h := fun _ => Fin.ext (by simp only; omega)
  have e₂ : ∀ p, (⟨(h.val * 128 + d.val) % 128, p⟩ : Fin 128) = d := fun _ => Fin.ext (by simp only; omega)
  rw [e, REF, flat_at]
  simp only [e₁, e₂]
  rw [norm_at]
  simp only [sum_at, gate_at]

end Cert.HgOutCtxReferenceIdeal.Tile

namespace Cert.HgOutCtxIdeal.Tile

open Cert.HgOutCtxIdeal Cert.HgOutCtxIdeal.Gen Cert.HgOutCtxReferenceIdeal.Tile

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 6]
    ∧ win0_3.index t = ![0, 0] ∧ win0_4.index t = ![t.val, 0, 0] :=
  (by decide +kernel : ∀ t : Fin grid0.N, _)

/-- The readout of the head whose columns start at `s`, over a point's blocks. -/
def TILE (x₀ x₁ x₂ : FVec Ideal S1x256x512 .bf16) (x₃ : FVec Ideal S1x128 .f32) (s : ℕ) (hs : s ≤ 384) (j : S1x256x128.Idx) : EReal :=
  OUT (fun k => x₀ (ix3 0 (j 1) ⟨s + k.val, by omega⟩) + x₁ (ix3 0 (j 1) ⟨s + k.val, by omega⟩)) (fun k => x₂ (ix3 0 (j 1) ⟨s + k.val, by omega⟩))
    (fun k => x₃ (ix2 0 k)) (j 2)

theorem tile0_at (x₀ x₁ x₂ x₃ j) : k0_pay4 (F := Ideal) x₀ x₁ x₂ x₃ j = TILE x₀ x₁ x₂ x₃ 0 (by omega) j := by
  unfold TILE OUT
  pointwise [k0_pay4, k0_pay2, k0_pay3]
  try rfl

theorem tile1_at (x₀ x₁ x₂ x₃ j) : k0_pay8 (F := Ideal) (k0_pay3 x₂) (k0_pay5 x₀ x₁) (k0_pay6 x₀ x₁) (k0_pay7 (F := Ideal)) x₃ j = TILE x₀ x₁ x₂ x₃ 128 (by omega) j := by
  unfold TILE OUT
  pointwise [k0_pay8, k0_pay2, k0_pay3, k0_pay5, k0_pay6, k0_pay7]
  try rfl

theorem tile2_at (x₀ x₁ x₂ x₃ j) : k0_pay9 (F := Ideal) (k0_pay2 x₀ x₁) (k0_pay3 x₂) x₃ j = TILE x₀ x₁ x₂ x₃ 256 (by omega) j := by
  unfold TILE OUT
  pointwise [k0_pay9, k0_pay2, k0_pay3]
  try rfl

theorem tile3_at (x₀ x₁ x₂ x₃ j) : k0_pay1 (F := Ideal) (k0_pay3 x₂) (k0_pay10 (k0_pay2 x₀ x₁)) (k0_pay11 (k0_pay2 x₀ x₁)) (k0_pay12 (F := Ideal)) x₃ j
    = TILE x₀ x₁ x₂ x₃ 384 (by omega) j := by
  unfold TILE OUT
  pointwise [k0_pay1, k0_pay2, k0_pay3, k0_pay10, k0_pay11, k0_pay12]
  try rfl

/-- The row of norm weights every point reads. -/
theorem weights (c : Dev nD) (t : Fin cfg0.N) (k : Fin 128) :
    View.ld (iblk m c 3 t) r0_1 (ix2 0 k) = (show FVec Ideal S128 .f32 from m ((c : Thread nD τ).loc main_arg3)) (ix1 k) := by
  have e : iblk m c 3 t (ix2 0 k) = (show FVec Ideal S1x128 .f32 from V m c main_v0) (ix2 0 k) := by
    simp only [iblk]
    generalize V m c main_v0 = C
    blk_point [idx t]
  have e' : V m c main_v0 = shapeCast S1x128 (show FVec Ideal S128 .f32 from m ((c : Thread nD τ).loc main_arg3)) shapeCasts_S128_S1x128 := by
    unfold V
    after_results
    try rfl
  refine (show View.ld (iblk m c 3 t) r0_1 (ix2 0 k) = iblk m c 3 t (ix2 0 k) from
    congrFun (View.ld_unit_lit inb_S1x128_S1x128_0_0 _ fun a => by fin_cases a <;> rfl) _).trans ?_
  rw [e, e']
  pointwise []

theorem out_congr {o o₂ g g₂ w w₂ : Fin 128 → EReal} (h₁ : ∀ k, o k = o₂ k) (h₂ : ∀ k, g k = g₂ k) (h₃ : ∀ k, w k = w₂ k) (d : Fin 128) :
    OUT o g w d = OUT o₂ g₂ w₂ d := by
  rw [funext h₁, funext h₂, funext h₃]

set_option maxHeartbeats 2000000 in
/-- The result array after the run is the reference's. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  have ht : t.val < 4 := t.isLt
  rw [after0_4]
  unfold out0_4
  canon_tiles x h
  · have h1 : (x 1).val < 256 := (x 1).isLt
    refine (tile3_at _ _ _ _ x).trans (Eq.trans ?_ (ref_at _ _ _ _ _ ⟨t.val, by omega⟩ ⟨(x 1).val, by omega⟩ 3 (x 2) (by blk_simp [idx t]; (try simp only); try omega)
      (by blk_simp [idx t]; (try simp only); try omega) (by blk_simp [idx t]; (try simp only); try omega)).symm)
    refine out_congr (fun k => ?_) (fun k => ?_) (fun k => weights m c t k) _ <;> blk_point [iblk, V, idx t]
  · have h1 : (x 1).val < 256 := (x 1).isLt
    refine (tile2_at _ _ _ _ x).trans (Eq.trans ?_ (ref_at _ _ _ _ _ ⟨t.val, by omega⟩ ⟨(x 1).val, by omega⟩ 2 (x 2) (by blk_simp [idx t]; (try simp only); try omega)
      (by blk_simp [idx t]; (try simp only); try omega) (by blk_simp [idx t]; (try simp only); try omega)).symm)
    refine out_congr (fun k => ?_) (fun k => ?_) (fun k => weights m c t k) _ <;> blk_point [iblk, V, idx t]
  · have h1 : (x 1).val < 256 := (x 1).isLt
    refine (tile1_at _ _ _ _ x).trans (Eq.trans ?_ (ref_at _ _ _ _ _ ⟨t.val, by omega⟩ ⟨(x 1).val, by omega⟩ 1 (x 2) (by blk_simp [idx t]; (try simp only); try omega)
      (by blk_simp [idx t]; (try simp only); try omega) (by blk_simp [idx t]; (try simp only); try omega)).symm)
    refine out_congr (fun k => ?_) (fun k => ?_) (fun k => weights m c t k) _ <;> blk_point [iblk, V, idx t]
  · have h1 : (x 1).val < 256 := (x 1).isLt
    refine (tile0_at _ _ _ _ x).trans (Eq.trans ?_ (ref_at _ _ _ _ _ ⟨t.val, by omega⟩ ⟨(x 1).val, by omega⟩ 0 (x 2) (by blk_simp [idx t]; (try simp only); try omega)
      (by blk_simp [idx t]; (try simp only); try omega) (by blk_simp [idx t]; (try simp only); try omega)).symm)
    refine out_congr (fun k => ?_) (fun k => ?_) (fun k => weights m c t k) _ <;> blk_point [iblk, V, idx t]

end Cert.HgOutCtxIdeal.Tile

end
-- ==== Proof.Finite.lean ====
/- A finite array: the predicate `|x| < ∞` at every entry, read back as "every entry is a real number". -/
module

public import Idealize.ShloMosaic.Lib.ReduceAll
public import Idealize.ShloMosaic.Lib.Pipeline.ValueKit

@[expose] public section

noncomputable section

open Idealize.ShloMosaic

namespace Cert.Finite

/-- The word 0x7F800000 is the positive infinity. -/
theorem inf_word : Ideal.ofBits FTy.f32 0x7F800000#32 = ⊤ := by
  simp [Ideal.ofBits, Ideal.ieee]

/-- An extended real whose absolute value is below ⊤ is a real number. -/
theorem real_of_abs (x : EReal) (h : Ideal.cmp .olt (max x (-x)) ⊤ = 1#1) : ∃ r : ℝ, x = r := by
  induction x with
  | bot => simp [Ideal.cmp] at h
  | coe r => exact ⟨r, rfl⟩
  | top => simp [Ideal.cmp] at h

/-- The predicate over a whole array: every entry is a real number. -/
theorem real_of_all {s u : Shape} {axes : List (Fin s.rank)} {dims : Fin u.rank → Fin s.rank} [Subsingleton u.Idx] (A : FVec Ideal s .f32) (init : IVec u 1)
    (hb : u.BroadcastsInDim s dims) (h : s.ReducesTo axes u) (hu : 0 < u.numel)
    (e : Host.reduce IntOp.andi (cmpf .olt (Host.absf A) (broadcastInDim s dims hb (constant (F := Ideal) u .f32 0x7F800000#32)))
      init h hu = fun _ => 1#1) (i : s.Idx) : ∃ r : ℝ, A i = r := by
  have k := Host.reduce_andi_all _ init h hu (Shape.Idx.first hu) (congrFun e _) i
  refine real_of_abs _ ?_
  rw [← inf_word]
  exact k

end Cert.Finite

end
-- ==== Proof.lean ====
/- The claims of this proof: every call runs and leaves its arguments alone, and in exact arithmetic its result is the
   reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.MlpUp
public import proofs.«01_k».proof.Proof.Gen.MlpUp.Skeleton
public import proofs.«01_k».proof.Proof.Gen.MlpUp.Launch
public import proofs.«01_k».proof.Proof.Gen.MlpUp.Points
public import proofs.«01_k».proof.Proof.Gen.MlpUp.Frame
public import proofs.«01_k».proof.Proof.Gen.MlpUpIdeal
public import proofs.«01_k».proof.Proof.Gen.MlpUpIdeal.Skeleton
public import proofs.«01_k».proof.Proof.Gen.MlpUpIdeal.Launch
public import proofs.«01_k».proof.Proof.Gen.MlpUpIdeal.Points
public import proofs.«01_k».proof.Proof.Gen.MlpUpIdeal.Frame
public import proofs.«01_k».proof.Proof.Gen.MlpUpReferenceIdeal
public import proofs.«01_k».proof.Proof.Gen.MlpDown
public import proofs.«01_k».proof.Proof.Gen.MlpDown.Skeleton
public import proofs.«01_k».proof.Proof.Gen.MlpDown.Launch
public import proofs.«01_k».proof.Proof.Gen.MlpDown.Points
public import proofs.«01_k».proof.Proof.Gen.MlpDown.Frame
public import proofs.«01_k».proof.Proof.Gen.MlpDownIdeal
public import proofs.«01_k».proof.Proof.Gen.MlpDownIdeal.Skeleton
public import proofs.«01_k».proof.Proof.Gen.MlpDownIdeal.Launch
public import proofs.«01_k».proof.Proof.Gen.MlpDownIdeal.Points
public import proofs.«01_k».proof.Proof.Gen.MlpDownIdeal.Frame
public import proofs.«01_k».proof.Proof.Gen.MlpDownReferenceIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModReferenceIdeal
public import proofs.«01_k».proof.Proof.Gen.MlpUpCtx
public import proofs.«01_k».proof.Proof.Gen.MlpUpCtx.Skeleton
public import proofs.«01_k».proof.Proof.Gen.MlpUpCtx.Launch
public import proofs.«01_k».proof.Proof.Gen.MlpUpCtx.Points
public import proofs.«01_k».proof.Proof.Gen.MlpUpCtx.Frame
public import proofs.«01_k».proof.Proof.Gen.MlpUpCtxIdeal
public import proofs.«01_k».proof.Proof.Gen.MlpUpCtxIdeal.Skeleton
public import proofs.«01_k».proof.Proof.Gen.MlpUpCtxIdeal.Launch
public import proofs.«01_k».proof.Proof.Gen.MlpUpCtxIdeal.Points
public import proofs.«01_k».proof.Proof.Gen.MlpUpCtxIdeal.Frame
public import proofs.«01_k».proof.Proof.Gen.MlpUpCtxReferenceIdeal
public import proofs.«01_k».proof.Proof.Gen.MlpDownCtx
public import proofs.«01_k».proof.Proof.Gen.MlpDownCtx.Skeleton
public import proofs.«01_k».proof.Proof.Gen.MlpDownCtx.Launch
public import proofs.«01_k».proof.Proof.Gen.MlpDownCtx.Points
public import proofs.«01_k».proof.Proof.Gen.MlpDownCtx.Frame
public import proofs.«01_k».proof.Proof.Gen.MlpDownCtxIdeal
public import proofs.«01_k».proof.Proof.Gen.MlpDownCtxIdeal.Skeleton
public import proofs.«01_k».proof.Proof.Gen.MlpDownCtxIdeal.Launch
public import proofs.«01_k».proof.Proof.Gen.MlpDownCtxIdeal.Points
public import proofs.«01_k».proof.Proof.Gen.MlpDownCtxIdeal.Frame
public import proofs.«01_k».proof.Proof.Gen.MlpDownCtxReferenceIdeal
public import proofs.«01_k».proof.Proof.Gen.MixCtx
public import proofs.«01_k».proof.Proof.Gen.MixCtx.Skeleton
public import proofs.«01_k».proof.Proof.Gen.MixCtx.Launch
public import proofs.«01_k».proof.Proof.Gen.MixCtx.Points
public import proofs.«01_k».proof.Proof.Gen.MixCtx.Frame
public import proofs.«01_k».proof.Proof.Gen.MixCtxIdeal
public import proofs.«01_k».proof.Proof.Gen.MixCtxIdeal.Skeleton
public import proofs.«01_k».proof.Proof.Gen.MixCtxIdeal.Launch
public import proofs.«01_k».proof.Proof.Gen.MixCtxIdeal.Points
public import proofs.«01_k».proof.Proof.Gen.MixCtxIdeal.Frame
public import proofs.«01_k».proof.Proof.Gen.MixCtxReferenceIdeal
public import proofs.«01_k».proof.Proof.Gen.InProjCtx
public import proofs.«01_k».proof.Proof.Gen.InProjCtx.Skeleton
public import proofs.«01_k».proof.Proof.Gen.InProjCtx.Launch
public import proofs.«01_k».proof.Proof.Gen.InProjCtx.Points
public import proofs.«01_k».proof.Proof.Gen.InProjCtx.Frame
public import proofs.«01_k».proof.Proof.Gen.InProjCtxIdeal
public import proofs.«01_k».proof.Proof.Gen.InProjCtxIdeal.Skeleton
public import proofs.«01_k».proof.Proof.Gen.InProjCtxIdeal.Launch
public import proofs.«01_k».proof.Proof.Gen.InProjCtxIdeal.Points
public import proofs.«01_k».proof.Proof.Gen.InProjCtxIdeal.Frame
public import proofs.«01_k».proof.Proof.Gen.InProjCtxReferenceIdeal
public import proofs.«01_k».proof.Proof.Gen.AttnCtx
public import proofs.«01_k».proof.Proof.Gen.AttnCtx.Skeleton
public import proofs.«01_k».proof.Proof.Gen.AttnCtx.Launch
public import proofs.«01_k».proof.Proof.Gen.AttnCtx.Points
public import proofs.«01_k».proof.Proof.Gen.AttnCtx.Frame
public import proofs.«01_k».proof.Proof.Gen.AttnCtxIdeal
public import proofs.«01_k».proof.Proof.Gen.AttnCtxIdeal.Skeleton
public import proofs.«01_k».proof.Proof.Gen.AttnCtxIdeal.Launch
public import proofs.«01_k».proof.Proof.Gen.AttnCtxIdeal.Points
public import proofs.«01_k».proof.Proof.Gen.AttnCtxIdeal.Frame
public import proofs.«01_k».proof.Proof.Gen.AttnCtxReferenceIdeal
public import proofs.«01_k».proof.Proof.Gen.S5Out
public import proofs.«01_k».proof.Proof.Gen.S5Out.Skeleton
public import proofs.«01_k».proof.Proof.Gen.S5Out.Launch
public import proofs.«01_k».proof.Proof.Gen.S5Out.Points
public import proofs.«01_k».proof.Proof.Gen.S5Out.Frame
public import proofs.«01_k».proof.Proof.Gen.S5OutIdeal
public import proofs.«01_k».proof.Proof.Gen.S5OutIdeal.Skeleton
public import proofs.«01_k».proof.Proof.Gen.S5OutIdeal.Launch
public import proofs.«01_k».proof.Proof.Gen.S5OutIdeal.Points
public import proofs.«01_k».proof.Proof.Gen.S5OutIdeal.Frame
public import proofs.«01_k».proof.Proof.Gen.S5OutReferenceIdeal
public import proofs.«01_k».proof.Proof.Gen.S5OutCtx
public import proofs.«01_k».proof.Proof.Gen.S5OutCtx.Skeleton
public import proofs.«01_k».proof.Proof.Gen.S5OutCtx.Launch
public import proofs.«01_k».proof.Proof.Gen.S5OutCtx.Points
public import proofs.«01_k».proof.Proof.Gen.S5OutCtx.Frame
public import proofs.«01_k».proof.Proof.Gen.S5OutCtxIdeal
public import proofs.«01_k».proof.Proof.Gen.S5OutCtxIdeal.Skeleton
public import proofs.«01_k».proof.Proof.Gen.S5OutCtxIdeal.Launch
public import proofs.«01_k».proof.Proof.Gen.S5OutCtxIdeal.Points
public import proofs.«01_k».proof.Proof.Gen.S5OutCtxIdeal.Frame
public import proofs.«01_k».proof.Proof.Gen.S5OutCtxReferenceIdeal
public import proofs.«01_k».proof.Proof.Gen.HgOut
public import proofs.«01_k».proof.Proof.Gen.HgOut.Skeleton
public import proofs.«01_k».proof.Proof.Gen.HgOut.Launch
public import proofs.«01_k».proof.Proof.Gen.HgOut.Points
public import proofs.«01_k».proof.Proof.Gen.HgOut.Frame
public import proofs.«01_k».proof.Proof.Gen.HgOutIdeal
public import proofs.«01_k».proof.Proof.Gen.HgOutIdeal.Skeleton
public import proofs.«01_k».proof.Proof.Gen.HgOutIdeal.Launch
public import proofs.«01_k».proof.Proof.Gen.HgOutIdeal.Points
public import proofs.«01_k».proof.Proof.Gen.HgOutIdeal.Frame
public import proofs.«01_k».proof.Proof.Gen.HgOutReferenceIdeal
public import proofs.«01_k».proof.Proof.Gen.HgOutCtx
public import proofs.«01_k».proof.Proof.Gen.HgOutCtx.Skeleton
public import proofs.«01_k».proof.Proof.Gen.HgOutCtx.Launch
public import proofs.«01_k».proof.Proof.Gen.HgOutCtx.Points
public import proofs.«01_k».proof.Proof.Gen.HgOutCtx.Frame
public import proofs.«01_k».proof.Proof.Gen.HgOutCtxIdeal
public import proofs.«01_k».proof.Proof.Gen.HgOutCtxIdeal.Skeleton
public import proofs.«01_k».proof.Proof.Gen.HgOutCtxIdeal.Launch
public import proofs.«01_k».proof.Proof.Gen.HgOutCtxIdeal.Points
public import proofs.«01_k».proof.Proof.Gen.HgOutCtxIdeal.Frame
public import proofs.«01_k».proof.Proof.Gen.HgOutCtxReferenceIdeal
public import proofs.«01_k».proof.Proof.Gen.Pre_finite
public import proofs.«01_k».proof.Proof.Gen.Pre_finite_in
public import proofs.«01_k».proof.Proof.Gen.Pre_finite_in_ctx
public import proofs.«01_k».proof.Proof.Gen.Pre_finite_ctx
public import proofs.«01_k».proof.Proof.AttnValue
public import proofs.«01_k».proof.Proof.MlpUpValue
public import proofs.«01_k».proof.Proof.MlpDownValue
public import proofs.«01_k».proof.Proof.MixValue
public import proofs.«01_k».proof.Proof.InProjValue
public import proofs.«01_k».proof.Proof.ModValue
public import proofs.«01_k».proof.Proof.MlpUpCtxValue
public import proofs.«01_k».proof.Proof.MlpDownCtxValue
public import proofs.«01_k».proof.Proof.MixCtxValue
public import proofs.«01_k».proof.Proof.InProjCtxValue
public import proofs.«01_k».proof.Proof.AttnCtxValue
public import proofs.«01_k».proof.Proof.S5OutValue
public import proofs.«01_k».proof.Proof.S5OutCtxValue
public import proofs.«01_k».proof.Proof.HgOutValue
public import proofs.«01_k».proof.Proof.HgOutCtxValue
public import proofs.«01_k».proof.Proof.Finite
public import Idealize.ShloMosaic.Lib.Quiescent
public import Idealize.ShloMosaic.Lib.Claim
public import Idealize.ShloMosaic.Adequacy
public import Idealize.ShloMosaic.Init

@[expose] public section

set_option maxHeartbeats 1600000
set_option maxRecDepth 16384

noncomputable section

namespace Cert.Proof

open Idealize.ShloMosaic Idealize.SL.Sem

/-- The reference of `Kernel`: its run, whatever the arguments hold. -/
theorem attention_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

/-- The attention's precondition: the queries and the two key arrays hold real numbers. -/
theorem attention_real (m : (ℓ : Loc Cert.KernelIdeal.nD Cert.KernelIdeal.τ Cert.KernelIdeal.sig) → Buf (Elt Ideal) ℓ)
    (h : Pre_KernelIdeal_finite m) (c : Dev Cert.KernelIdeal.nD) :
    @Cert.KernelIdeal.Tile.REAL Cert.KernelIdeal.S4x4x4096x256.Idx (m ((c.tc : Thread Cert.KernelIdeal.nD Cert.KernelIdeal.τ).loc Cert.KernelIdeal.main_arg0))
    ∧ @Cert.KernelIdeal.Tile.REAL Cert.KernelIdeal.S4x4x4096x256.Idx (m ((c.tc : Thread Cert.KernelIdeal.nD Cert.KernelIdeal.τ).loc Cert.KernelIdeal.main_arg1))
    ∧ @Cert.KernelIdeal.Tile.REAL Cert.KernelIdeal.S4x4x256x256.Idx (m ((c.tc : Thread Cert.KernelIdeal.nD Cert.KernelIdeal.τ).loc Cert.KernelIdeal.main_arg3)) := by
  have k := h c
  simp only [Cert.Pre_finite.fn] at k
  exact ⟨Cert.Finite.real_of_all (extf (F := Ideal) .f32 (m ((c.tc : Thread Cert.KernelIdeal.nD Cert.KernelIdeal.τ).loc Cert.KernelIdeal.main_arg0)) Cert.Pre_finite.Gen.bitsLt_bf16_f32) _ _ _ _ k.1,
    Cert.Finite.real_of_all (extf (F := Ideal) .f32 (m ((c.tc : Thread Cert.KernelIdeal.nD Cert.KernelIdeal.τ).loc Cert.KernelIdeal.main_arg1)) Cert.Pre_finite.Gen.bitsLt_bf16_f32) _ _ _ _ k.2.1,
    Cert.Finite.real_of_all (extf (F := Ideal) .f32 (m ((c.tc : Thread Cert.KernelIdeal.nD Cert.KernelIdeal.τ).loc Cert.KernelIdeal.main_arg3)) Cert.Pre_finite.Gen.bitsLt_bf16_f32) _ _ _ _ k.2.2⟩

/-- `Kernel`: the kernel's result array is the reference's. -/
theorem attention_value : Cert.algebraic_KernelIdeal_ReferenceIdeal_pre_finite := by
  pair_intro
  · run_from Cert.KernelIdeal.Gen.run_main m g
  · refine (θ_run Cert.ReferenceIdeal.defs _ _).mono (fun r h c => ⟨(h c).1.trans ?_, (h c).2⟩) (Cert.ReferenceIdeal.Value.run m' g')
    obtain ⟨e0, e1, e2, e3, e4⟩ := hagree c
    have e := Cert.KernelIdeal.Tile.final m c (attention_real m hpre c).1 (attention_real m hpre c).2.1 (attention_real m hpre c).2.2
    rw [← e0, ← e1, ← e2, ← e3, ← e4] at e
    exact e.symm

/-- The reference of `MlpUp`: its run, whatever the arguments hold. -/
theorem mlpUp_reference : Cert.quiescent_MlpUpReferenceIdeal := by
  intro m g _
  exact (θ_run Cert.MlpUpReferenceIdeal.defs _ _).mono (fun r h => ⟨fun c => (h c).2, sem_eq_zero_of_no_sems (by decide) r.2⟩)
    (Cert.MlpUpReferenceIdeal.Value.run m g)

/-- `MlpUp`: the kernel's result array is the reference's. -/
theorem mlpUp_value : Cert.algebraic_MlpUpIdeal_MlpUpReferenceIdeal := by
  pair_intro
  · run_from Cert.MlpUpIdeal.Gen.run_main m g
  · run_from Cert.MlpUpReferenceIdeal.Value.run m' g'
    exact (Cert.MlpUpIdeal.Tile.final m c).symm

/-- The reference of `MlpDown`: its run, whatever the arguments hold. -/
theorem mlpDown_reference : Cert.quiescent_MlpDownReferenceIdeal := by
  intro m g _
  exact (θ_run Cert.MlpDownReferenceIdeal.defs _ _).mono (fun r h => ⟨fun c => (h c).2, sem_eq_zero_of_no_sems (by decide) r.2⟩)
    (Cert.MlpDownReferenceIdeal.Value.run m g)

/-- `MlpDown`: the kernel's result array is the reference's. -/
theorem mlpDown_value : Cert.algebraic_MlpDownIdeal_MlpDownReferenceIdeal := by
  pair_intro
  · run_from Cert.MlpDownIdeal.Gen.run_main m g
  · run_from Cert.MlpDownReferenceIdeal.Value.run m' g'
    exact (Cert.MlpDownIdeal.Tile.final m c).symm

/-- The reference of `Mix`: its run, whatever the arguments hold. -/
theorem mix_reference : Cert.quiescent_MixReferenceIdeal := by
  intro m g _
  exact (θ_run Cert.MixReferenceIdeal.defs _ _).mono (fun r h => ⟨fun c => (h c).2, sem_eq_zero_of_no_sems (by decide) r.2⟩)
    (Cert.MixReferenceIdeal.Value.run m g)

/-- `Mix`: the kernel's result array is the reference's. -/
theorem mix_value : Cert.algebraic_MixIdeal_MixReferenceIdeal := by
  pair_intro
  · run_from Cert.MixIdeal.Gen.run_main m g
  · run_from Cert.MixReferenceIdeal.Value.run m' g'
    exact (Cert.MixIdeal.Tile.final m c).symm

/-- The reference of `InProj`: its run, whatever the arguments hold. -/
theorem inProj_reference : Cert.quiescent_InProjReferenceIdeal := by
  intro m g _
  exact (θ_run Cert.InProjReferenceIdeal.defs _ _).mono (fun r h => ⟨fun c => (h c).2, sem_eq_zero_of_no_sems (by decide) r.2⟩)
    (Cert.InProjReferenceIdeal.Value.run m g)

set_option maxRecDepth 32768 in
/-- The precondition of `InProj`, read back: the five arguments hold real numbers. -/
theorem inProj_real (m : (ℓ : Loc Cert.InProjIdeal.nD Cert.InProjIdeal.τ Cert.InProjIdeal.sig) → Buf (Elt Ideal) ℓ)
    (h : Pre_InProjIdeal_finite_in m) (c : Dev Cert.InProjIdeal.nD) : Cert.InProjIdeal.Tile.REAL m c := by
  have k := h c
  simp only [Cert.Pre_finite_in.fn, Cert.Pre_finite_in.fn_part1] at k
  exact ⟨Cert.Finite.real_of_all (m ((c.tc : Thread Cert.InProjIdeal.nD Cert.InProjIdeal.τ).loc Cert.InProjIdeal.main_arg0)) _ _ _ _ k.1,
    Cert.Finite.real_of_all (m ((c.tc : Thread Cert.InProjIdeal.nD Cert.InProjIdeal.τ).loc Cert.InProjIdeal.main_arg1)) _ _ _ _ k.2.1,
    Cert.Finite.real_of_all (m ((c.tc : Thread Cert.InProjIdeal.nD Cert.InProjIdeal.τ).loc Cert.InProjIdeal.main_arg2)) _ _ _ _ k.2.2.1,
    Cert.Finite.real_of_all (m ((c.tc : Thread Cert.InProjIdeal.nD Cert.InProjIdeal.τ).loc Cert.InProjIdeal.main_arg3)) _ _ _ _ k.2.2.2.1,
    Cert.Finite.real_of_all (m ((c.tc : Thread Cert.InProjIdeal.nD Cert.InProjIdeal.τ).loc Cert.InProjIdeal.main_arg4)) _ _ _ _ k.2.2.2.2⟩

/-- `InProj`: the kernel's result array is the reference's. -/
theorem inProj_value : Cert.algebraic_InProjIdeal_InProjReferenceIdeal_pre_finite_in := by
  pair_intro
  · run_from Cert.InProjIdeal.Gen.run_main m g
  · refine (θ_run Cert.InProjReferenceIdeal.defs _ _).mono (fun r h c => ⟨(h c).1.trans ?_, (h c).2⟩) (Cert.InProjReferenceIdeal.Value.run m' g')
    obtain ⟨e0, e1, e2, e3, e4⟩ := hagree c
    have e := Cert.InProjIdeal.Tile.final m c (inProj_real m hpre c)
    rw [← e0, ← e1, ← e2, ← e3, ← e4] at e
    exact e.symm

/-- The reference of `Mod`: its run, whatever the arguments hold. -/
theorem mod_reference : Cert.quiescent_ModReferenceIdeal := by
  intro m g _
  exact (θ_run Cert.ModReferenceIdeal.defs _ _).mono (fun r h => ⟨fun c => (h c).2, sem_eq_zero_of_no_sems (by decide) r.2⟩)
    (Cert.ModReferenceIdeal.Value.run m g)

/-- `Mod`: the kernel's result array is the reference's. -/
theorem mod_value : Cert.algebraic_ModIdeal_ModReferenceIdeal := by
  pair_intro
  · run_from Cert.ModIdeal.Gen.run_main m g
  · run_from Cert.ModReferenceIdeal.Value.run m' g'
    exact (Cert.ModIdeal.Tile.final m c).symm

/-- The reference of `MlpUpCtx`: its run, whatever the arguments hold. -/
theorem mlpUpCtx_reference : Cert.quiescent_MlpUpCtxReferenceIdeal := by
  intro m g _
  exact (θ_run Cert.MlpUpCtxReferenceIdeal.defs _ _).mono (fun r h => ⟨fun c => (h c).2, sem_eq_zero_of_no_sems (by decide) r.2⟩)
    (Cert.MlpUpCtxReferenceIdeal.Value.run m g)

/-- `MlpUpCtx`: the kernel's result array is the reference's. -/
theorem mlpUpCtx_value : Cert.algebraic_MlpUpCtxIdeal_MlpUpCtxReferenceIdeal := by
  pair_intro
  · run_from Cert.MlpUpCtxIdeal.Gen.run_main m g
  · run_from Cert.MlpUpCtxReferenceIdeal.Value.run m' g'
    exact (Cert.MlpUpCtxIdeal.Tile.final m c).symm

/-- The reference of `MlpDownCtx`: its run, whatever the arguments hold. -/
theorem mlpDownCtx_reference : Cert.quiescent_MlpDownCtxReferenceIdeal := by
  intro m g _
  exact (θ_run Cert.MlpDownCtxReferenceIdeal.defs _ _).mono (fun r h => ⟨fun c => (h c).2, sem_eq_zero_of_no_sems (by decide) r.2⟩)
    (Cert.MlpDownCtxReferenceIdeal.Value.run m g)

/-- `MlpDownCtx`: the kernel's result array is the reference's. -/
theorem mlpDownCtx_value : Cert.algebraic_MlpDownCtxIdeal_MlpDownCtxReferenceIdeal := by
  pair_intro
  · run_from Cert.MlpDownCtxIdeal.Gen.run_main m g
  · run_from Cert.MlpDownCtxReferenceIdeal.Value.run m' g'
    exact (Cert.MlpDownCtxIdeal.Tile.final m c).symm

/-- The reference of `MixCtx`: its run, whatever the arguments hold. -/
theorem mixCtx_reference : Cert.quiescent_MixCtxReferenceIdeal := by
  intro m g _
  exact (θ_run Cert.MixCtxReferenceIdeal.defs _ _).mono (fun r h => ⟨fun c => (h c).2, sem_eq_zero_of_no_sems (by decide) r.2⟩)
    (Cert.MixCtxReferenceIdeal.Value.run m g)

/-- `MixCtx`: the kernel's result array is the reference's. -/
theorem mixCtx_value : Cert.algebraic_MixCtxIdeal_MixCtxReferenceIdeal := by
  pair_intro
  · run_from Cert.MixCtxIdeal.Gen.run_main m g
  · run_from Cert.MixCtxReferenceIdeal.Value.run m' g'
    exact (Cert.MixCtxIdeal.Tile.final m c).symm

/-- The reference of `InProjCtx`: its run, whatever the arguments hold. -/
theorem inProjCtx_reference : Cert.quiescent_InProjCtxReferenceIdeal := by
  intro m g _
  exact (θ_run Cert.InProjCtxReferenceIdeal.defs _ _).mono (fun r h => ⟨fun c => (h c).2, sem_eq_zero_of_no_sems (by decide) r.2⟩)
    (Cert.InProjCtxReferenceIdeal.Value.run m g)

set_option maxRecDepth 32768 in
/-- The precondition of `InProjCtx`, read back: the five arguments hold real numbers. -/
theorem inProjCtx_real (m : (ℓ : Loc Cert.InProjCtxIdeal.nD Cert.InProjCtxIdeal.τ Cert.InProjCtxIdeal.sig) → Buf (Elt Ideal) ℓ)
    (h : Pre_InProjCtxIdeal_finite_in_ctx m) (c : Dev Cert.InProjCtxIdeal.nD) : Cert.InProjCtxIdeal.Tile.REAL m c := by
  have k := h c
  simp only [Cert.Pre_finite_in_ctx.fn, Cert.Pre_finite_in_ctx.fn_part1] at k
  exact ⟨Cert.Finite.real_of_all (m ((c.tc : Thread Cert.InProjCtxIdeal.nD Cert.InProjCtxIdeal.τ).loc Cert.InProjCtxIdeal.main_arg0)) _ _ _ _ k.1,
    Cert.Finite.real_of_all (m ((c.tc : Thread Cert.InProjCtxIdeal.nD Cert.InProjCtxIdeal.τ).loc Cert.InProjCtxIdeal.main_arg1)) _ _ _ _ k.2.1,
    Cert.Finite.real_of_all (m ((c.tc : Thread Cert.InProjCtxIdeal.nD Cert.InProjCtxIdeal.τ).loc Cert.InProjCtxIdeal.main_arg2)) _ _ _ _ k.2.2.1,
    Cert.Finite.real_of_all (m ((c.tc : Thread Cert.InProjCtxIdeal.nD Cert.InProjCtxIdeal.τ).loc Cert.InProjCtxIdeal.main_arg3)) _ _ _ _ k.2.2.2.1,
    Cert.Finite.real_of_all (m ((c.tc : Thread Cert.InProjCtxIdeal.nD Cert.InProjCtxIdeal.τ).loc Cert.InProjCtxIdeal.main_arg4)) _ _ _ _ k.2.2.2.2⟩

/-- `InProjCtx`: the kernel's result array is the reference's. -/
theorem inProjCtx_value : Cert.algebraic_InProjCtxIdeal_InProjCtxReferenceIdeal_pre_finite_in_ctx := by
  pair_intro
  · run_from Cert.InProjCtxIdeal.Gen.run_main m g
  · refine (θ_run Cert.InProjCtxReferenceIdeal.defs _ _).mono (fun r h c => ⟨(h c).1.trans ?_, (h c).2⟩) (Cert.InProjCtxReferenceIdeal.Value.run m' g')
    obtain ⟨e0, e1, e2, e3, e4⟩ := hagree c
    have e := Cert.InProjCtxIdeal.Tile.final m c (inProjCtx_real m hpre c)
    rw [← e0, ← e1, ← e2, ← e3, ← e4] at e
    exact e.symm

/-- The reference of `AttnCtx`: its run, whatever the arguments hold. -/
theorem attnCtx_reference : Cert.quiescent_AttnCtxReferenceIdeal := by
  intro m g _
  exact (θ_run Cert.AttnCtxReferenceIdeal.defs _ _).mono (fun r h => ⟨fun c => (h c).2, sem_eq_zero_of_no_sems (by decide) r.2⟩)
    (Cert.AttnCtxReferenceIdeal.Value.run m g)

/-- The precondition of the context's attention: the queries and the keys hold real numbers. -/
theorem attnCtx_real (m : (ℓ : Loc Cert.AttnCtxIdeal.nD Cert.AttnCtxIdeal.τ Cert.AttnCtxIdeal.sig) → Buf (Elt Ideal) ℓ)
    (h : Pre_AttnCtxIdeal_finite_ctx m) (c : Dev Cert.AttnCtxIdeal.nD) :
    @Cert.AttnCtxIdeal.Tile.REAL Cert.AttnCtxIdeal.S4x4x256x256.Idx (m ((c.tc : Thread Cert.AttnCtxIdeal.nD Cert.AttnCtxIdeal.τ).loc Cert.AttnCtxIdeal.main_arg0))
    ∧ @Cert.AttnCtxIdeal.Tile.REAL Cert.AttnCtxIdeal.S4x4x256x256.Idx (m ((c.tc : Thread Cert.AttnCtxIdeal.nD Cert.AttnCtxIdeal.τ).loc Cert.AttnCtxIdeal.main_arg1)) := by
  have k := h c
  simp only [Cert.Pre_finite_ctx.fn] at k
  exact ⟨Cert.Finite.real_of_all (extf (F := Ideal) .f32 (m ((c.tc : Thread Cert.AttnCtxIdeal.nD Cert.AttnCtxIdeal.τ).loc Cert.AttnCtxIdeal.main_arg0)) Cert.Pre_finite_ctx.Gen.bitsLt_bf16_f32) _ _ _ _ k.1,
    Cert.Finite.real_of_all (extf (F := Ideal) .f32 (m ((c.tc : Thread Cert.AttnCtxIdeal.nD Cert.AttnCtxIdeal.τ).loc Cert.AttnCtxIdeal.main_arg1)) Cert.Pre_finite_ctx.Gen.bitsLt_bf16_f32) _ _ _ _ k.2⟩

/-- `AttnCtx`: the kernel's result array is the reference's. -/
theorem attnCtx_value : Cert.algebraic_AttnCtxIdeal_AttnCtxReferenceIdeal_pre_finite_ctx := by
  pair_intro
  · run_from Cert.AttnCtxIdeal.Gen.run_main m g
  · refine (θ_run Cert.AttnCtxReferenceIdeal.defs _ _).mono (fun r h c => ⟨(h c).1.trans ?_, (h c).2⟩) (Cert.AttnCtxReferenceIdeal.Value.run m' g')
    obtain ⟨e0, e1, e2⟩ := hagree c
    have e := Cert.AttnCtxIdeal.Tile.final m c (attnCtx_real m hpre c).1 (attnCtx_real m hpre c).2
    rw [← e0, ← e1, ← e2] at e
    exact e.symm

/-- The reference of `S5Out`: its run, whatever the arguments hold. -/
theorem s5Out_reference : Cert.quiescent_S5OutReferenceIdeal := by
  intro m g _
  exact (θ_run Cert.S5OutReferenceIdeal.defs _ _).mono (fun r h => ⟨fun c => (h c).2, sem_eq_zero_of_no_sems (by decide) r.2⟩)
    (Cert.S5OutReferenceIdeal.Value.run m g)

/-- `S5Out`: the kernel's result array is the reference's. -/
theorem s5Out_value : Cert.algebraic_S5OutIdeal_S5OutReferenceIdeal := by
  pair_intro
  · run_from Cert.S5OutIdeal.Gen.run_main m g
  · refine (θ_run Cert.S5OutReferenceIdeal.defs _ _).mono (fun r h c => ⟨(h c).1.trans ?_, (h c).2⟩) (Cert.S5OutReferenceIdeal.Value.run m' g')
    obtain ⟨e0, e1, e2, e3, e4⟩ := hagree c
    have e := Cert.S5OutIdeal.Tile.final m c
    rw [← e0, ← e1, ← e2, ← e3, ← e4] at e
    exact e.symm

/-- The reference of `S5OutCtx`: its run, whatever the arguments hold. -/
theorem s5OutCtx_reference : Cert.quiescent_S5OutCtxReferenceIdeal := by
  intro m g _
  exact (θ_run Cert.S5OutCtxReferenceIdeal.defs _ _).mono (fun r h => ⟨fun c => (h c).2, sem_eq_zero_of_no_sems (by decide) r.2⟩)
    (Cert.S5OutCtxReferenceIdeal.Value.run m g)

/-- `S5OutCtx`: the kernel's result array is the reference's. -/
theorem s5OutCtx_value : Cert.algebraic_S5OutCtxIdeal_S5OutCtxReferenceIdeal := by
  pair_intro
  · run_from Cert.S5OutCtxIdeal.Gen.run_main m g
  · refine (θ_run Cert.S5OutCtxReferenceIdeal.defs _ _).mono (fun r h c => ⟨(h c).1.trans ?_, (h c).2⟩) (Cert.S5OutCtxReferenceIdeal.Value.run m' g')
    obtain ⟨e0, e1, e2, e3, e4⟩ := hagree c
    have e := Cert.S5OutCtxIdeal.Tile.final m c
    rw [← e0, ← e1, ← e2, ← e3, ← e4] at e
    exact e.symm

/-- The reference of `HgOut`: its run, whatever the arguments hold. -/
theorem hgOut_reference : Cert.quiescent_HgOutReferenceIdeal := by
  intro m g _
  exact (θ_run Cert.HgOutReferenceIdeal.defs _ _).mono (fun r h => ⟨fun c => (h c).2, sem_eq_zero_of_no_sems (by decide) r.2⟩)
    (Cert.HgOutReferenceIdeal.Value.run m g)

/-- `HgOut`: the kernel's result array is the reference's. -/
theorem hgOut_value : Cert.algebraic_HgOutIdeal_HgOutReferenceIdeal := by
  pair_intro
  · run_from Cert.HgOutIdeal.Gen.run_main m g
  · run_from Cert.HgOutReferenceIdeal.Value.run m' g'
    exact (Cert.HgOutIdeal.Tile.final m c).symm

/-- The reference of `HgOutCtx`: its run, whatever the arguments hold. -/
theorem hgOutCtx_reference : Cert.quiescent_HgOutCtxReferenceIdeal := by
  intro m g _
  exact (θ_run Cert.HgOutCtxReferenceIdeal.defs _ _).mono (fun r h => ⟨fun c => (h c).2, sem_eq_zero_of_no_sems (by decide) r.2⟩)
    (Cert.HgOutCtxReferenceIdeal.Value.run m g)

/-- `HgOutCtx`: the kernel's result array is the reference's. -/
theorem hgOutCtx_value : Cert.algebraic_HgOutCtxIdeal_HgOutCtxReferenceIdeal := by
  pair_intro
  · run_from Cert.HgOutCtxIdeal.Gen.run_main m g
  · run_from Cert.HgOutCtxReferenceIdeal.Value.run m' g'
    exact (Cert.HgOutCtxIdeal.Tile.final m c).symm

/-- Every claim. -/
theorem claim : Cert.Claim := ⟨Cert.Kernel.Gen.facts, Cert.KernelIdeal.Gen.facts, Cert.ReferenceIdeal.Gen.facts, Cert.MlpUp.Gen.facts, Cert.MlpUpIdeal.Gen.facts, Cert.MlpUpReferenceIdeal.Gen.facts, Cert.MlpDown.Gen.facts, Cert.MlpDownIdeal.Gen.facts, Cert.MlpDownReferenceIdeal.Gen.facts, Cert.Mix.Gen.facts, Cert.MixIdeal.Gen.facts, Cert.MixReferenceIdeal.Gen.facts, Cert.InProj.Gen.facts, Cert.InProjIdeal.Gen.facts, Cert.InProjReferenceIdeal.Gen.facts, Cert.Mod.Gen.facts, Cert.ModIdeal.Gen.facts, Cert.ModReferenceIdeal.Gen.facts, Cert.MlpUpCtx.Gen.facts, Cert.MlpUpCtxIdeal.Gen.facts, Cert.MlpUpCtxReferenceIdeal.Gen.facts, Cert.MlpDownCtx.Gen.facts, Cert.MlpDownCtxIdeal.Gen.facts, Cert.MlpDownCtxReferenceIdeal.Gen.facts, Cert.MixCtx.Gen.facts, Cert.MixCtxIdeal.Gen.facts, Cert.MixCtxReferenceIdeal.Gen.facts, Cert.InProjCtx.Gen.facts, Cert.InProjCtxIdeal.Gen.facts, Cert.InProjCtxReferenceIdeal.Gen.facts, Cert.AttnCtx.Gen.facts, Cert.AttnCtxIdeal.Gen.facts, Cert.AttnCtxReferenceIdeal.Gen.facts, Cert.S5Out.Gen.facts, Cert.S5OutIdeal.Gen.facts, Cert.S5OutReferenceIdeal.Gen.facts, Cert.S5OutCtx.Gen.facts, Cert.S5OutCtxIdeal.Gen.facts, Cert.S5OutCtxReferenceIdeal.Gen.facts, Cert.HgOut.Gen.facts, Cert.HgOutIdeal.Gen.facts, Cert.HgOutReferenceIdeal.Gen.facts, Cert.HgOutCtx.Gen.facts, Cert.HgOutCtxIdeal.Gen.facts, Cert.HgOutCtxReferenceIdeal.Gen.facts, Cert.Pre_finite.Gen.facts, Cert.Pre_finite_in.Gen.facts, Cert.Pre_finite_in_ctx.Gen.facts, Cert.Pre_finite_ctx.Gen.facts,
    fun m ρ _ => Cert.Kernel.Gen.frame m ρ,
    fun m ρ _ => Cert.KernelIdeal.Gen.frame m ρ,
    fun m ρ _ => Cert.KernelIdeal.Gen.frame m ρ,
    attention_reference,
    fun m ρ _ => attention_reference m ρ trivial,
    fun m ρ _ => Cert.MlpUp.Gen.frame m ρ,
    fun m ρ _ => Cert.MlpUpIdeal.Gen.frame m ρ,
    mlpUp_reference,
    fun m ρ _ => Cert.MlpDown.Gen.frame m ρ,
    fun m ρ _ => Cert.MlpDownIdeal.Gen.frame m ρ,
    mlpDown_reference,
    fun m ρ _ => Cert.Mix.Gen.frame m ρ,
    fun m ρ _ => Cert.MixIdeal.Gen.frame m ρ,
    mix_reference,
    fun m ρ _ => Cert.InProj.Gen.frame m ρ,
    fun m ρ _ => Cert.InProjIdeal.Gen.frame m ρ,
    fun m ρ _ => Cert.InProjIdeal.Gen.frame m ρ,
    inProj_reference,
    fun m ρ _ => inProj_reference m ρ trivial,
    fun m ρ _ => Cert.Mod.Gen.frame m ρ,
    fun m ρ _ => Cert.ModIdeal.Gen.frame m ρ,
    mod_reference,
    fun m ρ _ => Cert.MlpUpCtx.Gen.frame m ρ,
    fun m ρ _ => Cert.MlpUpCtxIdeal.Gen.frame m ρ,
    mlpUpCtx_reference,
    fun m ρ _ => Cert.MlpDownCtx.Gen.frame m ρ,
    fun m ρ _ => Cert.MlpDownCtxIdeal.Gen.frame m ρ,
    mlpDownCtx_reference,
    fun m ρ _ => Cert.MixCtx.Gen.frame m ρ,
    fun m ρ _ => Cert.MixCtxIdeal.Gen.frame m ρ,
    mixCtx_reference,
    fun m ρ _ => Cert.InProjCtx.Gen.frame m ρ,
    fun m ρ _ => Cert.InProjCtxIdeal.Gen.frame m ρ,
    fun m ρ _ => Cert.InProjCtxIdeal.Gen.frame m ρ,
    inProjCtx_reference,
    fun m ρ _ => inProjCtx_reference m ρ trivial,
    fun m ρ _ => Cert.AttnCtx.Gen.frame m ρ,
    fun m ρ _ => Cert.AttnCtxIdeal.Gen.frame m ρ,
    fun m ρ _ => Cert.AttnCtxIdeal.Gen.frame m ρ,
    attnCtx_reference,
    fun m ρ _ => attnCtx_reference m ρ trivial,
    fun m ρ _ => Cert.S5Out.Gen.frame m ρ,
    fun m ρ _ => Cert.S5OutIdeal.Gen.frame m ρ,
    s5Out_reference,
    fun m ρ _ => Cert.S5OutCtx.Gen.frame m ρ,
    fun m ρ _ => Cert.S5OutCtxIdeal.Gen.frame m ρ,
    s5OutCtx_reference,
    fun m ρ _ => Cert.HgOut.Gen.frame m ρ,
    fun m ρ _ => Cert.HgOutIdeal.Gen.frame m ρ,
    hgOut_reference,
    fun m ρ _ => Cert.HgOutCtx.Gen.frame m ρ,
    fun m ρ _ => Cert.HgOutCtxIdeal.Gen.frame m ρ,
    hgOutCtx_reference,
    trivial,
    attention_value,
    trivial,
    mlpUp_value,
    trivial,
    mlpDown_value,
    trivial,
    mix_value,
    trivial,
    inProj_value,
    trivial,
    mod_value,
    trivial,
    mlpUpCtx_value,
    trivial,
    mlpDownCtx_value,
    trivial,
    mixCtx_value,
    trivial,
    inProjCtx_value,
    trivial,
    attnCtx_value,
    trivial,
    s5Out_value,
    trivial,
    s5OutCtx_value,
    trivial,
    hgOut_value,
    trivial,
    hgOutCtx_value⟩

end Cert.Proof

end
